-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)) (v4 : (c : Dev Cert.Kernel3Ideal.nD) → Buf (Elt Ideal) ((c.tc : Thread Cert.Kernel3Ideal.nD Cert.Kernel3Ideal.τ).loc Cert.Kernel3Ideal.main_v4_4)) (v5 : (c : Dev Cert.Kernel3Ideal.nD) → Buf (Elt Ideal) ((c.tc : Thread Cert.Kernel3Ideal.nD Cert.Kernel3Ideal.τ).loc Cert.Kernel3Ideal.main_v4_5)) (v6 : (c : Dev Cert.Kernel3Ideal.nD) → Buf (Elt Ideal) ((c.tc : Thread Cert.Kernel3Ideal.nD Cert.Kernel3Ideal.τ).loc Cert.Kernel3Ideal.main_v4_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_v4_4) = v4 c
          ∧ r.2.mem ((c.tc : Thread Cert.Kernel3Ideal.nD Cert.Kernel3Ideal.τ).loc Cert.Kernel3Ideal.main_v4_5) = v5 c
          ∧ r.2.mem ((c.tc : Thread Cert.Kernel3Ideal.nD Cert.Kernel3Ideal.τ).loc Cert.Kernel3Ideal.main_v4_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v113) = v0 c
          ∧ r.2.mem ((c.tc : Thread Cert.Reference3Ideal.nD Cert.Reference3Ideal.τ).loc Cert.Reference3Ideal.main_v114) = v1 c
          ∧ r.2.mem ((c.tc : Thread Cert.Reference3Ideal.nD Cert.Reference3Ideal.τ).loc Cert.Reference3Ideal.main_v115) = v2 c
          ∧ r.2.mem ((c.tc : Thread Cert.Reference3Ideal.nD Cert.Reference3Ideal.τ).loc Cert.Reference3Ideal.main_v116) = v3 c
          ∧ r.2.mem ((c.tc : Thread Cert.Reference3Ideal.nD Cert.Reference3Ideal.τ).loc Cert.Reference3Ideal.main_v117) = v4 c
          ∧ r.2.mem ((c.tc : Thread Cert.Reference3Ideal.nD Cert.Reference3Ideal.τ).loc Cert.Reference3Ideal.main_v118) = v5 c
          ∧ r.2.mem ((c.tc : Thread Cert.Reference3Ideal.nD Cert.Reference3Ideal.τ).loc Cert.Reference3Ideal.main_v119) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts) (hPre_finite : Cert.Pre_finite.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
-- ==== Pre_finite.lean ====
abbrev S4x4096x1024 : Shape := ⟨3, ![4, 4096, 1024]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩

class Facts : Prop where
  bcast_S_S1024 : S_.BroadcastsInDim S1024 (![] : Fin 0 → Fin S1024.rank)
  bcast_S_S1024x2048 : S_.BroadcastsInDim S1024x2048 (![] : Fin 0 → Fin S1024x2048.rank)

variable [Facts]

def fn {F : FTy → Type} [FloatOps F] (main_arg0 : FVec F S4x4096x1024 .f32) (main_arg1 : FVec F S1024 .f32) (main_arg2 : FVec F S1024x2048 .f32) (main_arg3 : FVec F S4x128x128 .f32) (main_arg4 : FVec F S512 .f32) (main_arg5 : FVec F S512 .f32) (main_arg6 : FVec F S1024x1024 .f32) (main_arg7 : FVec F S1024x4096 .f32) (main_arg8 : FVec F S4096x1024 .f32) : IVec S1024 1 × IVec S1024x2048 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2048 .f32 := Host.absf main_arg2
  let main_cst_0 : FVec F S_ .f32 := constant S_ .f32 0x7F800000#32
  let main_v4 : FVec F S1024x2048 .f32 := broadcastInDim S1024x2048 ![] bcast_S_S1024x2048 main_cst_0
  let main_v5 : IVec S1024x2048 1 := cmpf .olt main_v3 main_v4
  (main_v2, main_v5)
-- ==== Pre_finite_qk.lean ====
abbrev S4x4096x512 : Shape := ⟨3, ![4, 4096, 512]⟩
abbrev S_ : Shape := ⟨0, ![]⟩

class Facts : Prop where
  bcast_S_S4x4096x512 : S_.BroadcastsInDim S4x4096x512 (![] : Fin 0 → Fin S4x4096x512.rank)

variable [Facts]

def fn {F : FTy → Type} [FloatOps F] (main_arg0 : FVec F S4x4096x512 .f32) (main_arg1 : FVec F S4x4096x512 .f32) (main_arg2 : FVec F S4x4096x512 .f32) : IVec S4x4096x512 1 × IVec S4x4096x512 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_v3 : FVec F S4x4096x512 .f32 := Host.absf main_arg1
  let main_cst_0 : FVec F S_ .f32 := constant S_ .f32 0x7F800000#32
  let main_v4 : FVec F S4x4096x512 .f32 := broadcastInDim S4x4096x512 ![] bcast_S_S4x4096x512 main_cst_0
  let main_v5 : IVec S4x4096x512 1 := cmpf .olt main_v3 main_v4
  (main_v2, main_v5)
-- ==== Kernel.lean ====
abbrev S4x4096x512 : Shape := ⟨3, ![4, 4096, 512]⟩
abbrev S_ : Shape := ⟨0, ![]⟩
abbrev S1x256x128 : Shape := ⟨3, ![1, 256, 128]⟩
abbrev S1x4096x128 : Shape := ⟨3, ![1, 4096, 128]⟩
abbrev S256x128 : Shape := ⟨2, ![256, 128]⟩
abbrev S256x256 : Shape := ⟨2, ![256, 256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S_, .f32⟩
  | .hbm, ⟨4, _⟩ => ⟨S4x4096x512, .f32⟩
  | .hbm, ⟨5, _⟩ => ⟨S4x4096x512, .f32⟩
  | .hbm, ⟨6, _⟩ => ⟨S4x4096x512, .bf16⟩
  | .hbm, ⟨7, _⟩ => ⟨S4x4096x512, .bf16⟩
  | .hbm, ⟨8, _⟩ => ⟨S4x4096x512, .bf16⟩
  | .hbm, ⟨9, _⟩ => ⟨S4x4096x512, .f32⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .f32⟩
  | .local _ .vmem, ⟨7, _⟩ => ⟨S1x256x128, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

def k0_off1 (i : grid0.Coords) : Fin 3 → Nat :=
  let c0_4 : Index := 0#32
  let arg2 : BitVec 32 := BitVec.ofNat 32 (i 2).val
  let c256_i32 : BitVec 32 := 256#32
  let v19 : BitVec 32 := Scalar.muli arg2 c256_i32
  let v20 : Index := Scalar.indexCast v19
  let c0_5 : Index := 0#32
  ![0, v20.toNat, 0]
@[reducible] def k0_t1_loop (i : grid0.Coords) : Scf.Loop 32 :=
  let c0_i32_19 : BitVec 32 := 0#32
  let arg2 : BitVec 32 := BitVec.ofNat 32 (i 2).val
  let v61 : BitVec 32 := Scalar.subi arg2 c0_i32_19
  let c1_i32 : BitVec 32 := 1#32
  let v63 : BitVec 32 := Scalar.divsi v61 c1_i32
  let v64 : BitVec 32 := Scalar.muli v63 c1_i32
  let v65 : BitVec 32 := Scalar.addi c0_i32_19 v64
  let c1_i32_20 : BitVec 32 := 1#32
  ⟨c0_i32_19, v65, c1_i32_20⟩
def k0_off2 (i : grid0.Coords) (k0_t1 : Fin (k0_t1_loop i).trips) : Fin 3 → Nat :=
  let c0_52 : Index := 0#32
  let arg2 : BitVec 32 := BitVec.ofNat 32 (i 2).val
  let c1_i32_50 : BitVec 32 := 1#32
  let v132 : BitVec 32 := Scalar.subi arg2 c1_i32_50
  let c0_i32_19 : BitVec 32 := 0#32
  let c1_i32_20 : BitVec 32 := 1#32
  let arg7 : BitVec 32 := Scf.iv c0_i32_19 c1_i32_20 k0_t1
  let v133 : BitVec 32 := Scalar.subi v132 arg7
  let c256_i32_51 : BitVec 32 := 256#32
  let v134 : BitVec 32 := Scalar.muli v133 c256_i32_51
  let v135 : Index := Scalar.indexCast v134
  let c0_53 : Index := 0#32
  ![0, v135.toNat, 0]
@[reducible] def k0_t2_loop (i : grid0.Coords) : Scf.Loop 32 :=
  let c0_i32_19 : BitVec 32 := 0#32
  let arg2 : BitVec 32 := BitVec.ofNat 32 (i 2).val
  let v61 : BitVec 32 := Scalar.subi arg2 c0_i32_19
  let c1_i32 : BitVec 32 := 1#32
  let v63 : BitVec 32 := Scalar.divsi v61 c1_i32
  let v64 : BitVec 32 := Scalar.muli v63 c1_i32
  let v65 : BitVec 32 := Scalar.addi c0_i32_19 v64
  let v62 : BitVec 32 := Scalar.addi c0_i32_19 v61
  let c1_i32_21 : BitVec 32 := 1#32
  ⟨v65, v62, c1_i32_21⟩
def k0_off3 (i : grid0.Coords) (k0_t2 : Fin (k0_t2_loop i).trips) : Fin 3 → Nat :=
  let c0_52 : Index := 0#32
  let arg2 : BitVec 32 := BitVec.ofNat 32 (i 2).val
  let c1_i32_50 : BitVec 32 := 1#32
  let v132 : BitVec 32 := Scalar.subi arg2 c1_i32_50
  let c0_i32_19 : BitVec 32 := 0#32
  let v61 : BitVec 32 := Scalar.subi arg2 c0_i32_19
  let c1_i32 : BitVec 32 := 1#32
  let v63 : BitVec 32 := Scalar.divsi v61 c1_i32
  let v64 : BitVec 32 := Scalar.muli v63 c1_i32
  let v65 : BitVec 32 := Scalar.addi c0_i32_19 v64
  let c1_i32_21 : BitVec 32 := 1#32
  let arg7 : BitVec 32 := Scf.iv v65 c1_i32_21 k0_t2
  let v133 : BitVec 32 := Scalar.subi v132 arg7
  let c256_i32_51 : BitVec 32 := 256#32
  let v134 : BitVec 32 := Scalar.muli v133 c256_i32_51
  let v135 : Index := Scalar.indexCast v134
  let c0_53 : Index := 0#32
  ![0, v135.toNat, 0]
@[reducible] def k0_t3_loop (i : grid0.Coords) : Scf.Loop 32 :=
  let c0_i32_42 : BitVec 32 := 0#32
  let arg2 : BitVec 32 := BitVec.ofNat 32 (i 2).val
  let v119 : BitVec 32 := Scalar.subi arg2 c0_i32_42
  let c1_i32_43 : BitVec 32 := 1#32
  let v121 : BitVec 32 := Scalar.divsi v119 c1_i32_43
  let v122 : BitVec 32 := Scalar.muli v121 c1_i32_43
  let v123 : BitVec 32 := Scalar.addi c0_i32_42 v122
  let c1_i32_44 : BitVec 32 := 1#32
  ⟨c0_i32_42, v123, c1_i32_44⟩
def k0_off4 (i : grid0.Coords) (k0_t3 : Fin (k0_t3_loop i).trips) : Fin 3 → Nat :=
  let c0_52 : Index := 0#32
  let arg2 : BitVec 32 := BitVec.ofNat 32 (i 2).val
  let c1_i32_50 : BitVec 32 := 1#32
  let v132 : BitVec 32 := Scalar.subi arg2 c1_i32_50
  let c0_i32_42 : BitVec 32 := 0#32
  let c1_i32_44 : BitVec 32 := 1#32
  let arg7 : BitVec 32 := Scf.iv c0_i32_42 c1_i32_44 k0_t3
  let v133 : BitVec 32 := Scalar.subi v132 arg7
  let c256_i32_51 : BitVec 32 := 256#32
  let v134 : BitVec 32 := Scalar.muli v133 c256_i32_51
  let v135 : Index := Scalar.indexCast v134
  let c0_53 : Index := 0#32
  ![0, v135.toNat, 0]
@[reducible] def k0_t4_loop (i : grid0.Coords) : Scf.Loop 32 :=
  let c0_i32_42 : BitVec 32 := 0#32
  let arg2 : BitVec 32 := BitVec.ofNat 32 (i 2).val
  let v119 : BitVec 32 := Scalar.subi arg2 c0_i32_42
  let c1_i32_43 : BitVec 32 := 1#32
  let v121 : BitVec 32 := Scalar.divsi v119 c1_i32_43
  let v122 : BitVec 32 := Scalar.muli v121 c1_i32_43
  let v123 : BitVec 32 := Scalar.addi c0_i32_42 v122
  let v120 : BitVec 32 := Scalar.addi c0_i32_42 v119
  let c1_i32_45 : BitVec 32 := 1#32
  ⟨v123, v120, c1_i32_45⟩
def k0_off5 (i : grid0.Coords) (k0_t4 : Fin (k0_t4_loop i).trips) : Fin 3 → Nat :=
  let c0_52 : Index := 0#32
  let arg2 : BitVec 32 := BitVec.ofNat 32 (i 2).val
  let c1_i32_50 : BitVec 32 := 1#32
  let v132 : BitVec 32 := Scalar.subi arg2 c1_i32_50
  let c0_i32_42 : BitVec 32 := 0#32
  let v119 : BitVec 32 := Scalar.subi arg2 c0_i32_42
  let c1_i32_43 : BitVec 32 := 1#32
  let v121 : BitVec 32 := Scalar.divsi v119 c1_i32_43
  let v122 : BitVec 32 := Scalar.muli v121 c1_i32_43
  let v123 : BitVec 32 := Scalar.addi c0_i32_42 v122
  let c1_i32_45 : BitVec 32 := 1#32
  let arg7 : BitVec 32 := Scf.iv v123 c1_i32_45 k0_t4
  let v133 : BitVec 32 := Scalar.subi v132 arg7
  let c256_i32_51 : BitVec 32 := 256#32
  let v134 : BitVec 32 := Scalar.muli v133 c256_i32_51
  let v135 : Index := Scalar.indexCast v134
  let c0_53 : Index := 0#32
  ![0, v135.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x4096x512 : Shape := ⟨3, ![4, 4096, 512]⟩
abbrev S4x4096x8x64 : Shape := ⟨4, ![4, 4096, 8, 64]⟩
abbrev S4x8x4096x64 : Shape := ⟨4, ![4, 8, 4096, 64]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 71
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x8x64, .f32⟩
  | .hbm, ⟨4, _⟩ => ⟨S4x8x4096x64, .f32⟩
  | .hbm, ⟨5, _⟩ => ⟨S4x4096x8x64, .f32⟩
  | .hbm, ⟨6, _⟩ => ⟨S4x8x4096x64, .f32⟩
  | .hbm, ⟨7, _⟩ => ⟨S4x8x4096x4096, .f32⟩
  | .hbm, ⟨8, _⟩ => ⟨S_, .f32⟩
  | .hbm, ⟨9, _⟩ => ⟨S4x8x4096x4096, .f32⟩
  | .hbm, ⟨10, _⟩ => ⟨S4x8x4096x4096, .f32⟩
  | .hbm, ⟨11, _⟩ => ⟨S4096, .i32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S4x8x4096x4096, .f32⟩
  | .hbm, ⟨18, _⟩ => ⟨S4x8x4096x4096, .f32⟩
  | .hbm, ⟨19, _⟩ => ⟨S_, .f32⟩
  | .hbm, ⟨20, _⟩ => ⟨S4x8x4096x4096, .f32⟩
  | .hbm, ⟨21, _⟩ => ⟨S4x8x4096x4096, .f32⟩
  | .hbm, ⟨22, _⟩ => ⟨S4x8x4096x4096, .f32⟩
  | .hbm, ⟨23, _⟩ => ⟨S4x8x4096x4096, .f32⟩
  | .hbm, ⟨24, _⟩ => ⟨S4x8x4096x4096, .i1⟩
  | .hbm, ⟨25, _⟩ => ⟨S4x8x4096x4096, .f32⟩
  | .hbm, ⟨26, _⟩ => ⟨S4x8x4096x4096, .f32⟩
  | .hbm, ⟨27, _⟩ => ⟨S4x8x4096x4096, .f32⟩
  | .hbm, ⟨28, _⟩ => ⟨S4x8x4096x4096, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S4x8x4096x4096, .f32⟩
  | .hbm, ⟨34, _⟩ => ⟨S_, .f32⟩
  | .hbm, ⟨35, _⟩ => ⟨S_, .f32⟩
  | .hbm, ⟨36, _⟩ => ⟨S4x8x4096x4096, .i1⟩
  | .hbm, ⟨37, _⟩ => ⟨S4x8x4096x4096, .f32⟩
  | .hbm, ⟨38, _⟩ => ⟨S4x8x4096x4096, .f32⟩
  | .hbm, ⟨39, _⟩ => ⟨S_, .f32⟩
  | .hbm, ⟨40, _⟩ => ⟨S_, .f32⟩
  | .hbm, ⟨41, _⟩ => ⟨S4x8x4096x4096, .f32⟩
  | .hbm, ⟨42, _⟩ => ⟨S4x8x4096x4096, .f32⟩
  | .hbm, ⟨43, _⟩ => ⟨S4x8x4096x4096, .f32⟩
  | .hbm, ⟨44, _⟩ => ⟨S_, .f32⟩
  | .hbm, ⟨45, _⟩ => ⟨S4x8x4096x4096, .f32⟩
  | .hbm, ⟨46, _⟩ => ⟨S4x8x4096x4096, .f32⟩
  | .hbm, ⟨47, _⟩ => ⟨S4x8x4096x4096, .f32⟩
  | .hbm, ⟨48, _⟩ => ⟨S4x8x4096x4096, .f32⟩
  | .hbm, ⟨49, _⟩ => ⟨S4x8x4096x4096, .i1⟩
  | .hbm, ⟨50, _⟩ => ⟨S4x8x4096x4096, .f32⟩
  | .hbm, ⟨51, _⟩ => ⟨S4x8x4096x4096, .f32⟩
  | .hbm, ⟨52, _⟩ => ⟨S4x8x4096x4096, .f32⟩
  | .hbm, ⟨53, _⟩ => ⟨S4x8x4096x4096, .f32⟩
  | .hbm, ⟨54, _⟩ => ⟨S4x8x4096x4096, .f32⟩
  | .hbm, ⟨55, _⟩ => ⟨S4x8x4096x4096, .f32⟩
  | .hbm, ⟨56, _⟩ => ⟨S4x8x4096x4096, .f32⟩
  | .hbm, ⟨57, _⟩ => ⟨S4x8x4096x4096, .f32⟩
  | .hbm, ⟨58, _⟩ => ⟨S4x8x4096x4096, .f32⟩
  | .hbm, ⟨59, _⟩ => ⟨S4x8x4096x4096, .f32⟩
  | .hbm, ⟨60, _⟩ => ⟨S4x8x4096x4096, .f32⟩
  | .hbm, ⟨61, _⟩ => ⟨S_, .f32⟩
  | .hbm, ⟨62, _⟩ => ⟨S_, .f32⟩
  | .hbm, ⟨63, _⟩ => ⟨S4x8x4096x4096, .i1⟩
  | .hbm, ⟨64, _⟩ => ⟨S4x8x4096x4096, .f32⟩
  | .hbm, ⟨65, _⟩ => ⟨S4x8x4096x4096, .f32⟩
  | .hbm, ⟨66, _⟩ => ⟨S4x4096x8x64, .f32⟩
  | .hbm, ⟨67, _⟩ => ⟨S4x8x4096x64, .f32⟩
  | .hbm, ⟨68, _⟩ => ⟨S4x8x4096x64, .f32⟩
  | .hbm, ⟨69, _⟩ => ⟨S4x4096x8x64, .f32⟩
  | .hbm, ⟨70, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_call2_cst : Ref sig .tc := ⟨.hbm, 39, rfl⟩
abbrev main_call2_v0 : Ref sig .tc := ⟨.hbm, 40, rfl⟩
abbrev main_v16 : Ref sig .tc := ⟨.hbm, 41, rfl⟩
abbrev main_v17 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096x512 : Shape := ⟨3, ![4, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S16384x512 : Shape := ⟨2, ![16384, 512]⟩
abbrev S1x1024 : Shape := ⟨2, ![1, 1024]⟩
abbrev S1024x512 : Shape := ⟨2, ![1024, 512]⟩
abbrev S1024x1 : Shape := ⟨2, ![1024, 1]⟩
abbrev S512x1024 : Shape := ⟨2, ![512, 1024]⟩

abbrev nBuf : Space → Nat
  | .hbm => 19
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S16384x1024, .f32⟩
  | .hbm, ⟨9, _⟩ => ⟨S16384x512, .f32⟩
  | .hbm, ⟨10, _⟩ => ⟨S16384x512, .bf16⟩
  | .hbm, ⟨11, _⟩ => ⟨S16384x512, .f32⟩
  | .hbm, ⟨12, _⟩ => ⟨S16384x512, .bf16⟩
  | .hbm, ⟨13, _⟩ => ⟨S1024x1024, .bf16⟩
  | .hbm, ⟨14, _⟩ => ⟨S1024x4096, .bf16⟩
  | .hbm, ⟨15, _⟩ => ⟨S4096x1024, .bf16⟩
  | .hbm, ⟨16, _⟩ => ⟨S1x1024, .f32⟩
  | .hbm, ⟨17, _⟩ => ⟨S1x1024, .f32⟩
  | .hbm, ⟨18, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S4x4096x1024 : Shape := ⟨3, ![4, 4096, 1024]⟩
abbrev S4x4096x512 : Shape := ⟨3, ![4, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩
abbrev S16384x1024 : Shape := ⟨2, ![16384, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S1x1x1024, .f32⟩
  | .hbm, ⟨25, _⟩ => ⟨S4x4096x1024, .f32⟩
  | .hbm, ⟨26, _⟩ => ⟨S4x4096x1024, .f32⟩
  | .hbm, ⟨27, _⟩ => ⟨S4x4096x4096, .f32⟩
  | .hbm, ⟨28, _⟩ => ⟨S_, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x1, .f32⟩
  | .hbm, ⟨45, _⟩ => ⟨S4x4096x1024, .f32⟩
  | .hbm, ⟨46, _⟩ => ⟨S4x4096x1024, .f32⟩
  | .hbm, ⟨47, _⟩ => ⟨S1x1x1024, .f32⟩
  | .hbm, ⟨48, _⟩ => ⟨S4x4096x1024, .f32⟩
  | .hbm, ⟨49, _⟩ => ⟨S4x4096x1024, .f32⟩
  | .hbm, ⟨50, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S1024x1024 : Shape := ⟨2, ![1024, 1024]⟩
abbrev S1024x4096 : Shape := ⟨2, ![1024, 4096]⟩
abbrev S4096x1024 : Shape := ⟨2, ![4096, 1024]⟩
abbrev S16384x1024 : Shape := ⟨2, ![16384, 1024]⟩
abbrev S1x1024 : Shape := ⟨2, ![1, 1024]⟩
abbrev S1x512 : Shape := ⟨2, ![1, 512]⟩
abbrev S16384x512 : Shape := ⟨2, ![16384, 512]⟩
abbrev S4x4x4096x128 : Shape := ⟨4, ![4, 4, 4096, 128]⟩
abbrev S512x1024 : Shape := ⟨2, ![512, 1024]⟩
abbrev S32x1024 : Shape := ⟨2, ![32, 1024]⟩
abbrev S1024x128 : Shape := ⟨2, ![1024, 128]⟩
abbrev S128x1024 : Shape := ⟨2, ![128, 1024]⟩
abbrev S512x512 : Shape := ⟨2, ![512, 512]⟩
abbrev S1x4x512x128 : Shape := ⟨4, ![1, 4, 512, 128]⟩
abbrev S536x512 : Shape := ⟨2, ![536, 512]⟩
abbrev S536x384 : Shape := ⟨2, ![536, 384]⟩
abbrev S536x256 : Shape := ⟨2, ![536, 256]⟩
abbrev S536x128 : Shape := ⟨2, ![536, 128]⟩
abbrev S8x384 : Shape := ⟨2, ![8, 384]⟩
abbrev S8x256 : Shape := ⟨2, ![8, 256]⟩
abbrev S8x128 : Shape := ⟨2, ![8, 128]⟩
abbrev S512x1 : Shape := ⟨2, ![512, 1]⟩
abbrev S1024x512 : Shape := ⟨2, ![1024, 512]⟩
abbrev S512x128 : Shape := ⟨2, ![512, 128]⟩
abbrev S1x1x512x128 : Shape := ⟨4, ![1, 1, 512, 128]⟩
abbrev S528x512 : Shape := ⟨2, ![528, 512]⟩
abbrev S528x384 : Shape := ⟨2, ![528, 384]⟩
abbrev S528x256 : Shape := ⟨2, ![528, 256]⟩
abbrev S528x128 : Shape := ⟨2, ![528, 128]⟩
abbrev S16x1 : Shape := ⟨2, ![16, 1]⟩
abbrev S16x128 : Shape := ⟨2, ![16, 128]⟩
abbrev S496x128 : Shape := ⟨2, ![496, 128]⟩
abbrev S1x128x128 : Shape := ⟨3, ![1, 128, 128]⟩
abbrev S128x128 : Shape := ⟨2, ![128, 128]⟩
abbrev S16x512 : Shape := ⟨2, ![16, 512]⟩

abbrev nBuf : Space → Nat
  | .hbm => 20
  | .vmem => 32
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2048, .f32⟩
  | .hbm, ⟨3, _⟩ => ⟨S4x128x128, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S16384x1024, .f32⟩
  | .hbm, ⟨10, _⟩ => ⟨S1x1024, .f32⟩
  | .hbm, ⟨11, _⟩ => ⟨S1x512, .f32⟩
  | .hbm, ⟨12, _⟩ => ⟨S1x512, .f32⟩
  | .hbm, ⟨13, _⟩ => ⟨S16384x512, .bf16⟩
  | .hbm, ⟨14, _⟩ => ⟨S4x4x4096x128, .bf16⟩
  | .hbm, ⟨15, _⟩ => ⟨S4x4x4096x128, .bf16⟩
  | .hbm, ⟨16, _⟩ => ⟨S4x4x4096x128, .bf16⟩
  | .hbm, ⟨17, _⟩ => ⟨S1024x1024, .bf16⟩
  | .hbm, ⟨18, _⟩ => ⟨S1024x4096, .bf16⟩
  | .hbm, ⟨19, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .f32⟩
  | .local _ .vmem, ⟨4, _⟩ => ⟨S4x128x128, .f32⟩
  | .local _ .vmem, ⟨5, _⟩ => ⟨S1x512, .f32⟩
  | .local _ .vmem, ⟨6, _⟩ => ⟨S1x512, .f32⟩
  | .local _ .vmem, ⟨7, _⟩ => ⟨S32x1024, .f32⟩
  | .local _ .vmem, ⟨8, _⟩ => ⟨S32x1024, .f32⟩
  | .local _ .vmem, ⟨9, _⟩ => ⟨S1024x128, .f32⟩
  | .local _ .vmem, ⟨10, _⟩ => ⟨S1024x128, .f32⟩
  | .local _ .vmem, ⟨11, _⟩ => ⟨S128x1024, .f32⟩
  | .local _ .vmem, ⟨12, _⟩ => ⟨S128x1024, .f32⟩
  | .local _ .vmem, ⟨13, _⟩ => ⟨S512x512, .bf16⟩
  | .local _ .vmem, ⟨14, _⟩ => ⟨S512x512, .bf16⟩
  | .local _ .vmem, ⟨15, _⟩ => ⟨S1x4x512x128, .bf16⟩
  | .local _ .vmem, ⟨16, _⟩ => ⟨S1x4x512x128, .bf16⟩
  | .local _ .vmem, ⟨17, _⟩ => ⟨S1x4x512x128, .bf16⟩
  | .local _ .vmem, ⟨18, _⟩ => ⟨S1x4x512x128, .bf16⟩
  | .local _ .vmem, ⟨19, _⟩ => ⟨S1x4x512x128, .bf16⟩
  | .local _ .vmem, ⟨20, _⟩ => ⟨S1x4x512x128, .bf16⟩
  | .local _ .vmem, ⟨21, _⟩ => ⟨S32x1024, .bf16⟩
  | .local _ .vmem, ⟨22, _⟩ => ⟨S32x1024, .bf16⟩
  | .local _ .vmem, ⟨23, _⟩ => ⟨S1024x128, .bf16⟩
  | .local _ .vmem, ⟨24, _⟩ => ⟨S1024x128, .bf16⟩
  | .local _ .vmem, ⟨25, _⟩ => ⟨S128x1024, .bf16⟩
  | .local _ .vmem, ⟨26, _⟩ => ⟨S128x1024, .bf16⟩
  | .local _ .vmem, ⟨27, _⟩ => ⟨S1024x2048, .bf16⟩
  | .local _ .vmem, ⟨28, _⟩ => ⟨S536x512, .f32⟩
  | .local _ .vmem, ⟨29, _⟩ => ⟨S536x384, .f32⟩
  | .local _ .vmem, ⟨30, _⟩ => ⟨S536x256, .f32⟩
  | .local _ .vmem, ⟨31, _⟩ => ⟨S536x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev main_v4_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 4 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_11 (i : grid0.Coords) : Fin 4 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_12 (i : grid0.Coords) : Fin 4 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_13 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S4x4096x1024 : Shape := ⟨3, ![4, 4096, 1024]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩
abbrev S4x4096x512 : Shape := ⟨3, ![4, 4096, 512]⟩
abbrev S4x4096x4x128 : Shape := ⟨4, ![4, 4096, 4, 128]⟩
abbrev S4096 : Shape := ⟨1, ![4096]⟩
abbrev S4x4096x1x128 : Shape := ⟨4, ![4, 4096, 1, 128]⟩
abbrev S4x4096x128 : Shape := ⟨3, ![4, 4096, 128]⟩
abbrev S4x4098x128 : Shape := ⟨3, ![4, 4098, 128]⟩
abbrev S1x4096x1 : Shape := ⟨3, ![1, 4096, 1]⟩
abbrev S4x4100x128 : Shape := ⟨3, ![4, 4100, 128]⟩
abbrev S4x4104x128 : Shape := ⟨3, ![4, 4104, 128]⟩
abbrev S4x4112x128 : Shape := ⟨3, ![4, 4112, 128]⟩
abbrev S4x128x4x4096 : Shape := ⟨4, ![4, 128, 4, 4096]⟩
abbrev S1x1x512 : Shape := ⟨3, ![1, 1, 512]⟩
abbrev S16384x512 : Shape := ⟨2, ![16384, 512]⟩
abbrev S4x4x4096x128 : Shape := ⟨4, ![4, 4, 4096, 128]⟩

abbrev nBuf : Space → Nat
  | .hbm => 160
  | .vmem => 0
  | .smem => 0
  | _ => 0

abbrev hbmTy0_0 (i : Nat) : BufTy := match i % 128 with
  | 0 => ⟨S4x4096x1024, .f32⟩
  | 1 => ⟨S1024, .f32⟩
  | 2 => ⟨S1024x2048, .f32⟩
  | 3 => ⟨S4x128x128, .f32⟩
  | 4 => ⟨S512, .f32⟩
  | 5 => ⟨S512, .f32⟩
  | 6 => ⟨S1024x1024, .f32⟩
  | 7 => ⟨S1024x4096, .f32⟩
  | 8 => ⟨S4096x1024, .f32⟩
  | 9 => ⟨S4x4096x1024, .f32⟩
  | 10 => ⟨S_, .f32⟩
  | 11 => ⟨S4x4096, .f32⟩
  | 12 => ⟨S4x4096x1, .f32⟩
  | 13 => ⟨S_, .f32⟩
  | 14 => ⟨S4x4096x1, .f32⟩
  | 15 => ⟨S4x4096x1, .f32⟩
  | 16 => ⟨S_, .f32⟩
  | 17 => ⟨S4x4096x1, .f32⟩
  | 18 => ⟨S4x4096x1, .f32⟩
  | 19 => ⟨S4x4096x1, .f32⟩
  | 20 => ⟨S4x4096x1024, .f32⟩
  | 21 => ⟨S4x4096x1024, .f32⟩
  | 22 => ⟨S1x1x1024, .f32⟩
  | 23 => ⟨S4x4096x1024, .f32⟩
  | 24 => ⟨S4x4096x1024, .f32⟩
  | 25 => ⟨S4x4096x2048, .f32⟩
  | 26 => ⟨S4x4096x512, .f32⟩
  | 27 => ⟨S4x4096x512, .f32⟩
  | 28 => ⟨S_, .f32⟩
  | 29 => ⟨S4x4096x512, .f32⟩
  | 30 => ⟨S4x4096x512, .f32⟩
  | 31 => ⟨S4x4096x512, .f32⟩
  | 32 => ⟨S4x4096x512, .f32⟩
  | 33 => ⟨S4x4096x4x128, .f32⟩
  | 34 => ⟨S4096, .i32⟩
  | 35 => ⟨S4x4096x1x128, .f32⟩
  | 36 => ⟨S4x4096x128, .f32⟩
  | 37 => ⟨S_, .f32⟩
  | 38 => ⟨S_, .f32⟩
  | 39 => ⟨S4x4096x128, .f32⟩
  | 40 => ⟨S_, .i32⟩
  | 41 => ⟨S_, .f32⟩
  | 42 => ⟨S4x4098x128, .f32⟩
  | 43 => ⟨S4x4096x128, .f32⟩
  | 44 => ⟨S_, .i32⟩
  | 45 => ⟨S4096, .i32⟩
  | 46 => ⟨S4096, .i32⟩
  | 47 => ⟨S_, .i32⟩
  | 48 => ⟨S4096, .i32⟩
  | 49 => ⟨S4096, .i32⟩
  | 50 => ⟨S4096, .f32⟩
  | 51 => ⟨S1x4096x1, .f32⟩
  | 52 => ⟨S4x4096x128, .f32⟩
  | 53 => ⟨S4x4096x128, .f32⟩
  | 54 => ⟨S4x4096x128, .f32⟩
  | 55 => ⟨S4x4096x128, .f32⟩
  | 56 => ⟨S4x4096x1x128, .f32⟩
  | 57 => ⟨S4x4096x128, .f32⟩
  | 58 => ⟨S_, .f32⟩
  | 59 => ⟨S_, .f32⟩
  | 60 => ⟨S4x4096x128, .f32⟩
  | 61 => ⟨S_, .i32⟩
  | 62 => ⟨S_, .f32⟩
  | 63 => ⟨S4x4100x128, .f32⟩
  | 64 => ⟨S4x4096x128, .f32⟩
  | 65 => ⟨S_, .i32⟩
  | 66 => ⟨S4096, .i32⟩
  | 67 => ⟨S4096, .i32⟩
  | 68 => ⟨S_, .i32⟩
  | 69 => ⟨S4096, .i32⟩
  | 70 => ⟨S4096, .i32⟩
  | 71 => ⟨S4096, .f32⟩
  | 72 => ⟨S1x4096x1, .f32⟩
  | 73 => ⟨S4x4096x128, .f32⟩
  | 74 => ⟨S4x4096x128, .f32⟩
  | 75 => ⟨S4x4096x128, .f32⟩
  | 76 => ⟨S4x4096x128, .f32⟩
  | 77 => ⟨S4x4096x1x128, .f32⟩
  | 78 => ⟨S4x4096x128, .f32⟩
  | 79 => ⟨S_, .f32⟩
  | 80 => ⟨S_, .f32⟩
  | 81 => ⟨S4x4096x128, .f32⟩
  | 82 => ⟨S_, .i32⟩
  | 83 => ⟨S_, .f32⟩
  | 84 => ⟨S4x4104x128, .f32⟩
  | 85 => ⟨S4x4096x128, .f32⟩
  | 86 => ⟨S_, .i32⟩
  | 87 => ⟨S4096, .i32⟩
  | 88 => ⟨S4096, .i32⟩
  | 89 => ⟨S_, .i32⟩
  | 90 => ⟨S4096, .i32⟩
  | 91 => ⟨S4096, .i32⟩
  | 92 => ⟨S4096, .f32⟩
  | 93 => ⟨S1x4096x1, .f32⟩
  | 94 => ⟨S4x4096x128, .f32⟩
  | 95 => ⟨S4x4096x128, .f32⟩
  | 96 => ⟨S4x4096x128, .f32⟩
  | 97 => ⟨S4x4096x128, .f32⟩
  | 98 => ⟨S4x4096x1x128, .f32⟩
  | 99 => ⟨S4x4096x128, .f32⟩
  | 100 => ⟨S_, .f32⟩
  | 101 => ⟨S_, .f32⟩
  | 102 => ⟨S4x4096x128, .f32⟩
  | 103 => ⟨S_, .i32⟩
  | 104 => ⟨S_, .f32⟩
  | 105 => ⟨S4x4112x128, .f32⟩
  | 106 => ⟨S4x4096x128, .f32⟩
  | 107 => ⟨S_, .i32⟩
  | 108 => ⟨S4096, .i32⟩
  | 109 => ⟨S4096, .i32⟩
  | 110 => ⟨S_, .i32⟩
  | 111 => ⟨S4096, .i32⟩
  | 112 => ⟨S4096, .i32⟩
  | 113 => ⟨S4096, .f32⟩
  | 114 => ⟨S1x4096x1, .f32⟩
  | 115 => ⟨S4x4096x128, .f32⟩
  | 116 => ⟨S4x4096x128, .f32⟩
  | 117 => ⟨S4x4096x128, .f32⟩
  | 118 => ⟨S4x4096x128, .f32⟩
  | 119 => ⟨S4x4096x1x128, .f32⟩
  | 120 => ⟨S4x4096x1x128, .f32⟩
  | 121 => ⟨S4x4096x1x128, .f32⟩
  | 122 => ⟨S4x4096x1x128, .f32⟩
  | 123 => ⟨S4x4096x4x128, .f32⟩
  | 124 => ⟨S4x128x4x4096, .f32⟩
  | 125 => ⟨S4x4096x4x128, .f32⟩
  | 126 => ⟨S4x4096x512, .f32⟩
  | 127 => ⟨S1x1x512, .f32⟩
  | _ => ⟨S4x4096x1024, .f32⟩

abbrev hbmTy0_1 (i : Nat) : BufTy := match i % 128 with
  | 0 => ⟨S4x4096x512, .f32⟩
  | 1 => ⟨S4x4096x512, .f32⟩
  | 2 => ⟨S4x4096x512, .f32⟩
  | 3 => ⟨S_, .f32⟩
  | 4 => ⟨S4x4096, .f32⟩
  | 5 => ⟨S4x4096x1, .f32⟩
  | 6 => ⟨S_, .f32⟩
  | 7 => ⟨S4x4096x1, .f32⟩
  | 8 => ⟨S4x4096x1, .f32⟩
  | 9 => ⟨S_, .f32⟩
  | 10 => ⟨S4x4096x1, .f32⟩
  | 11 => ⟨S4x4096x1, .f32⟩
  | 12 => ⟨S4x4096x1, .f32⟩
  | 13 => ⟨S4x4096x512, .f32⟩
  | 14 => ⟨S4x4096x512, .f32⟩
  | 15 => ⟨S1x1x512, .f32⟩
  | 16 => ⟨S4x4096x512, .f32⟩
  | 17 => ⟨S4x4096x512, .f32⟩
  | 18 => ⟨S16384x512, .f32⟩
  | 19 => ⟨S4x4096x4x128, .f32⟩
  | 20 => ⟨S4x4x4096x128, .f32⟩
  | 21 => ⟨S4x4096x4x128, .f32⟩
  | 22 => ⟨S4x4x4096x128, .f32⟩
  | 23 => ⟨S4x4096x4x128, .f32⟩
  | 24 => ⟨S4x4x4096x128, .f32⟩
  | 25 => ⟨S16384x512, .bf16⟩
  | 26 => ⟨S4x4x4096x128, .bf16⟩
  | 27 => ⟨S4x4x4096x128, .bf16⟩
  | 28 => ⟨S4x4x4096x128, .bf16⟩
  | 29 => ⟨S1024x1024, .bf16⟩
  | 30 => ⟨S1024x4096, .bf16⟩
  | 31 => ⟨S4096x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_call0_cst : Ref sig .tc := ⟨.hbm, 37, rfl⟩
abbrev main_call0_call0_v0 : Ref sig .tc := ⟨.hbm, 38, rfl⟩
abbrev main_v24 : Ref sig .tc := ⟨.hbm, 39, rfl⟩
abbrev main_c : Ref sig .tc := ⟨.hbm, 40, rfl⟩
abbrev main_call1_v0 : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call2_call0_cst : Ref sig .tc := ⟨.hbm, 58, rfl⟩
abbrev main_call2_call0_v0 : Ref sig .tc := ⟨.hbm, 59, rfl⟩
abbrev main_v39 : Ref sig .tc := ⟨.hbm, 60, rfl⟩
abbrev main_c_5 : Ref sig .tc := ⟨.hbm, 61, rfl⟩
abbrev main_call3_v0 : Ref sig .tc := ⟨.hbm, 62, rfl⟩
abbrev main_v40 : Ref sig .tc := ⟨.hbm, 63, rfl⟩
abbrev main_v41 : Ref sig .tc := ⟨.hbm, 64, rfl⟩
abbrev main_c_6 : Ref sig .tc := ⟨.hbm, 65, rfl⟩
abbrev main_v42 : Ref sig .tc := ⟨.hbm, 66, rfl⟩
abbrev main_v43 : Ref sig .tc := ⟨.hbm, 67, rfl⟩
abbrev main_c_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call4_call0_cst : Ref sig .tc := ⟨.hbm, 79, rfl⟩
abbrev main_call4_call0_v0 : Ref sig .tc := ⟨.hbm, 80, rfl⟩
abbrev main_v54 : Ref sig .tc := ⟨.hbm, 81, rfl⟩
abbrev main_c_8 : Ref sig .tc := ⟨.hbm, 82, rfl⟩
abbrev main_call5_v0 : Ref sig .tc := ⟨.hbm, 83, rfl⟩
abbrev main_v55 : Ref sig .tc := ⟨.hbm, 84, rfl⟩
abbrev main_v56 : Ref sig .tc := ⟨.hbm, 85, rfl⟩
abbrev main_c_9 : Ref sig .tc := ⟨.hbm, 86, rfl⟩
abbrev main_v57 : Ref sig .tc := ⟨.hbm, 87, rfl⟩
abbrev main_v58 : Ref sig .tc := ⟨.hbm, 88, rfl⟩
abbrev main_c_10 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_call6_call0_cst : Ref sig .tc := ⟨.hbm, 100, rfl⟩
abbrev main_call6_call0_v0 : Ref sig .tc := ⟨.hbm, 101, rfl⟩
abbrev main_v69 : Ref sig .tc := ⟨.hbm, 102, rfl⟩
abbrev main_c_11 : Ref sig .tc := ⟨.hbm, 103, rfl⟩
abbrev main_call7_v0 : Ref sig .tc := ⟨.hbm, 104, rfl⟩
abbrev main_v70 : Ref sig .tc := ⟨.hbm, 105, rfl⟩
abbrev main_v71 : Ref sig .tc := ⟨.hbm, 106, rfl⟩
abbrev main_c_12 : Ref sig .tc := ⟨.hbm, 107, rfl⟩
abbrev main_v72 : Ref sig .tc := ⟨.hbm, 108, rfl⟩
abbrev main_v73 : Ref sig .tc := ⟨.hbm, 109, rfl⟩
abbrev main_c_13 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_14 : Ref sig .tc := ⟨.hbm, 131, rfl⟩
abbrev main_v94 : Ref sig .tc := ⟨.hbm, 132, rfl⟩
abbrev main_v95 : Ref sig .tc := ⟨.hbm, 133, rfl⟩
abbrev main_cst_15 : Ref sig .tc := ⟨.hbm, 134, rfl⟩
abbrev main_v96 : Ref sig .tc := ⟨.hbm, 135, rfl⟩
abbrev main_v97 : Ref sig .tc := ⟨.hbm, 136, rfl⟩
abbrev main_cst_16 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x4096x512 : Shape := ⟨3, ![4, 4096, 512]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S16384x512 : Shape := ⟨2, ![16384, 512]⟩
abbrev S1x512 : Shape := ⟨2, ![1, 512]⟩
abbrev S1x1024 : Shape := ⟨2, ![1, 1024]⟩
abbrev S512x1024 : Shape := ⟨2, ![512, 1024]⟩
abbrev S512x512 : Shape := ⟨2, ![512, 512]⟩
abbrev S512x1 : Shape := ⟨2, ![512, 1]⟩

abbrev nBuf : Space → Nat
  | .hbm => 20
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S16384x1024, .f32⟩
  | .hbm, ⟨10, _⟩ => ⟨S16384x512, .f32⟩
  | .hbm, ⟨11, _⟩ => ⟨S16384x512, .bf16⟩
  | .hbm, ⟨12, _⟩ => ⟨S16384x512, .f32⟩
  | .hbm, ⟨13, _⟩ => ⟨S1024x1024, .bf16⟩
  | .hbm, ⟨14, _⟩ => ⟨S1024x4096, .bf16⟩
  | .hbm, ⟨15, _⟩ => ⟨S4096x1024, .bf16⟩
  | .hbm, ⟨16, _⟩ => ⟨S1x512, .f32⟩
  | .hbm, ⟨17, _⟩ => ⟨S1x1024, .f32⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1024x1024, .bf16⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S4x4096x1024 : Shape := ⟨3, ![4, 4096, 1024]⟩
abbrev S4x4096x512 : Shape := ⟨3, ![4, 4096, 512]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S1x1x1024 : Shape := ⟨3, ![1, 1, 1024]⟩
abbrev S4x4096x4096 : Shape := ⟨3, ![4, 4096, 4096]⟩
abbrev S16384x1024 : Shape := ⟨2, ![16384, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S4x4096x512, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x512, .f32⟩
  | .hbm, ⟨21, _⟩ => ⟨S4x4096x512, .f32⟩
  | .hbm, ⟨22, _⟩ => ⟨S1x1x512, .f32⟩
  | .hbm, ⟨23, _⟩ => ⟨S4x4096x512, .f32⟩
  | .hbm, ⟨24, _⟩ => ⟨S4x4096x512, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x1, .f32⟩
  | .hbm, ⟨39, _⟩ => ⟨S4x4096x1024, .f32⟩
  | .hbm, ⟨40, _⟩ => ⟨S4x4096x1024, .f32⟩
  | .hbm, ⟨41, _⟩ => ⟨S1x1x1024, .f32⟩
  | .hbm, ⟨42, _⟩ => ⟨S4x4096x1024, .f32⟩
  | .hbm, ⟨43, _⟩ => ⟨S4x4096x1024, .f32⟩
  | .hbm, ⟨44, _⟩ => ⟨S4x4096x4096, .f32⟩
  | .hbm, ⟨45, _⟩ => ⟨S_, .f32⟩
  | .hbm, ⟨46, _⟩ => ⟨S4x4096x4096, .f32⟩
  | .hbm, ⟨47, _⟩ => ⟨S4x4096x4096, .f32⟩
  | .hbm, ⟨48, _⟩ => ⟨S4x4096x4096, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S_, .f32⟩
  | .hbm, ⟨53, _⟩ => ⟨S4x4096, .f32⟩
  | .hbm, ⟨54, _⟩ => ⟨S4x4096x1, .f32⟩
  | .hbm, ⟨55, _⟩ => ⟨S_, .f32⟩
  | .hbm, ⟨56, _⟩ => ⟨S4x4096x1, .f32⟩
  | .hbm, ⟨57, _⟩ => ⟨S4x4096x1, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S4x4096x1, .f32⟩
  | .hbm, ⟨62, _⟩ => ⟨S4x4096x1024, .f32⟩
  | .hbm, ⟨63, _⟩ => ⟨S4x4096x1024, .f32⟩
  | .hbm, ⟨64, _⟩ => ⟨S1x1x1024, .f32⟩
  | .hbm, ⟨65, _⟩ => ⟨S4x4096x1024, .f32⟩
  | .hbm, ⟨66, _⟩ => ⟨S4x4096x1024, .f32⟩
  | .hbm, ⟨67, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_cst : Ref sig .tc := ⟨.hbm, 45, rfl⟩
abbrev main_call0_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Proof.MlpSpec.lean ====
/-
  The output projection, the squared-relu MLP and the final norm of one token, as functions of the token's rows:
  what both programs of the second pair are shown to compute.
-/
module

public import Idealize.ShloMosaic.PureOps.Ideal

@[expose] public section

noncomputable section

namespace Cert.Proof.Mlp
open Idealize.ShloMosaic
open scoped BigOperators

/-- RMS norm of a row of width 1024 with gain `g`. -/
def rms (h g : Fin 1024 → EReal) (d : Fin 1024) : EReal :=
  h d * Ideal.rsqrt (Ideal.div (∑ k, h k * h k) (Ideal.ofBits .f32 0x44800000#32) + Ideal.ofBits .f32 0x358637BD#32) * g d

/-- The residual row after the output projection of the two mixers' halves `p` and `a`. -/
def mixed (x : Fin 1024 → EReal) (p a : Fin 512 → EReal) (w : Fin 1024 → Fin 1024 → EReal) (d : Fin 1024) : EReal :=
  x d + (∑ k : Fin 512, p k * w ⟨k.val, by omega⟩ d + ∑ k : Fin 512, a k * w ⟨512 + k.val, by omega⟩ d)

/-- One hidden unit before squaring. -/
def hid (r : Fin 1024 → EReal) (wu : Fin 1024 → Fin 4096 → EReal) (f : Fin 4096) : EReal :=
  max (∑ d, r d * wu d f) 0

/-- The residual row after the MLP. -/
def mlp (h r : Fin 1024 → EReal) (wu : Fin 1024 → Fin 4096 → EReal) (wd : Fin 4096 → Fin 1024 → EReal) (d : Fin 1024) : EReal :=
  h d + ∑ f, hid r wu f * hid r wu f * wd f d

/-- The layer's output row. -/
def outRow (x : Fin 1024 → EReal) (p a : Fin 512 → EReal) (w : Fin 1024 → Fin 1024 → EReal) (g2 : Fin 1024 → EReal)
    (wu : Fin 1024 → Fin 4096 → EReal) (wd : Fin 4096 → Fin 1024 → EReal) (fg : Fin 1024 → EReal) : Fin 1024 → EReal :=
  rms (mlp (mixed x p a w) (rms (mixed x p a w) g2) wu wd) fg

/-- One chunk of 512 hidden units of the MLP's down product. -/
def chunk (r : Fin 1024 → EReal) (wu : Fin 1024 → Fin 512 → EReal) (wd : Fin 512 → Fin 1024 → EReal) (d : Fin 1024) : EReal :=
  ∑ f : Fin 512, max (∑ k, r k * wu k f) 0 * max (∑ k, r k * wu k f) 0 * wd f d

/-- A sum over 4096 is the sum of its eight runs of 512. -/
theorem sum_runs (g : Fin 4096 → EReal) :
    ∑ f, g f = ∑ j : Fin 8, ∑ f : Fin 512, g ⟨512 * j.val + f.val, by omega⟩ := by
  rw [← Fintype.sum_prod_type', ← Equiv.sum_comp (finProdFinEquiv (m := 8) (n := 512))]
  refine Finset.sum_congr rfl fun x _ => congrArg g (Fin.ext ?_)
  simp [finProdFinEquiv]; omega

/-- The MLP row as the residual with the eight chunks added in turn. -/
theorem mlp_chunks (h r : Fin 1024 → EReal) (wu : Fin 1024 → Fin 4096 → EReal) (wd : Fin 4096 → Fin 1024 → EReal) (d : Fin 1024)
    (c : Fin 8 → EReal) (hc : ∀ j : Fin 8, c j = chunk r (fun k f => wu k ⟨512 * j.val + f.val, by omega⟩) (fun f e => wd ⟨512 * j.val + f.val, by omega⟩ e) d) :
    h d + c 0 + c 1 + c 2 + c 3 + c 4 + c 5 + c 6 + c 7 = mlp h r wu wd d := by
  unfold mlp
  rw [sum_runs, show (∑ j : Fin 8, ∑ f : Fin 512, hid r wu ⟨512 * j.val + f.val, by omega⟩ * hid r wu ⟨512 * j.val + f.val, by omega⟩ * wd ⟨512 * j.val + f.val, by omega⟩ d)
    = ∑ j : Fin 8, c j from Finset.sum_congr rfl fun j _ => by rw [hc j]; rfl, Fin.sum_univ_eight]
  simp only [add_assoc]

end Cert.Proof.Mlp
-- ==== Proof.MlpKernel.lean ====
/-
  What the second program's kernel leaves in its output array: every row is the row function of MlpSpec.lean.
-/
module

public import proofs.«01_k».proof.Proof.MlpSpec
public import proofs.«01_k».proof.Proof.Gen.Kernel2Ideal.Value
public import Idealize.ShloMosaic.Lib.Pointwise
public import Idealize.ShloMosaic.Lib.Pipeline.ValueKit
public import Idealize.ShloMosaic.PureOps.Ideal.Laws

@[expose] public section

noncomputable section

namespace Cert.Proof.Mlp
open Idealize.ShloMosaic Idealize.ShloMosaic.TcCoe Cert.Kernel2Ideal Cert.Kernel2Ideal.Gen

/-- The residual after the output projection, at an element. -/
theorem pay2_apply (v0 v2 : Vec Ideal S1024x512 .bf16) (v5 : Vec Ideal S1024x1024 .f32) (v7 : Vec Ideal S1024x1024 .bf16) (r d : Fin 1024) :
    k0_pay2 (F := Ideal) v0 v2 v5 v7 (ix2 r d) = mixed (fun k => v5 (ix2 r k)) (fun k => v0 (ix2 r k)) (fun k => v2 (ix2 r k)) (fun e d => v7 (ix2 e d)) d := by
  unfold k0_pay2 mixed
  simp only [pointwise]
  rw [zero_add]
  simp only [dif_pos, dif_neg, not_false_eq_true, if_true]
  refine congrArg (v5 (ix2 r d) + ·) (congrArg₂ (· + ·) rfl (Finset.sum_congr rfl fun k _ => ?_))
  have e : ∀ h1 h2, (ix2 (⟨if (0 : Nat) = 1 then 512 + k.val - 512 else r.val, h1⟩ : Fin 1024) (⟨512 + k.val - 512, h2⟩ : Fin 512) : S1024x512.Idx) = ix2 r k := by
    intro h1 h2
    refine congrArg₂ ix2 (Fin.ext ?_) (Fin.ext ?_)
    · simp
    · show 512 + k.val - 512 = k.val
      omega
  exact congrArg (fun y => v2 y * v7 (ix2 (⟨512 + k.val, by omega⟩ : Fin 1024) d)) (e _ _)

/-- The normed row fed to the MLP, at an element. -/
theorem pay3_apply (v0 v2 : Vec Ideal S1024x512 .bf16) (v5 : Vec Ideal S1024x1024 .f32) (v7 : Vec Ideal S1024x1024 .bf16) (v11 : Vec Ideal S1x1024 .f32) (r d : Fin 1024) :
    k0_pay3 (F := Ideal) v0 v2 v5 v7 v11 (ix2 r d) = rms (fun k => k0_pay2 (F := Ideal) v0 v2 v5 v7 (ix2 r k)) (fun k => v11 (ix2 0 k)) d := by
  unfold k0_pay3
  generalize k0_pay2 (F := Ideal) v0 v2 v5 v7 = h
  simp only [pointwise]
  rfl

/-- The residual with the first chunk added. -/
theorem pay4_apply (v0 v2 : Vec Ideal S1024x512 .bf16) (v5 : Vec Ideal S1024x1024 .f32) (v7 : Vec Ideal S1024x1024 .bf16) (v11 : Vec Ideal S1x1024 .f32)
    (v26 : Vec Ideal S1024x512 .bf16) (v33 : Vec Ideal S512x1024 .bf16) (r d : Fin 1024) :
    k0_pay4 (F := Ideal) v0 v2 v5 v7 v11 v26 v33 (ix2 r d) = k0_pay2 (F := Ideal) v0 v2 v5 v7 (ix2 r d) +
      chunk (fun k => k0_pay3 (F := Ideal) v0 v2 v5 v7 v11 (ix2 r k)) (fun k f => v26 (ix2 k f)) (fun f e => v33 (ix2 f e)) d := by
  unfold k0_pay4
  generalize k0_pay2 (F := Ideal) v0 v2 v5 v7 = h
  generalize k0_pay3 (F := Ideal) v0 v2 v5 v7 v11 = g
  simp only [pointwise]
  simp only [zero_add]
  rfl

/-- Three more chunks added in turn. -/
theorem pay5_apply (g : FVec Ideal S1024x1024 .bf16) (h : FVec Ideal S1024x1024 .f32)
    (a1 : Vec Ideal S1024x512 .bf16) (b1 : Vec Ideal S512x1024 .bf16) (a2 : Vec Ideal S1024x512 .bf16) (b2 : Vec Ideal S512x1024 .bf16)
    (a3 : Vec Ideal S1024x512 .bf16) (b3 : Vec Ideal S512x1024 .bf16) (r d : Fin 1024) :
    k0_pay5 (F := Ideal) g h a1 b1 a2 b2 a3 b3 (ix2 r d) = h (ix2 r d)
      + chunk (fun k => g (ix2 r k)) (fun k f => a1 (ix2 k f)) (fun f e => b1 (ix2 f e)) d
      + chunk (fun k => g (ix2 r k)) (fun k f => a2 (ix2 k f)) (fun f e => b2 (ix2 f e)) d
      + chunk (fun k => g (ix2 r k)) (fun k f => a3 (ix2 k f)) (fun f e => b3 (ix2 f e)) d := by
  unfold k0_pay5
  simp only [pointwise]
  simp only [zero_add]
  rfl

/-- Three more chunks, the first of them with its up product already taken. -/
theorem pay7_apply (g : FVec Ideal S1024x1024 .bf16) (h : FVec Ideal S1024x1024 .f32)
    (a1 : Vec Ideal S1024x512 .bf16) (b1 : Vec Ideal S512x1024 .bf16) (a2 : Vec Ideal S1024x512 .bf16) (b2 : Vec Ideal S512x1024 .bf16)
    (a3 : Vec Ideal S1024x512 .bf16) (b3 : Vec Ideal S512x1024 .bf16) (r d : Fin 1024) :
    k0_pay7 (F := Ideal) g h (k0_pay6 (F := Ideal) g a1) (Scalar.ofBits (F := Ideal) .f32 0x00000000#32) b1 a2 b2 a3 b3 (ix2 r d) = h (ix2 r d)
      + chunk (fun k => g (ix2 r k)) (fun k f => a1 (ix2 k f)) (fun f e => b1 (ix2 f e)) d
      + chunk (fun k => g (ix2 r k)) (fun k f => a2 (ix2 k f)) (fun f e => b2 (ix2 f e)) d
      + chunk (fun k => g (ix2 r k)) (fun k f => a3 (ix2 k f)) (fun f e => b3 (ix2 f e)) d := by
  unfold k0_pay7 k0_pay6
  simp only [pointwise]
  simp only [zero_add]
  rfl

/-- The last chunk and the final norm. -/
theorem pay1_apply (g : FVec Ideal S1024x1024 .bf16) (h : FVec Ideal S1024x1024 .f32)
    (a : Vec Ideal S1024x512 .bf16) (b : Vec Ideal S512x1024 .bf16) (fg : Vec Ideal S1x1024 .f32) (r d : Fin 1024) :
    k0_pay1 (F := Ideal) h (k0_pay8 (F := Ideal) g a) b fg (ix2 r d)
      = rms (fun k => h (ix2 r k) + chunk (fun k => g (ix2 r k)) (fun k f => a (ix2 k f)) (fun f e => b (ix2 f e)) k) (fun k => fg (ix2 0 k)) d := by
  unfold k0_pay1 k0_pay8
  simp only [pointwise]
  simp only [zero_add]
  rfl

/-- Columns 0 to 511 of the up weights. -/
theorem ldu0 (x : Vec Ideal S1024x4096 .bf16) (k : Fin 1024) (f : Fin 512) :
    View.ld x r0_3 (ix2 k f) = x (ix2 k ⟨512 * 0 + f.val, by omega⟩) := by
  simp only [pointwise]
  exact congrArg x (congrArg₂ ix2 (Fin.ext (by show 0 + 1 * k.val = k.val; omega)) (Fin.ext (by show 0 + 1 * f.val = 512 * 0 + f.val; omega)))

/-- Rows 0 to 511 of the down weights. -/
theorem ldd0 (x : Vec Ideal S4096x1024 .bf16) (f : Fin 512) (d : Fin 1024) :
    View.ld x r0_4 (ix2 f d) = x (ix2 ⟨512 * 0 + f.val, by omega⟩ d) := by
  simp only [pointwise]
  exact congrArg x (congrArg₂ ix2 (Fin.ext (by show 0 + 1 * f.val = 512 * 0 + f.val; omega)) (Fin.ext (by show 0 + 1 * d.val = d.val; omega)))

/-- Columns 512 to 1023 of the up weights. -/
theorem ldu1 (x : Vec Ideal S1024x4096 .bf16) (k : Fin 1024) (f : Fin 512) :
    View.ld x r0_5 (ix2 k f) = x (ix2 k ⟨512 * 1 + f.val, by omega⟩) := by
  simp only [pointwise]
  exact congrArg x (congrArg₂ ix2 (Fin.ext (by show 0 + 1 * k.val = k.val; omega)) (Fin.ext (by show 512 + 1 * f.val = 512 * 1 + f.val; omega)))

/-- Rows 512 to 1023 of the down weights. -/
theorem ldd1 (x : Vec Ideal S4096x1024 .bf16) (f : Fin 512) (d : Fin 1024) :
    View.ld x r0_6 (ix2 f d) = x (ix2 ⟨512 * 1 + f.val, by omega⟩ d) := by
  simp only [pointwise]
  exact congrArg x (congrArg₂ ix2 (Fin.ext (by show 512 + 1 * f.val = 512 * 1 + f.val; omega)) (Fin.ext (by show 0 + 1 * d.val = d.val; omega)))

/-- Columns 1024 to 1535 of the up weights. -/
theorem ldu2 (x : Vec Ideal S1024x4096 .bf16) (k : Fin 1024) (f : Fin 512) :
    View.ld x r0_7 (ix2 k f) = x (ix2 k ⟨512 * 2 + f.val, by omega⟩) := by
  simp only [pointwise]
  exact congrArg x (congrArg₂ ix2 (Fin.ext (by show 0 + 1 * k.val = k.val; omega)) (Fin.ext (by show 1024 + 1 * f.val = 512 * 2 + f.val; omega)))

/-- Rows 1024 to 1535 of the down weights. -/
theorem ldd2 (x : Vec Ideal S4096x1024 .bf16) (f : Fin 512) (d : Fin 1024) :
    View.ld x r0_8 (ix2 f d) = x (ix2 ⟨512 * 2 + f.val, by omega⟩ d) := by
  simp only [pointwise]
  exact congrArg x (congrArg₂ ix2 (Fin.ext (by show 1024 + 1 * f.val = 512 * 2 + f.val; omega)) (Fin.ext (by show 0 + 1 * d.val = d.val; omega)))

/-- Columns 1536 to 2047 of the up weights. -/
theorem ldu3 (x : Vec Ideal S1024x4096 .bf16) (k : Fin 1024) (f : Fin 512) :
    View.ld x r0_9 (ix2 k f) = x (ix2 k ⟨512 * 3 + f.val, by omega⟩) := by
  simp only [pointwise]
  exact congrArg x (congrArg₂ ix2 (Fin.ext (by show 0 + 1 * k.val = k.val; omega)) (Fin.ext (by show 1536 + 1 * f.val = 512 * 3 + f.val; omega)))

/-- Rows 1536 to 2047 of the down weights. -/
theorem ldd3 (x : Vec Ideal S4096x1024 .bf16) (f : Fin 512) (d : Fin 1024) :
    View.ld x r0_10 (ix2 f d) = x (ix2 ⟨512 * 3 + f.val, by omega⟩ d) := by
  simp only [pointwise]
  exact congrArg x (congrArg₂ ix2 (Fin.ext (by show 1536 + 1 * f.val = 512 * 3 + f.val; omega)) (Fin.ext (by show 0 + 1 * d.val = d.val; omega)))

/-- Columns 2048 to 2559 of the up weights. -/
theorem ldu4 (x : Vec Ideal S1024x4096 .bf16) (k : Fin 1024) (f : Fin 512) :
    View.ld x r0_11 (ix2 k f) = x (ix2 k ⟨512 * 4 + f.val, by omega⟩) := by
  simp only [pointwise]
  exact congrArg x (congrArg₂ ix2 (Fin.ext (by show 0 + 1 * k.val = k.val; omega)) (Fin.ext (by show 2048 + 1 * f.val = 512 * 4 + f.val; omega)))

/-- Rows 2048 to 2559 of the down weights. -/
theorem ldd4 (x : Vec Ideal S4096x1024 .bf16) (f : Fin 512) (d : Fin 1024) :
    View.ld x r0_12 (ix2 f d) = x (ix2 ⟨512 * 4 + f.val, by omega⟩ d) := by
  simp only [pointwise]
  exact congrArg x (congrArg₂ ix2 (Fin.ext (by show 2048 + 1 * f.val = 512 * 4 + f.val; omega)) (Fin.ext (by show 0 + 1 * d.val = d.val; omega)))

/-- Columns 2560 to 3071 of the up weights. -/
theorem ldu5 (x : Vec Ideal S1024x4096 .bf16) (k : Fin 1024) (f : Fin 512) :
    View.ld x r0_13 (ix2 k f) = x (ix2 k ⟨512 * 5 + f.val, by omega⟩) := by
  simp only [pointwise]
  exact congrArg x (congrArg₂ ix2 (Fin.ext (by show 0 + 1 * k.val = k.val; omega)) (Fin.ext (by show 2560 + 1 * f.val = 512 * 5 + f.val; omega)))

/-- Rows 2560 to 3071 of the down weights. -/
theorem ldd5 (x : Vec Ideal S4096x1024 .bf16) (f : Fin 512) (d : Fin 1024) :
    View.ld x r0_14 (ix2 f d) = x (ix2 ⟨512 * 5 + f.val, by omega⟩ d) := by
  simp only [pointwise]
  exact congrArg x (congrArg₂ ix2 (Fin.ext (by show 2560 + 1 * f.val = 512 * 5 + f.val; omega)) (Fin.ext (by show 0 + 1 * d.val = d.val; omega)))

/-- Columns 3072 to 3583 of the up weights. -/
theorem ldu6 (x : Vec Ideal S1024x4096 .bf16) (k : Fin 1024) (f : Fin 512) :
    View.ld x r0_15 (ix2 k f) = x (ix2 k ⟨512 * 6 + f.val, by omega⟩) := by
  simp only [pointwise]
  exact congrArg x (congrArg₂ ix2 (Fin.ext (by show 0 + 1 * k.val = k.val; omega)) (Fin.ext (by show 3072 + 1 * f.val = 512 * 6 + f.val; omega)))

/-- Rows 3072 to 3583 of the down weights. -/
theorem ldd6 (x : Vec Ideal S4096x1024 .bf16) (f : Fin 512) (d : Fin 1024) :
    View.ld x r0_16 (ix2 f d) = x (ix2 ⟨512 * 6 + f.val, by omega⟩ d) := by
  simp only [pointwise]
  exact congrArg x (congrArg₂ ix2 (Fin.ext (by show 3072 + 1 * f.val = 512 * 6 + f.val; omega)) (Fin.ext (by show 0 + 1 * d.val = d.val; omega)))

/-- Columns 3584 to 4095 of the up weights. -/
theorem ldu7 (x : Vec Ideal S1024x4096 .bf16) (k : Fin 1024) (f : Fin 512) :
    View.ld x r0_17 (ix2 k f) = x (ix2 k ⟨512 * 7 + f.val, by omega⟩) := by
  simp only [pointwise]
  exact congrArg x (congrArg₂ ix2 (Fin.ext (by show 0 + 1 * k.val = k.val; omega)) (Fin.ext (by show 3584 + 1 * f.val = 512 * 7 + f.val; omega)))

/-- Rows 3584 to 4095 of the down weights. -/
theorem ldd7 (x : Vec Ideal S4096x1024 .bf16) (f : Fin 512) (d : Fin 1024) :
    View.ld x r0_18 (ix2 f d) = x (ix2 ⟨512 * 7 + f.val, by omega⟩ d) := by
  simp only [pointwise]
  exact congrArg x (congrArg₂ ix2 (Fin.ext (by show 3584 + 1 * f.val = 512 * 7 + f.val; omega)) (Fin.ext (by show 0 + 1 * d.val = d.val; omega)))

/-- The offset of a whole block. -/
theorem hz2 : (![0, 0] : Fin 2 → Nat) = fun _ => 0 := funext fun a => by fin_cases a <;> rfl
/-- The loads of whole blocks. -/
theorem ldr0 (x : Vec Ideal S1024x512 .bf16) : View.ld x r0_0 = x := View.ld_unit_zero hz2 _ _
/-- A load of a whole block. -/
theorem ldr1 (x : Vec Ideal S1024x1024 .bf16) : View.ld x r0_1 = x := View.ld_unit_zero hz2 _ _
/-- A load of a whole block. -/
theorem ldr1' (x : Vec Ideal S1024x1024 .f32) : View.ld x r0_1 = x := View.ld_unit_zero hz2 _ _
/-- A load of a whole block. -/
theorem ldr2 (x : Vec Ideal S1x1024 .f32) : View.ld x r0_2 = x := View.ld_unit_zero hz2 _ _
/-- The kernel's payload over its loaded pieces, row by row, for any up and down weights the pieces are the runs of. -/
theorem out_core (x0 : Vec Ideal S1024x1024 .f32) (x1 x2 : Vec Ideal S1024x512 .bf16) (x3 : Vec Ideal S1024x1024 .bf16) (x4 x7 : Vec Ideal S1x1024 .f32)
    (wu : Fin 1024 → Fin 4096 → EReal) (wd : Fin 4096 → Fin 1024 → EReal)
    (u0 u1 u2 u3 u4 u5 u6 u7 : Vec Ideal S1024x512 .bf16) (d0 d1 d2 d3 d4 d5 d6 d7 : Vec Ideal S512x1024 .bf16)
    (hu0 : ∀ k f, u0 (ix2 k f) = wu k ⟨512 * 0 + f.val, by omega⟩) (hd0 : ∀ f k, d0 (ix2 f k) = wd ⟨512 * 0 + f.val, by omega⟩ k)
    (hu1 : ∀ k f, u1 (ix2 k f) = wu k ⟨512 * 1 + f.val, by omega⟩) (hd1 : ∀ f k, d1 (ix2 f k) = wd ⟨512 * 1 + f.val, by omega⟩ k)
    (hu2 : ∀ k f, u2 (ix2 k f) = wu k ⟨512 * 2 + f.val, by omega⟩) (hd2 : ∀ f k, d2 (ix2 f k) = wd ⟨512 * 2 + f.val, by omega⟩ k)
    (hu3 : ∀ k f, u3 (ix2 k f) = wu k ⟨512 * 3 + f.val, by omega⟩) (hd3 : ∀ f k, d3 (ix2 f k) = wd ⟨512 * 3 + f.val, by omega⟩ k)
    (hu4 : ∀ k f, u4 (ix2 k f) = wu k ⟨512 * 4 + f.val, by omega⟩) (hd4 : ∀ f k, d4 (ix2 f k) = wd ⟨512 * 4 + f.val, by omega⟩ k)
    (hu5 : ∀ k f, u5 (ix2 k f) = wu k ⟨512 * 5 + f.val, by omega⟩) (hd5 : ∀ f k, d5 (ix2 f k) = wd ⟨512 * 5 + f.val, by omega⟩ k)
    (hu6 : ∀ k f, u6 (ix2 k f) = wu k ⟨512 * 6 + f.val, by omega⟩) (hd6 : ∀ f k, d6 (ix2 f k) = wd ⟨512 * 6 + f.val, by omega⟩ k)
    (hu7 : ∀ k f, u7 (ix2 k f) = wu k ⟨512 * 7 + f.val, by omega⟩) (hd7 : ∀ f k, d7 (ix2 f k) = wd ⟨512 * 7 + f.val, by omega⟩ k)
    (r d : Fin 1024) :
    k0_pay1 (F := Ideal) (k0_pay7 (k0_pay3 x1 x2 x0 x3 x4) (k0_pay5 (k0_pay3 x1 x2 x0 x3 x4) (k0_pay4 x1 x2 x0 x3 x4 u0 d0) u1 d1 u2 d2 u3 d3)
        (k0_pay6 (k0_pay3 x1 x2 x0 x3 x4) u4) (Scalar.ofBits .f32 0x00000000#32) d4 u5 d5 u6 d6) (k0_pay8 (k0_pay3 x1 x2 x0 x3 x4) u7) d7 x7 (ix2 r d)
      = outRow (fun k => x0 (ix2 r k)) (fun k => x1 (ix2 r k)) (fun k => x2 (ix2 r k)) (fun e k => x3 (ix2 e k)) (fun k => x4 (ix2 0 k))
          wu wd (fun k => x7 (ix2 0 k)) d := by
  rw [pay1_apply]
  unfold outRow
  refine congrArg (fun h => rms h (fun k => x7 (ix2 0 k)) d) (funext fun e => ?_)
  rw [pay7_apply, pay5_apply, pay4_apply]
  simp only [hu0, hu1, hu2, hu3, hu4, hu5, hu6, hu7, hd0, hd1, hd2, hd3, hd4, hd5, hd6, hd7, pay3_apply, pay2_apply]
  exact mlp_chunks (mixed (fun k => x0 (ix2 r k)) (fun k => x1 (ix2 r k)) (fun k => x2 (ix2 r k)) (fun e k => x3 (ix2 e k)))
    (rms (mixed (fun k => x0 (ix2 r k)) (fun k => x1 (ix2 r k)) (fun k => x2 (ix2 r k)) (fun e k => x3 (ix2 e k))) (fun k => x4 (ix2 0 k)))
    wu wd e (fun j => chunk _ (fun k f => wu k ⟨512 * j.val + f.val, by omega⟩) (fun f e => wd ⟨512 * j.val + f.val, by omega⟩ e) e) (fun j => rfl)

/-- A block of the output array from the input blocks: each row is the row function of the blocks' rows. -/
theorem out_apply (x0 : Vec Ideal S1024x1024 .f32) (x1 x2 : Vec Ideal S1024x512 .bf16) (x3 : Vec Ideal S1024x1024 .bf16) (x4 : Vec Ideal S1x1024 .f32)
    (x5 : Vec Ideal S1024x4096 .bf16) (x6 : Vec Ideal S4096x1024 .bf16) (x7 : Vec Ideal S1x1024 .f32) (r d : Fin 1024) :
    out0_8 (F := Ideal) x0 x1 x2 x3 x4 x5 x6 x7 (ix2 r d)
      = outRow (fun k => x0 (ix2 r k)) (fun k => x1 (ix2 r k)) (fun k => x2 (ix2 r k)) (fun e k => x3 (ix2 e k)) (fun k => x4 (ix2 0 k))
          (fun k f => x5 (ix2 k f)) (fun f k => x6 (ix2 f k)) (fun k => x7 (ix2 0 k)) d := by
  unfold out0_8 k0_pay9
  rw [View.canon_unit_zero hz2, ldr0, ldr0, ldr1, ldr1', ldr2, ldr2]
  exact out_core x0 x1 x2 x3 x4 x7 (fun k f => x5 (ix2 k f)) (fun f k => x6 (ix2 f k)) _ _ _ _ _ _ _ _ _ _ _ _ _ _ _ _
    (ldu0 x5) (ldd0 x6)
    (ldu1 x5) (ldd1 x6)
    (ldu2 x5) (ldd2 x6)
    (ldu3 x5) (ldd3 x6)
    (ldu4 x5) (ldd4 x6)
    (ldu5 x5) (ldd5 x6)
    (ldu6 x5) (ldd6 x6)
    (ldu7 x5) (ldd7 x6)
    r d

/-- The output array as one function of the arguments: row `i` is the row function of token `i`'s rows. -/
def G (x : S4x4096x1024.Idx → EReal) (p a : S4x4096x512.Idx → EReal) (w : S1024x1024.Idx → EReal) (g2 : S1024.Idx → EReal)
    (wu : S1024x4096.Idx → EReal) (wd : S4096x1024.Idx → EReal) (fg : S1024.Idx → EReal) : S16384x1024.Idx → EReal := fun i =>
  outRow (fun k => x (ix3 ⟨(i 0).val / 4096, Nat.div_lt_of_lt_mul (i 0).isLt⟩ ⟨(i 0).val % 4096, Nat.mod_lt _ (by decide)⟩ k))
    (fun k => p (ix3 ⟨(i 0).val / 4096, Nat.div_lt_of_lt_mul (i 0).isLt⟩ ⟨(i 0).val % 4096, Nat.mod_lt _ (by decide)⟩ k))
    (fun k => a (ix3 ⟨(i 0).val / 4096, Nat.div_lt_of_lt_mul (i 0).isLt⟩ ⟨(i 0).val % 4096, Nat.mod_lt _ (by decide)⟩ k))
    (fun e k => w (ix2 e k)) (fun k => g2 (ix1 k)) (fun k f => wu (ix2 k f)) (fun f k => wd (ix2 f k)) (fun k => fg (ix1 k)) (i 1)

variable (m : (ℓ : Loc nD τ sig) → Buf (Elt Ideal) ℓ)

/-- What the host part hands the call here. -/
theorem V0 (c : Dev nD) : V m c main_v0 = shapeCast (S16384x1024) (m ((c : Thread nD τ).loc main_arg0)) shapeCasts_S4x4096x1024_S16384x1024 := by
  dsimp only [V]; simp only [hostOps0]; after_results_simp <;> rfl
/-- What the host part hands the call here. -/
theorem V2 (c : Dev nD) : V m c main_v2 = shapeCast (S16384x512) (m ((c : Thread nD τ).loc main_arg1)) shapeCasts_S4x4096x512_S16384x512 := by
  dsimp only [V]; simp only [hostOps0]; after_results_simp <;> rfl
/-- What the host part hands the call here. -/
theorem V4 (c : Dev nD) : V m c main_v4 = shapeCast (S16384x512) (m ((c : Thread nD τ).loc main_arg2)) shapeCasts_S4x4096x512_S16384x512 := by
  dsimp only [V]; simp only [hostOps0]; after_results_simp <;> rfl
/-- What the host part hands the call here. -/
theorem V5 (c : Dev nD) : V m c main_v5 = m ((c : Thread nD τ).loc main_arg3) := by
  dsimp only [V]; simp only [hostOps0]; after_results_simp <;> rfl
/-- What the host part hands the call here. -/
theorem V6 (c : Dev nD) : V m c main_v6 = m ((c : Thread nD τ).loc main_arg5) := by
  dsimp only [V]; simp only [hostOps0]; after_results_simp <;> rfl
/-- What the host part hands the call here. -/
theorem V7 (c : Dev nD) : V m c main_v7 = m ((c : Thread nD τ).loc main_arg6) := by
  dsimp only [V]; simp only [hostOps0]; after_results_simp <;> rfl
/-- What the host part hands the call here. -/
theorem V8 (c : Dev nD) : V m c main_v8 = shapeCast (S1x1024) (m ((c : Thread nD τ).loc main_arg4)) shapeCasts_S1024_S1x1024 := by
  dsimp only [V]; simp only [hostOps0]; after_results_simp <;> rfl
/-- What the host part hands the call here. -/
theorem V9 (c : Dev nD) : V m c main_v9 = shapeCast (S1x1024) (m ((c : Thread nD τ).loc main_arg7)) shapeCasts_S1024_S1x1024 := by
  dsimp only [V]; simp only [hostOps0]; after_results_simp <;> rfl

end Cert.Proof.Mlp
-- ==== Proof.MlpValue.lean ====
/-
  From blocks to the array: the second program's output array is `G` of its arguments.
-/
module

public import proofs.«01_k».proof.Proof.MlpKernel

@[expose] public section

noncomputable section

namespace Cert.Proof.Mlp
open Idealize.ShloMosaic Idealize.ShloMosaic.TcCoe Cert.Kernel2Ideal Cert.Kernel2Ideal.Gen

variable (m : (ℓ : Loc nD τ sig) → Buf (Elt Ideal) ℓ)

/-- Where window 0's block starts at each point. -/
theorem e0 : ∀ t : Fin cfg0.N, win0_0.index t = ![t.val, 0] := (by decide +kernel : ∀ t : Fin grid0.N, win0_0.index t = ![t.val, 0])
/-- Where window 1's block starts at each point. -/
theorem e1 : ∀ t : Fin cfg0.N, win0_1.index t = ![t.val, 0] := (by decide +kernel : ∀ t : Fin grid0.N, win0_1.index t = ![t.val, 0])
/-- Where window 2's block starts at each point. -/
theorem e2 : ∀ t : Fin cfg0.N, win0_2.index t = ![t.val, 0] := (by decide +kernel : ∀ t : Fin grid0.N, win0_2.index t = ![t.val, 0])
/-- Where window 3's block starts at each point. -/
theorem e3 : ∀ t : Fin cfg0.N, win0_3.index t = ![0, 0] := (by decide +kernel : ∀ t : Fin grid0.N, win0_3.index t = ![0, 0])
/-- Where window 4's block starts at each point. -/
theorem e4 : ∀ t : Fin cfg0.N, win0_4.index t = ![0, 0] := (by decide +kernel : ∀ t : Fin grid0.N, win0_4.index t = ![0, 0])
/-- Where window 5's block starts at each point. -/
theorem e5 : ∀ t : Fin cfg0.N, win0_5.index t = ![0, 0] := (by decide +kernel : ∀ t : Fin grid0.N, win0_5.index t = ![0, 0])
/-- Where window 6's block starts at each point. -/
theorem e6 : ∀ t : Fin cfg0.N, win0_6.index t = ![0, 0] := (by decide +kernel : ∀ t : Fin grid0.N, win0_6.index t = ![0, 0])
/-- Where window 7's block starts at each point. -/
theorem e7 : ∀ t : Fin cfg0.N, win0_7.index t = ![0, 0] := (by decide +kernel : ∀ t : Fin grid0.N, win0_7.index t = ![0, 0])
/-- Where window 8's block starts at each point. -/
theorem e8 : ∀ t : Fin cfg0.N, win0_8.index t = ![t.val, 0] := (by decide +kernel : ∀ t : Fin grid0.N, win0_8.index t = ![t.val, 0])

/-- The weights and gains are whole blocks at every point. -/
theorem b3 (c : Dev nD) (t : Fin cfg0.N) (e k : Fin 1024) : iblk m c 3 t (ix2 e k) = m ((c : Thread nD τ).loc main_arg3) (ix2 e k) := by
  rw [← V5 m c]
  blk_simp [iblk]
  exact congrArg _ (by blk_ext [e3 t])

/-- A block that is whole at every point. -/
theorem b5 (c : Dev nD) (t : Fin cfg0.N) (e : Fin 1024) (k : Fin 4096) : iblk m c 5 t (ix2 e k) = m ((c : Thread nD τ).loc main_arg5) (ix2 e k) := by
  rw [← V6 m c]
  blk_simp [iblk]
  exact congrArg _ (by blk_ext [e5 t])

/-- A block that is whole at every point. -/
theorem b6 (c : Dev nD) (t : Fin cfg0.N) (e : Fin 4096) (k : Fin 1024) : iblk m c 6 t (ix2 e k) = m ((c : Thread nD τ).loc main_arg6) (ix2 e k) := by
  rw [← V7 m c]
  blk_simp [iblk]
  exact congrArg _ (by blk_ext [e6 t])

/-- A gain reshaped to one row, read lane by lane. -/
theorem sc1 (f : S1024.Idx → EReal) (k : Fin 1024) : shapeCast S1x1024 f shapeCasts_S1024_S1x1024 (ix2 0 k) = f (ix1 k) := by
  refine shapeCast_apply _ _ _ _ ?_
  rw [Shape.rowMajor_val_one, Shape.rowMajor_val_two]
  simp [ix1, ix2]

/-- A block that is whole at every point. -/
theorem b4 (c : Dev nD) (t : Fin cfg0.N) (k : Fin 1024) : iblk m c 4 t (ix2 0 k) = m ((c : Thread nD τ).loc main_arg4) (ix1 k) := by
  rw [← sc1 (m ((c : Thread nD τ).loc main_arg4)) k, ← V8 m c]
  blk_simp [iblk]
  exact congrArg _ (by blk_ext [e4 t])

/-- A block that is whole at every point. -/
theorem b7 (c : Dev nD) (t : Fin cfg0.N) (k : Fin 1024) : iblk m c 7 t (ix2 0 k) = m ((c : Thread nD τ).loc main_arg7) (ix1 k) := by
  rw [← sc1 (m ((c : Thread nD τ).loc main_arg7)) k, ← V9 m c]
  blk_simp [iblk]
  exact congrArg _ (by blk_ext [e7 t])

/-- The residual tokens as rows. -/
theorem sc1024 (f : S4x4096x1024.Idx → EReal) (i : Fin 16384) (k : Fin 1024) : shapeCast S16384x1024 f shapeCasts_S4x4096x1024_S16384x1024 (ix2 i k)
    = f (ix3 ⟨i.val / 4096, Nat.div_lt_of_lt_mul i.isLt⟩ ⟨i.val % 4096, Nat.mod_lt _ (by decide)⟩ k) := by
  refine shapeCast_apply _ _ _ _ ?_
  rw [Shape.rowMajor_val_three, Shape.rowMajor_val_two]
  simp [ix2, ix3]
  omega

/-- Row `r` of point `t`'s block of array 0 is the row of token `1024 t + r`. -/
theorem b0 (c : Dev nD) (t : Fin cfg0.N) (r : Fin 1024) (k : Fin 1024) (i : Fin 16384) (hi : i.val = 1024 * t.val + r.val) :
    iblk m c 0 t (ix2 r k) = m ((c : Thread nD τ).loc main_arg0) (ix3 ⟨i.val / 4096, Nat.div_lt_of_lt_mul i.isLt⟩ ⟨i.val % 4096, Nat.mod_lt _ (by decide)⟩ k) := by
  rw [← sc1024 (m ((c : Thread nD τ).loc main_arg0)) i k]
  refine Eq.trans ?_ (congrFun (V0 m c) (ix2 i k))
  blk_simp [iblk]
  exact congrArg (V m c main_v0) (by blk_ext [e0 t]; all_goals simp [ix2]; try omega)

/-- The mixers' tokens as rows. -/
theorem sc512 (f : S4x4096x512.Idx → EReal) (i : Fin 16384) (k : Fin 512) : shapeCast S16384x512 f shapeCasts_S4x4096x512_S16384x512 (ix2 i k)
    = f (ix3 ⟨i.val / 4096, Nat.div_lt_of_lt_mul i.isLt⟩ ⟨i.val % 4096, Nat.mod_lt _ (by decide)⟩ k) := by
  refine shapeCast_apply _ _ _ _ ?_
  rw [Shape.rowMajor_val_three, Shape.rowMajor_val_two]
  simp [ix2, ix3]
  omega

/-- Row `r` of point `t`'s block of array 1 is the row of token `1024 t + r`. -/
theorem b1 (c : Dev nD) (t : Fin cfg0.N) (r : Fin 1024) (k : Fin 512) (i : Fin 16384) (hi : i.val = 1024 * t.val + r.val) :
    iblk m c 1 t (ix2 r k) = m ((c : Thread nD τ).loc main_arg1) (ix3 ⟨i.val / 4096, Nat.div_lt_of_lt_mul i.isLt⟩ ⟨i.val % 4096, Nat.mod_lt _ (by decide)⟩ k) := by
  rw [← sc512 (m ((c : Thread nD τ).loc main_arg1)) i k]
  refine Eq.trans ?_ (congrFun (V2 m c) (ix2 i k))
  blk_simp [iblk]
  exact congrArg (V m c main_v2) (by blk_ext [e1 t]; all_goals simp [ix2]; try omega)

/-- Row `r` of point `t`'s block of array 2 is the row of token `1024 t + r`. -/
theorem b2 (c : Dev nD) (t : Fin cfg0.N) (r : Fin 1024) (k : Fin 512) (i : Fin 16384) (hi : i.val = 1024 * t.val + r.val) :
    iblk m c 2 t (ix2 r k) = m ((c : Thread nD τ).loc main_arg2) (ix3 ⟨i.val / 4096, Nat.div_lt_of_lt_mul i.isLt⟩ ⟨i.val % 4096, Nat.mod_lt _ (by decide)⟩ k) := by
  rw [← sc512 (m ((c : Thread nD τ).loc main_arg2)) i k]
  refine Eq.trans ?_ (congrFun (V4 m c) (ix2 i k))
  blk_simp [iblk]
  exact congrArg (V m c main_v4) (by blk_ext [e2 t]; all_goals simp [ix2]; try omega)

/-- The output array is `G` of the arguments: every block of 1024 tokens is `G`'s rows there. -/
theorem final (c : Dev nD) : (dats m 0 c).arrAt 8 cfg0.N = G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  have ht : t.val < 16 := t.isLt
  have hy : ∃ r d : Fin 1024, y = ix2 r d := ⟨y 0, y 1, by funext a; match a with | ⟨0, _⟩ => rfl | ⟨1, _⟩ => rfl⟩
  obtain ⟨r, d, rfl⟩ := hy
  have he : (win0_8.blk t).view.emb (ix2 r d) = ix2 ⟨1024 * t.val + r.val, by omega⟩ d := by
    blk_ext [e8 t]; all_goals simp [ix2]; try omega
  rw [he]
  refine (out_apply (iblk m c 0 t) (iblk m c 1 t) (iblk m c 2 t) (iblk m c 3 t) (iblk m c 4 t) (iblk m c 5 t) (iblk m c 6 t) (iblk m c 7 t) r d).trans ?_
  simp only [b3, b4, b5, b6, b7, fun k => b0 m c t r k ⟨1024 * t.val + r.val, by omega⟩ rfl,
    fun k => b1 m c t r k ⟨1024 * t.val + r.val, by omega⟩ rfl, fun k => b2 m c t r k ⟨1024 * t.val + r.val, by omega⟩ rfl]
  rfl

end Cert.Proof.Mlp
-- ==== Proof.MlpRef.lean ====
/-
  The reference's value: the host array the second reference returns is `G` of its arguments.
-/
module

public import proofs.«01_k».proof.Proof.MlpKernel
public import proofs.«01_k».proof.Proof.Gen.Reference2Ideal.Read
public import Idealize.ShloMosaic.Lib.Pointwise

@[expose] public section

noncomputable section

namespace Cert.Proof.Mlp
open Idealize.ShloMosaic Idealize.ShloMosaic.TcCoe Cert.Reference2Ideal Cert.Reference2Ideal.Read

variable (x : S4x4096x1024.Idx → EReal) (p a : S4x4096x512.Idx → EReal) (w : S1024x1024.Idx → EReal) (g2 : S1024.Idx → EReal)
    (wu : S1024x4096.Idx → EReal) (wd : S4096x1024.Idx → EReal) (fg : S1024.Idx → EReal) (b : Fin 4) (s : Fin 4096)

/-- The concatenated mixers, read lane by lane. -/
theorem r0l (k : Fin 512) : val_main_v0 (F := Ideal) p a (ix3 b s ⟨k.val, by omega⟩) = p (ix3 b s k) := by
  unfold val_main_v0
  simp [pointwise]
/-- The attention's half of the concatenated mixers. -/
theorem r0r (k : Fin 512) : val_main_v0 (F := Ideal) p a (ix3 b s ⟨512 + k.val, by omega⟩) = a (ix3 b s k) := by
  unfold val_main_v0
  simp [pointwise]

/-- A row's squares added, divided, and put under the root: the reference's steps are `rms`. -/
theorem rms_steps (h g : Fin 1024 → EReal) (sq : Fin 1024 → EReal) (hsq : ∀ k, sq k = h k * h k) (d : Fin 1024) :
    FloatOps.mulf (F := Ideal) (φ := .f32) (FloatOps.mulf (F := Ideal) (φ := .f32) (h d) (FloatOps.hostUnary (F := Ideal) (φ := .f32) .rsqrt (FloatOps.addf (F := Ideal) (φ := .f32)
      (FloatOps.hostDivf (F := Ideal) (φ := .f32) (Ideal.ofBits .f32 0x00000000#32 + ∑ k, sq k) (Ideal.ofBits .f32 0x44800000#32)) (Ideal.ofBits .f32 0x358637BD#32)))) (g d)
      = rms h g d := by
  rw [Ideal.ofBits_zero_f32, zero_add, Finset.sum_congr rfl (fun k _ => hsq k)]
  rfl

/-- The residual stream after the output projection. -/
theorem r2 (d : Fin 1024) : val_main_v2 (F := Ideal) x p a w (ix3 b s d)
    = mixed (fun k => x (ix3 b s k)) (fun k => p (ix3 b s k)) (fun k => a (ix3 b s k)) (fun e k => w (ix2 e k)) d := by
  rw [val_main_v2_apply, val_main_v1_apply]
  refine congrArg (x (ix3 b s d) + ·) ?_
  refine (Fin.sum_univ_add (a := 512) (b := 512) _).trans ?_
  refine congrArg₂ (· + ·) (Finset.sum_congr rfl fun k _ => congrArg₂ (· * ·) (Eq.trans ?_ (r0l p a b s k)) ?_)
    (Finset.sum_congr rfl fun k _ => congrArg₂ (· * ·) (Eq.trans ?_ (r0r p a b s k)) ?_)
  all_goals first | rfl | (refine congrArg _ (funext fun q => ?_); fin_cases q <;> rfl)

/-- The normed row before the MLP. -/
theorem r15 (d : Fin 1024) : val_main_v15 (F := Ideal) x p a w g2 (ix3 b s d)
    = rms (mixed (fun k => x (ix3 b s k)) (fun k => p (ix3 b s k)) (fun k => a (ix3 b s k)) (fun e k => w (ix2 e k))) (fun k => g2 (ix1 k)) d := by
  rw [val_main_v15_apply, val_main_v12_apply, val_main_v11_apply, val_main_v10_apply, val_main_v9_apply, val_main_v7_apply,
    val_main_v5_apply, val_main_v4_apply, val_main_v14_apply, val_main_v13_apply, r2]
  have hg : idx_main_v13 (idx_main_v14 (ix3 b s d)) = ix1 d := funext fun q => by fin_cases q; rfl
  rw [hg]
  exact rms_steps _ (fun k => g2 (ix1 k)) (fun k => val_main_v3 (F := Ideal) x p a w (idx_main_v4 (idx_main_v5 (idx_main_v11 (ix3 b s d))) k)) (fun k => by
    have hk : idx_main_v4 (idx_main_v5 (idx_main_v11 (ix3 b s d))) k = ix3 b s k := funext fun q => by fin_cases q <;> rfl
    rw [hk, val_main_v3_apply, r2]; rfl) d

local notation "H₁" => mixed (fun k => x (ix3 b s k)) (fun k => p (ix3 b s k)) (fun k => a (ix3 b s k)) (fun e k => w (ix2 e k))
local notation "H₂" => mlp H₁ (rms H₁ (fun k => g2 (ix1 k))) (fun k f => wu (ix2 k f)) (fun f k => wd (ix2 f k))

/-- A hidden unit after the ramp, before squaring. -/
theorem r17 (f : Fin 4096) : val_main_v17 (F := Ideal) x p a w g2 wu (ix3 b s f) = hid (rms H₁ (fun k => g2 (ix1 k))) (fun k f => wu (ix2 k f)) f := by
  rw [val_main_v17_apply, val_main_v16_apply, val_main_call0_v0_apply, val_main_call0_cst_apply]
  refine congrArg₂ max (Finset.sum_congr rfl fun k _ => congrArg₂ (· * ·) (Eq.trans ?_ (r15 x p a w g2 b s k)) ?_) Ideal.ofBits_zero_f32
  all_goals (refine congrArg _ (funext fun q => ?_); fin_cases q <;> rfl)

/-- The residual stream after the MLP. -/
theorem r20 (d : Fin 1024) : val_main_v20 (F := Ideal) x p a w g2 wu wd (ix3 b s d) = H₂ d := by
  rw [val_main_v20_apply, val_main_v19_apply, r2]
  refine congrArg (H₁ d + ·) (Finset.sum_congr rfl fun f _ => congrArg₂ (· * ·) ?_ ?_)
  · have hk : lidx_main_v19 (ix3 b s d) f = ix3 b s f := funext fun q => by fin_cases q <;> rfl
    rw [hk, val_main_v18_apply, r17]; rfl
  · refine congrArg _ (funext fun q => ?_); fin_cases q <;> rfl

/-- The final norm of the row. -/
theorem r33 (d : Fin 1024) : val_main_v33 (F := Ideal) x p a w g2 wu wd fg (ix3 b s d) = rms H₂ (fun k => fg (ix1 k)) d := by
  rw [val_main_v33_apply, val_main_v30_apply, val_main_v29_apply, val_main_v28_apply, val_main_v27_apply, val_main_v25_apply,
    val_main_v23_apply, val_main_v22_apply, val_main_v32_apply, val_main_v31_apply, r20]
  have hg : idx_main_v31 (idx_main_v32 (ix3 b s d)) = ix1 d := funext fun q => by fin_cases q; rfl
  rw [hg]
  exact rms_steps _ (fun k => fg (ix1 k)) (fun k => val_main_v21 (F := Ideal) x p a w g2 wu wd (idx_main_v22 (idx_main_v23 (idx_main_v29 (ix3 b s d))) k)) (fun k => by
    have hk : idx_main_v22 (idx_main_v23 (idx_main_v29 (ix3 b s d))) k = ix3 b s k := funext fun q => by fin_cases q <;> rfl
    rw [hk, val_main_v21_apply, r20]; rfl) d

/-- The reference's array is `G` of its arguments. -/
theorem ref_eq : val_main_v34 (F := Ideal) x p a w g2 wu wd fg = G x p a w g2 wu wd fg := by
  funext i
  have hi : idx_main_v34 i = ix3 ⟨(i 0).val / 4096, Nat.div_lt_of_lt_mul (i 0).isLt⟩ ⟨(i 0).val % 4096, Nat.mod_lt _ (by decide)⟩ (i 1) := by
    have h0 : (i 0).val < 16384 := (i 0).isLt
    have h1 : (i 1).val < 1024 := (i 1).isLt
    funext q
    fin_cases q <;> refine Fin.ext ?_
    · show ((i 0).val * 1024 + (i 1).val) / 4194304 = (i 0).val / 4096; omega
    · show ((i 0).val * 1024 + (i 1).val) / 1024 % 4096 = (i 0).val % 4096; omega
    · show ((i 0).val * 1024 + (i 1).val) % 1024 = (i 1).val; omega
  rw [val_main_v34_apply]
  exact (congrArg _ hi).trans (r33 x p a w g2 wu wd fg _ _ _)

end Cert.Proof.Mlp
-- ==== Proof.InpSpec.lean ====
/-
  The first call of the layer, one token at a time: the input projection of the normed row and the pooled mixer's row.
-/
module

public import proofs.«01_k».proof.Proof.MlpSpec

@[expose] public section

noncomputable section

namespace Cert.Proof.Inp
open Idealize.ShloMosaic
open scoped BigOperators

/-- RMS norm of a row of width 512 with gain `g`. -/
def rms5 (h g : Fin 512 → EReal) (d : Fin 512) : EReal :=
  h d * Ideal.rsqrt (Ideal.div (∑ k, h k * h k) (Ideal.ofBits .f32 0x44000000#32) + Ideal.ofBits .f32 0x358637BD#32) * g d

/-- The input projection of one token's normed row. -/
def proj (x g : Fin 1024 → EReal) (w : Fin 1024 → Fin 2048 → EReal) (d : Fin 2048) : EReal :=
  ∑ k, Mlp.rms x g k * w k d

/-- Two neighbours added: the value at `n` and the one before it. -/
def t2 (f : ℕ → EReal) (n : ℕ) : EReal := f n + f (n - 1)
/-- Four neighbours. -/
def t4 (f : ℕ → EReal) (n : ℕ) : EReal := t2 f n + t2 f (n - 2)
/-- Eight neighbours. -/
def t8 (f : ℕ → EReal) (n : ℕ) : EReal := t4 f n + t4 f (n - 4)
/-- Sixteen neighbours. -/
def t16 (f : ℕ → EReal) (n : ℕ) : EReal := t8 f n + t8 f (n - 8)

/-- One group of the pooled mixer: the pooled lanes through the group's map. -/
def gmap (p : Fin 128 → EReal) (w : Fin 128 → Fin 128 → EReal) (d : Fin 128) : EReal := ∑ k, p k * w k d

/-- The mixer's row before its norm: lane `d` is lane `d % 128` of group `d / 128`, scaled. -/
def yrow (mean : Fin 4 → Fin 128 → EReal) (u : Fin 512 → EReal) (w : Fin 4 → Fin 128 → Fin 128 → EReal) (sc : Fin 512 → EReal) (d : Fin 512) : EReal :=
  gmap (fun k => mean ⟨d.val / 128, by omega⟩ k - u ⟨128 * (d.val / 128) + k.val, by omega⟩) (w ⟨d.val / 128, by omega⟩) ⟨d.val % 128, by omega⟩ * sc d

/-- The pooled mixer's row. -/
def poolRow (mean : Fin 4 → Fin 128 → EReal) (u : Fin 512 → EReal) (w : Fin 4 → Fin 128 → Fin 128 → EReal) (sc pg : Fin 512 → EReal) : Fin 512 → EReal :=
  rms5 (yrow mean u w sc) pg

/-- A lane of group `g`. -/
theorem yrow_group (mean : Fin 4 → Fin 128 → EReal) (u : Fin 512 → EReal) (w : Fin 4 → Fin 128 → Fin 128 → EReal) (sc : Fin 512 → EReal)
    (g : Fin 4) (e : Fin 128) (d : Fin 512) (hd : d.val = 128 * g.val + e.val) :
    yrow mean u w sc d = gmap (fun k => mean g k - u ⟨128 * g.val + k.val, by omega⟩) (w g) e * sc d := by
  have h1 : d.val / 128 = g.val := by omega
  have h2 : d.val % 128 = e.val := by omega
  unfold yrow
  simp only [h1, h2]

end Cert.Proof.Inp
-- ==== Proof.InpPay.lean ====
/-
  The values the third program's kernel computes at one grid point, read lane by lane.
-/
module

public import proofs.«01_k».proof.Proof.InpSpec
public import proofs.«01_k».proof.Proof.Gen.Kernel3Ideal.Frame
public import proofs.«01_k».proof.Proof.Gen.Kernel3Ideal.Value
public import Idealize.ShloMosaic.Lib.Pointwise
public import Idealize.ShloMosaic.Lib.Pipeline.ValueKit
public import Idealize.ShloMosaic.PureOps.Ideal.Laws

@[expose] public section

set_option maxRecDepth 16384
noncomputable section

namespace Cert.Proof.Inp
open Idealize.ShloMosaic Idealize.ShloMosaic.TcCoe Cert.Kernel3Ideal Cert.Kernel3Ideal.Gen

/-- The normed row of a tile. -/
theorem pay10_apply (v12 : Vec Ideal S512x1024 .f32) (v14 : Vec Ideal S1x1024 .f32) (r : Fin 512) (d : Fin 1024) :
    k0_pay10 (F := Ideal) v12 v14 (ix2 r d) = Mlp.rms (fun k => v12 (ix2 r k)) (fun k => v14 (ix2 0 k)) d := by
  unfold k0_pay10
  simp only [pointwise]
  rfl

/-- The product that gives the queries before their scale. -/
theorem pay11_apply (v12 : Vec Ideal S512x1024 .f32) (v14 : Vec Ideal S1x1024 .f32) (w : Vec Ideal S1024x512 .bf16) (r d : Fin 512) :
    k0_pay11 (F := Ideal) v12 v14 w (ix2 r d) = ∑ k, k0_pay10 (F := Ideal) v12 v14 (ix2 r k) * w (ix2 k d) := by
  unfold k0_pay11
  generalize k0_pay10 (F := Ideal) v12 v14 = h
  simp only [pointwise]
  simp only [zero_add]

/-- The product that gives the keys. -/
theorem pay22_apply (h : FVec Ideal S512x1024 .bf16) (w : Vec Ideal S1024x512 .bf16) (r d : Fin 512) :
    k0_pay22 (F := Ideal) h w (ix2 r d) = ∑ k, h (ix2 r k) * w (ix2 k d) := by
  unfold k0_pay22
  simp only [pointwise]
  simp only [zero_add]

/-- The product that gives the values. -/
theorem pay32_apply (h : FVec Ideal S512x1024 .bf16) (w : Vec Ideal S1024x512 .bf16) (r d : Fin 512) :
    k0_pay32 (F := Ideal) h w (ix2 r d) = ∑ k, h (ix2 r k) * w (ix2 k d) := by
  unfold k0_pay32
  simp only [pointwise]
  simp only [zero_add]

/-- The product that gives the pooled mixer's inputs. -/
theorem pay49_apply (h : FVec Ideal S512x1024 .bf16) (w : Vec Ideal S1024x512 .bf16) (r d : Fin 512) :
    k0_pay49 (F := Ideal) h w (ix2 r d) = ∑ k, h (ix2 r k) * w (ix2 k d) := by
  unfold k0_pay49
  simp only [pointwise]
  simp only [zero_add]

/-- Head 0 of the queries. -/
theorem pay12_apply (v : FVec Ideal S512x512 .f32) (r : Fin 512) (d : Fin 128) :
    k0_pay12 (F := Ideal) v (ix4 0 0 r d) = v (ix2 r ⟨0 + d.val, by omega⟩) * Ideal.ofBits .f32 0x3E38AA3B#32 := by
  unfold k0_pay12
  simp only [pointwise]
  exact congrArg (fun y => v y * _) (congrArg₂ ix2 (Fin.ext (by show 0 + r.val = r.val; omega)) rfl)

/-- Head 1 of the queries. -/
theorem pay13_apply (v : FVec Ideal S512x512 .f32) (r : Fin 512) (d : Fin 128) :
    k0_pay13 (F := Ideal) v (ix4 0 0 r d) = v (ix2 r ⟨128 + d.val, by omega⟩) * Ideal.ofBits .f32 0x3E38AA3B#32 := by
  unfold k0_pay13
  simp only [pointwise]
  exact congrArg (fun y => v y * _) (congrArg₂ ix2 (Fin.ext (by show 0 + r.val = r.val; omega)) rfl)

/-- Head 2 of the queries. -/
theorem pay14_apply (v : FVec Ideal S512x512 .f32) (r : Fin 512) (d : Fin 128) :
    k0_pay14 (F := Ideal) v (ix4 0 0 r d) = v (ix2 r ⟨256 + d.val, by omega⟩) * Ideal.ofBits .f32 0x3E38AA3B#32 := by
  unfold k0_pay14
  simp only [pointwise]
  exact congrArg (fun y => v y * _) (congrArg₂ ix2 (Fin.ext (by show 0 + r.val = r.val; omega)) rfl)

/-- Head 3 of the queries. -/
theorem pay15_apply (v : FVec Ideal S512x512 .f32) (r : Fin 512) (d : Fin 128) :
    k0_pay15 (F := Ideal) v (ix4 0 0 r d) = v (ix2 r ⟨384 + d.val, by omega⟩) * Ideal.ofBits .f32 0x3E38AA3B#32 := by
  unfold k0_pay15
  simp only [pointwise]
  exact congrArg (fun y => v y * _) (congrArg₂ ix2 (Fin.ext (by show 0 + r.val = r.val; omega)) rfl)

/-- Head 0 of the keys. -/
theorem pay23_apply (h : FVec Ideal S512x1024 .bf16) (w : Vec Ideal S1024x512 .bf16) (r : Fin 512) (d : Fin 128) :
    k0_pay23 (F := Ideal) h w (ix4 0 0 r d) = ∑ k, h (ix2 r k) * w (ix2 k ⟨0 + d.val, by omega⟩) := by
  rw [← pay22_apply h w r]
  unfold k0_pay23
  generalize k0_pay22 (F := Ideal) h w = v
  simp only [pointwise]
  exact congrArg v (congrArg₂ ix2 (Fin.ext (by show 0 + r.val = r.val; omega)) rfl)

/-- Head 1 of the keys. -/
theorem pay24_apply (h : FVec Ideal S512x1024 .bf16) (w : Vec Ideal S1024x512 .bf16) (r : Fin 512) (d : Fin 128) :
    k0_pay24 (F := Ideal) h w (ix4 0 0 r d) = ∑ k, h (ix2 r k) * w (ix2 k ⟨128 + d.val, by omega⟩) := by
  rw [← pay22_apply h w r]
  unfold k0_pay24
  generalize k0_pay22 (F := Ideal) h w = v
  simp only [pointwise]
  exact congrArg v (congrArg₂ ix2 (Fin.ext (by show 0 + r.val = r.val; omega)) rfl)

/-- Head 2 of the keys. -/
theorem pay25_apply (h : FVec Ideal S512x1024 .bf16) (w : Vec Ideal S1024x512 .bf16) (r : Fin 512) (d : Fin 128) :
    k0_pay25 (F := Ideal) h w (ix4 0 0 r d) = ∑ k, h (ix2 r k) * w (ix2 k ⟨256 + d.val, by omega⟩) := by
  rw [← pay22_apply h w r]
  unfold k0_pay25
  generalize k0_pay22 (F := Ideal) h w = v
  simp only [pointwise]
  exact congrArg v (congrArg₂ ix2 (Fin.ext (by show 0 + r.val = r.val; omega)) rfl)

/-- Head 3 of the keys. -/
theorem pay27_apply (h : FVec Ideal S512x1024 .bf16) (w : Vec Ideal S1024x512 .bf16) (r : Fin 512) (d : Fin 128) :
    k0_pay27 (F := Ideal) (k0_pay26 (F := Ideal) h w) (ix4 0 0 r d) = ∑ k, h (ix2 r k) * w (ix2 k ⟨384 + d.val, by omega⟩) := by
  rw [← pay22_apply h w r]
  unfold k0_pay27 k0_pay26
  generalize k0_pay22 (F := Ideal) h w = v
  simp only [pointwise]
  exact congrArg v (congrArg₂ ix2 (Fin.ext (by show 0 + r.val = r.val; omega)) rfl)

/-- Head 0 of the values. -/
theorem pay33_apply (h : FVec Ideal S512x1024 .bf16) (w : Vec Ideal S1024x512 .bf16) (r : Fin 512) (d : Fin 128) :
    k0_pay33 (F := Ideal) h w (ix4 0 0 r d) = ∑ k, h (ix2 r k) * w (ix2 k ⟨0 + d.val, by omega⟩) := by
  rw [← pay32_apply h w r]
  unfold k0_pay33
  generalize k0_pay32 (F := Ideal) h w = v
  simp only [pointwise]
  exact congrArg v (congrArg₂ ix2 (Fin.ext (by show 0 + r.val = r.val; omega)) rfl)

/-- Head 1 of the values. -/
theorem pay34_apply (h : FVec Ideal S512x1024 .bf16) (w : Vec Ideal S1024x512 .bf16) (r : Fin 512) (d : Fin 128) :
    k0_pay34 (F := Ideal) h w (ix4 0 0 r d) = ∑ k, h (ix2 r k) * w (ix2 k ⟨128 + d.val, by omega⟩) := by
  rw [← pay32_apply h w r]
  unfold k0_pay34
  generalize k0_pay32 (F := Ideal) h w = v
  simp only [pointwise]
  exact congrArg v (congrArg₂ ix2 (Fin.ext (by show 0 + r.val = r.val; omega)) rfl)

/-- Head 2 of the values. -/
theorem pay36_apply (h : FVec Ideal S512x1024 .bf16) (w : Vec Ideal S1024x512 .bf16) (r : Fin 512) (d : Fin 128) :
    k0_pay36 (F := Ideal) (k0_pay35 (F := Ideal) h w) (ix4 0 0 r d) = ∑ k, h (ix2 r k) * w (ix2 k ⟨256 + d.val, by omega⟩) := by
  rw [← pay32_apply h w r]
  unfold k0_pay36 k0_pay35
  generalize k0_pay32 (F := Ideal) h w = v
  simp only [pointwise]
  exact congrArg v (congrArg₂ ix2 (Fin.ext (by show 0 + r.val = r.val; omega)) rfl)

/-- Head 3 of the values. -/
theorem pay37_apply (h : FVec Ideal S512x1024 .bf16) (w : Vec Ideal S1024x512 .bf16) (r : Fin 512) (d : Fin 128) :
    k0_pay37 (F := Ideal) (k0_pay32 (F := Ideal) h w) (ix4 0 0 r d) = ∑ k, h (ix2 r k) * w (ix2 k ⟨384 + d.val, by omega⟩) := by
  rw [← pay32_apply h w r]
  unfold k0_pay37
  generalize k0_pay32 (F := Ideal) h w = v
  simp only [pointwise]
  exact congrArg v (congrArg₂ ix2 (Fin.ext (by show 0 + r.val = r.val; omega)) rfl)

/-- A window's mean as the kernel takes it: the sum times the reciprocal width, a tile's first rows first scaled by the width over the count. -/
def meanV (w : BitVec 32) (cw ci : EReal) (p : BitVec 32) (s : EReal) (r : Fin 512) : EReal :=
  (if r.val < 16 then s * Ideal.div cw (FloatOps.sitofp (F := Ideal) .f32 (IntOp.minsi (IntOp.addi p 1#32) w)) else s) * ci

/-- Row `r`'s entry of a column of sixteen, or zero below it. -/
def at16 (p : IVec S16x1 32) (r : Fin 512) : BitVec 32 := if h : r.val < 16 then p (ix2 ⟨r.val, h⟩ 0) else 0#32

/-- The mean over two. -/
theorem pay39_apply (a : BitVec 32) (v : FVec Ideal S512x128 .f32) (r : Fin 512) (k : Fin 128) :
    k0_pay39 (F := Ideal) a v (ix2 r k) = meanV 2#32 (Ideal.ofBits .f32 0x40000000#32) (Ideal.ofBits .f32 0x3F000000#32) (at16 (k0_pay38 a) r) (v (ix2 r k)) r := by
  unfold k0_pay39
  generalize k0_pay38 a = p
  simp only [pointwise]
  unfold meanV at16
  refine congrArg (· * _) ?_
  by_cases h : r.val < 16
  · rw [dif_pos h, if_pos h, dif_pos h]
    refine congrArg₂ (· * ·) (congrArg v (congrArg₂ ix2 (Fin.ext (by show 0 + r.val = r.val; omega)) (Fin.ext (by show 0 + k.val = k.val; omega)))) ?_
    rfl
  · rw [dif_neg h, if_neg h]
    exact congrArg v (congrArg₂ ix2 (Fin.ext (by show 16 + (r.val - 16) = r.val; omega)) (Fin.ext (by show 0 + k.val = k.val; omega)))

/-- The mean over eight. -/
theorem pay42_apply (p : IVec S16x1 32) (v : FVec Ideal S512x128 .f32) (r : Fin 512) (k : Fin 128) :
    k0_pay42 (F := Ideal) v p (ix2 r k) = meanV 8#32 (Ideal.ofBits .f32 0x41000000#32) (Ideal.ofBits .f32 0x3E000000#32) (at16 p r) (v (ix2 r k)) r := by
  unfold k0_pay42
  simp only [pointwise]
  unfold meanV at16
  refine congrArg (· * _) ?_
  by_cases h : r.val < 16
  · rw [dif_pos h, if_pos h, dif_pos h]
    refine congrArg₂ (· * ·) (congrArg v (congrArg₂ ix2 (Fin.ext (by show 0 + r.val = r.val; omega)) (Fin.ext (by show 0 + k.val = k.val; omega)))) ?_
    rfl
  · rw [dif_neg h, if_neg h]
    exact congrArg v (congrArg₂ ix2 (Fin.ext (by show 16 + (r.val - 16) = r.val; omega)) (Fin.ext (by show 0 + k.val = k.val; omega)))

/-- The first group. -/
theorem pay40_apply (m : FVec Ideal S512x128 .f32) (u : Vec Ideal S512x128 .f32) (w : Vec Ideal S1x128x128 .f32) (r : Fin 512) (e : Fin 128) :
    k0_pay40 (F := Ideal) m u w (ix2 r e) = gmap (fun k => m (ix2 r k) - u (ix2 r k)) (fun k e => w (ix3 0 k e)) e := by
  unfold k0_pay40
  simp only [pointwise]
  simp only [zero_add]
  rfl

/-- The second group, with the mean over four. -/
theorem pay41_apply (p : IVec S16x1 32) (v : FVec Ideal S512x128 .f32) (u : Vec Ideal S512x128 .f32) (w : Vec Ideal S1x128x128 .f32) (r : Fin 512) (e : Fin 128) :
    k0_pay41 (F := Ideal) v p u w (ix2 r e) = gmap (fun k => meanV 4#32 (Ideal.ofBits .f32 0x40800000#32) (Ideal.ofBits .f32 0x3E800000#32) (at16 p r) (v (ix2 r k)) r
      - u (ix2 r k)) (fun k e => w (ix3 0 k e)) e := by
  unfold k0_pay41
  simp only [pointwise]
  simp only [zero_add]
  refine Finset.sum_congr rfl fun k _ => congrArg (· * w (ix3 0 k e)) (congrArg (· - u (ix2 r k)) ?_)
  unfold meanV at16
  refine congrArg (· * _) ?_
  by_cases h : r.val < 16
  · rw [dif_pos h, if_pos h, dif_pos h]
    refine congrArg₂ (· * ·) (congrArg v (congrArg₂ ix2 (Fin.ext (by show 0 + r.val = r.val; omega)) (Fin.ext (by show 0 + k.val = k.val; omega)))) ?_
    rfl
  · rw [dif_neg h, if_neg h]
    exact congrArg v (congrArg₂ ix2 (Fin.ext (by show 16 + (r.val - 16) = r.val; omega)) (Fin.ext (by show 0 + k.val = k.val; omega)))

/-- Group 0 of the scaled row. -/
theorem pay43_g0 (v107 : FVec Ideal S512x128 .f32) (p : IVec S16x1 32) (v166 v187 v201 : FVec Ideal S512x128 .f32) (v202 : Vec Ideal S512x128 .f32) (v205 : Vec Ideal S1x128x128 .f32) (v223 : Vec Ideal S512x128 .f32) (v226 : Vec Ideal S1x128x128 .f32) (sc : Vec Ideal S1x512 .f32) (r : Fin 512) (e : Fin 128) (d : Fin 512) (hd : d.val = 0 + e.val) :
    k0_pay43 (F := Ideal) v107 p v166 v187 v201 v202 v205 v223 v226 sc (ix2 r d) = v166 (ix2 r e) * sc (ix2 0 d) := by
  unfold k0_pay43
  simp only [pointwise]
  refine congrArg₂ (· * ·) ?_ rfl
  simp only [zero_add]
  refine (dif_pos (by show d.val < 128; omega)).trans ?_
  exact congrArg v166 (congrArg₂ ix2 rfl (Fin.ext (by show d.val = e.val; omega)))

/-- Group 1 of the scaled row. -/
theorem pay43_g1 (v107 : FVec Ideal S512x128 .f32) (p : IVec S16x1 32) (v166 v187 v201 : FVec Ideal S512x128 .f32) (v202 : Vec Ideal S512x128 .f32) (v205 : Vec Ideal S1x128x128 .f32) (v223 : Vec Ideal S512x128 .f32) (v226 : Vec Ideal S1x128x128 .f32) (sc : Vec Ideal S1x512 .f32) (r : Fin 512) (e : Fin 128) (d : Fin 512) (hd : d.val = 128 + e.val) :
    k0_pay43 (F := Ideal) v107 p v166 v187 v201 v202 v205 v223 v226 sc (ix2 r d) = v187 (ix2 r e) * sc (ix2 0 d) := by
  unfold k0_pay43
  simp only [pointwise]
  refine congrArg₂ (· * ·) ?_ rfl
  simp only [zero_add]
  refine (dif_neg (by show ¬ (d.val < 128); omega)).trans ?_
  refine (dif_pos (by show d.val - 128 < 128; omega)).trans ?_
  exact congrArg v187 (congrArg₂ ix2 rfl (Fin.ext (by show d.val - 128 = e.val; omega)))

/-- Group 2 of the scaled row. -/
theorem pay43_g2 (v107 : FVec Ideal S512x128 .f32) (p : IVec S16x1 32) (v166 v187 v201 : FVec Ideal S512x128 .f32) (v202 : Vec Ideal S512x128 .f32) (v205 : Vec Ideal S1x128x128 .f32) (v223 : Vec Ideal S512x128 .f32) (v226 : Vec Ideal S1x128x128 .f32) (sc : Vec Ideal S1x512 .f32) (r : Fin 512) (e : Fin 128) (d : Fin 512) (hd : d.val = 256 + e.val) :
    k0_pay43 (F := Ideal) v107 p v166 v187 v201 v202 v205 v223 v226 sc (ix2 r d) = gmap (fun k => v201 (ix2 r k) - v202 (ix2 r k)) (fun k e => v205 (ix3 0 k e)) e * sc (ix2 0 d) := by
  unfold k0_pay43
  simp only [pointwise]
  refine congrArg₂ (· * ·) ?_ rfl
  simp only [zero_add]
  refine (dif_neg (by show ¬ (d.val < 128); omega)).trans ?_
  refine (dif_neg (by show ¬ (d.val - 128 < 128); omega)).trans ?_
  refine (dif_pos (by show d.val - 128 - 128 < 128; omega)).trans ?_
  exact Finset.sum_congr rfl fun k _ => congrArg₂ (· * ·) rfl (congrArg v205 (congrArg (ix3 0 k) (Fin.ext (by show d.val - 128 - 128 = e.val; omega))))

/-- Group 3 of the scaled row. -/
theorem pay43_g3 (v107 : FVec Ideal S512x128 .f32) (p : IVec S16x1 32) (v166 v187 v201 : FVec Ideal S512x128 .f32) (v202 : Vec Ideal S512x128 .f32) (v205 : Vec Ideal S1x128x128 .f32) (v223 : Vec Ideal S512x128 .f32) (v226 : Vec Ideal S1x128x128 .f32) (sc : Vec Ideal S1x512 .f32) (r : Fin 512) (e : Fin 128) (d : Fin 512) (hd : d.val = 384 + e.val) :
    k0_pay43 (F := Ideal) v107 p v166 v187 v201 v202 v205 v223 v226 sc (ix2 r d) = gmap (fun k => meanV 16#32 (Ideal.ofBits .f32 0x41800000#32) (Ideal.ofBits .f32 0x3D800000#32) (at16 p r) (v107 (ix2 r k)) r - v223 (ix2 r k)) (fun k e => v226 (ix3 0 k e)) e * sc (ix2 0 d) := by
  unfold k0_pay43
  simp only [pointwise]
  refine congrArg₂ (· * ·) ?_ rfl
  refine (dif_neg (by show ¬ (d.val < 128); omega)).trans ?_
  refine (dif_neg (by show ¬ (d.val - 128 < 128); omega)).trans ?_
  refine (dif_neg (by show ¬ (d.val - 128 - 128 < 128); omega)).trans ?_
  refine (zero_add _).trans ?_
  refine Finset.sum_congr rfl fun k _ => congrArg₂ (· * ·) (congrArg₂ (· - ·) (congrArg (· * _) ?_) rfl) (congrArg v226 (congrArg (ix3 0 k) (Fin.ext (by show d.val - 128 - 128 - 128 = e.val; omega))))
  unfold at16
  by_cases h : r.val < 16
  · refine (dif_pos h).trans (Eq.trans ?_ (if_pos h).symm)
    rw [dif_pos h]
    refine congrArg₂ (· * ·) (congrArg v107 (congrArg₂ ix2 (Fin.ext (by show 0 + r.val = r.val; omega)) (Fin.ext (by show 0 + k.val = k.val; omega)))) ?_
    rfl
  · refine (dif_neg h).trans (Eq.trans ?_ (if_neg h).symm)
    exact congrArg v107 (congrArg₂ ix2 (Fin.ext (by show 16 + (r.val - 16) = r.val; omega)) (Fin.ext (by show 0 + k.val = k.val; omega)))

/-- The norm of the scaled row. -/
theorem pay47_apply (v107 : FVec Ideal S512x128 .f32) (p : IVec S16x1 32) (v166 v187 v201 : FVec Ideal S512x128 .f32) (v202 : Vec Ideal S512x128 .f32) (v205 : Vec Ideal S1x128x128 .f32) (v223 : Vec Ideal S512x128 .f32) (v226 : Vec Ideal S1x128x128 .f32) (sc pg : Vec Ideal S1x512 .f32) (r d : Fin 512) :
    k0_pay47 (F := Ideal) (k0_pay43 (F := Ideal) v107 p v166 v187 v201 v202 v205 v223 v226 sc) (k0_pay44 (F := Ideal) pg)
      (k0_pay45 (F := Ideal) v107 p v166 v187 v201 v202 v205 v223 v226 sc) (k0_pay46 (F := Ideal)) (ix2 r d)
    = rms5 (fun k => k0_pay43 (F := Ideal) v107 p v166 v187 v201 v202 v205 v223 v226 sc (ix2 r k)) (fun k => pg (ix2 0 k)) d := by
  unfold k0_pay47 k0_pay45 k0_pay44 k0_pay46
  generalize k0_pay43 (F := Ideal) v107 p v166 v187 v201 v202 v205 v223 v226 sc = h
  simp only [pointwise]
  rfl

end Cert.Proof.Inp
-- ==== Proof.InpKernel.lean ====
/-
  What one grid point leaves in the third program's blocks and scratch, over the tile it reads.
-/
module

public import proofs.«01_k».proof.Proof.InpPay
public import Idealize.ShloMosaic.Lib.Pointwise
public import Idealize.ShloMosaic.Lib.WritesUnit
public import Idealize.ShloMosaic.Lib.Pipeline.ValueKit
public import Idealize.ShloMosaic.PureOps.Ideal.Laws

@[expose] public section

set_option maxRecDepth 16384
noncomputable section

namespace Cert.Proof.Inp
open Idealize.ShloMosaic Idealize.ShloMosaic.TcCoe Cert.Kernel3Ideal Cert.Kernel3Ideal.Gen

/-- A covered load of one whole store reads the stored array. -/
theorem rc0 {sg : RefSig} {κ : Kind} {sp : Space} {S : Shape} {e : EltTy} (v : View sg κ sp S e) {off : Fin S.rank → Nat} (h : ∀ a, off a = 0)
    (inb : ∀ a, off a + S.size a ≤ S.size a) (w : S.Idx → Elt Ideal e) (r : Rect S) :
    v.readCov [(⟨Rect.unit off (no_index S.size) inb, w⟩ : View.Piece (Elt Ideal) S e)] r.toLoadRect = View.ld w r := by
  rw [View.readCov_eq_canon']
  obtain rfl : off = fun _ => 0 := funext h
  rw [View.canon_unit_zero rfl]

/-- The carried weights after the first point are the weights. -/
theorem pay2_eq (x2 : Vec Ideal S1024x2048 .f32) : k0_pay2 (F := Ideal) x2 = x2 := by
  funext y
  obtain ⟨r, d, rfl⟩ : ∃ (r : Fin 1024) (d : Fin 2048), y = ix2 r d := ⟨y 0, y 1, by funext a; match a with | ⟨0, _⟩ => rfl | ⟨1, _⟩ => rfl⟩
  unfold k0_pay2
  simp only [pointwise]

/-- The stored tile is the product. -/
theorem pay1_apply (v : FVec Ideal S512x512 .f32) (r d : Fin 512) : k0_pay1 (F := Ideal) v (ix2 r d) = v (ix2 r d) := by
  unfold k0_pay1
  simp only [pointwise]

/-- The bit that says a tile starts a sequence. -/
def startBit (a : BitVec 32) : BitVec 1 :=
  let v251 : BitVec 32 := Scalar.minsi a 31#32
  let v252 : BitVec 1 := Scalar.cmpi .eq 8#32 0#32
  let v253 : BitVec 32 := Scalar.select v252 1#32 8#32
  let v254 : BitVec 32 := Scalar.remsi v251 v253
  let v255 : BitVec 1 := Scalar.cmpi .ne v254 0#32
  let v256 : BitVec 1 := Scalar.cmpi .slt v254 0#32
  let v257 : BitVec 1 := Scalar.cmpi .slt v253 0#32
  let v258 : BitVec 1 := Scalar.xori v256 v257
  let v259 : BitVec 1 := Scalar.andi v258 v255
  let v260 : BitVec 32 := Scalar.addi v254 v253
  let v261 : BitVec 32 := Scalar.select v259 v260 v254
  Scalar.cmpi .eq v261 0#32

/-- The halo rows: zero at a sequence's start, else the rows handed over. -/
theorem pay48_apply (a : BitVec 32) (v : Vec Ideal S16x512 .f32) (r : Fin 16) (d : Fin 512) :
    k0_pay48 (F := Ideal) a v (ix2 r d) = if startBit a = 1#1 then 0 else v (ix2 r d) := by
  unfold k0_pay48
  simp only [pointwise]
  rfl

/-- The queries, at a point of case B. -/
theorem oB10 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .f32) (harg3 : arg3.IsWhole) (arg4 : Memref sig .tc .vmem S4x128x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S32x1024 .f32) (harg7 : arg7.IsWhole) (arg8 : Memref sig .tc .vmem S1024x128 .f32) (harg8 : arg8.IsWhole) (arg9 : Memref sig .tc .vmem S128x1024 .f32) (harg9 : arg9.IsWhole) (arg10 : Memref sig .tc .vmem S512x512 .bf16) (harg10 : arg10.IsWhole) (arg11 : Memref sig .tc .vmem S1x4x512x128 .bf16) (harg11 : arg11.IsWhole) (arg12 : Memref sig .tc .vmem S1x4x512x128 .bf16) (harg12 : arg12.IsWhole) (arg13 : Memref sig .tc .vmem S1x4x512x128 .bf16) (harg13 : arg13.IsWhole) (arg14 : Memref sig .tc .vmem S32x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1024x2048 .bf16) (harg17 : arg17.IsWhole) (arg18 : Memref sig .tc .vmem S536x512 .f32) (harg18 : arg18.IsWhole) (arg19 : Memref sig .tc .vmem S536x384 .f32) (harg19 : arg19.IsWhole) (arg20 : Memref sig .tc .vmem S536x256 .f32) (harg20 : arg20.IsWhole) (arg21 : Memref sig .tc .vmem S536x128 .f32) (harg21 : arg21.IsWhole) (hc0 : ¬cond0_0 i)
    (x0 : Vec Ideal S512x1024 .f32) (x1 : Vec Ideal S1x1024 .f32) (x2 : Vec Ideal S1024x2048 .f32) (x3 : Vec Ideal S4x128x128 .f32) (x4 : Vec Ideal S1x512 .f32) (x5 : Vec Ideal S1x512 .f32) (x6 : Vec Ideal S32x1024 .f32) (x7 : Vec Ideal S1024x128 .f32) (x8 : Vec Ideal S128x1024 .f32) (xs0 : Vec Ideal S1024x2048 .bf16) (xs1 : Vec Ideal S536x512 .f32) (xs2 : Vec Ideal S536x384 .f32) (xs3 : Vec Ideal S536x256 .f32) (y : S1x4x512x128.Idx) (q : Fin 2048) (hq : q.val = 512 + 128 * (y 1).val + (y 3).val) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 xs0 xs1 xs2 xs3 y = (∑ k, k0_pay10 (F := Ideal) x0 x1 (ix2 (y 2) k) * xs0 (ix2 k q)) * Ideal.ofBits .f32 0x3E38AA3B#32 := by
  frame_out
  canon_tiles x h
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 3 := h1
    have h3' : (y 3).val = d.val := h3
    rw [pay15_apply, pay11_apply, hr]
    refine congrArg (· * _) ?_
    refine Finset.sum_congr rfl fun k _ => congrArg (_ * ·) ?_
    simp only [pointwise]
    exact congrArg xs0 (congrArg₂ ix2 (Fin.ext (by show 0 + 1 * k.val = k.val; omega)) (Fin.ext (by show 512 + 1 * (384 + d.val) = q.val; omega)))
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 2 := h1
    have h3' : (y 3).val = d.val := h3
    rw [pay14_apply, pay11_apply, hr]
    refine congrArg (· * _) ?_
    refine Finset.sum_congr rfl fun k _ => congrArg (_ * ·) ?_
    simp only [pointwise]
    exact congrArg xs0 (congrArg₂ ix2 (Fin.ext (by show 0 + 1 * k.val = k.val; omega)) (Fin.ext (by show 512 + 1 * (256 + d.val) = q.val; omega)))
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 1 := h1
    have h3' : (y 3).val = d.val := h3
    rw [pay13_apply, pay11_apply, hr]
    refine congrArg (· * _) ?_
    refine Finset.sum_congr rfl fun k _ => congrArg (_ * ·) ?_
    simp only [pointwise]
    exact congrArg xs0 (congrArg₂ ix2 (Fin.ext (by show 0 + 1 * k.val = k.val; omega)) (Fin.ext (by show 512 + 1 * (128 + d.val) = q.val; omega)))
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 0 := h1
    have h3' : (y 3).val = d.val := h3
    rw [pay12_apply, pay11_apply, hr]
    refine congrArg (· * _) ?_
    refine Finset.sum_congr rfl fun k _ => congrArg (_ * ·) ?_
    simp only [pointwise]
    exact congrArg xs0 (congrArg₂ ix2 (Fin.ext (by show 0 + 1 * k.val = k.val; omega)) (Fin.ext (by show 512 + 1 * (0 + d.val) = q.val; omega)))

/-- The keys, at a point of case B. -/
theorem oB11 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .f32) (harg3 : arg3.IsWhole) (arg4 : Memref sig .tc .vmem S4x128x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S32x1024 .f32) (harg7 : arg7.IsWhole) (arg8 : Memref sig .tc .vmem S1024x128 .f32) (harg8 : arg8.IsWhole) (arg9 : Memref sig .tc .vmem S128x1024 .f32) (harg9 : arg9.IsWhole) (arg10 : Memref sig .tc .vmem S512x512 .bf16) (harg10 : arg10.IsWhole) (arg11 : Memref sig .tc .vmem S1x4x512x128 .bf16) (harg11 : arg11.IsWhole) (arg12 : Memref sig .tc .vmem S1x4x512x128 .bf16) (harg12 : arg12.IsWhole) (arg13 : Memref sig .tc .vmem S1x4x512x128 .bf16) (harg13 : arg13.IsWhole) (arg14 : Memref sig .tc .vmem S32x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1024x2048 .bf16) (harg17 : arg17.IsWhole) (arg18 : Memref sig .tc .vmem S536x512 .f32) (harg18 : arg18.IsWhole) (arg19 : Memref sig .tc .vmem S536x384 .f32) (harg19 : arg19.IsWhole) (arg20 : Memref sig .tc .vmem S536x256 .f32) (harg20 : arg20.IsWhole) (arg21 : Memref sig .tc .vmem S536x128 .f32) (harg21 : arg21.IsWhole) (hc0 : ¬cond0_0 i)
    (x0 : Vec Ideal S512x1024 .f32) (x1 : Vec Ideal S1x1024 .f32) (x2 : Vec Ideal S1024x2048 .f32) (x3 : Vec Ideal S4x128x128 .f32) (x4 : Vec Ideal S1x512 .f32) (x5 : Vec Ideal S1x512 .f32) (x6 : Vec Ideal S32x1024 .f32) (x7 : Vec Ideal S1024x128 .f32) (x8 : Vec Ideal S128x1024 .f32) (xs0 : Vec Ideal S1024x2048 .bf16) (xs1 : Vec Ideal S536x512 .f32) (xs2 : Vec Ideal S536x384 .f32) (xs3 : Vec Ideal S536x256 .f32) (y : S1x4x512x128.Idx) (q : Fin 2048) (hq : q.val = 1024 + 128 * (y 1).val + (y 3).val) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 xs0 xs1 xs2 xs3 y = (∑ k, k0_pay10 (F := Ideal) x0 x1 (ix2 (y 2) k) * xs0 (ix2 k q)) := by
  frame_out
  canon_tiles x h
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 3 := h1
    have h3' : (y 3).val = d.val := h3
    rw [pay27_apply, hr]
    refine Finset.sum_congr rfl fun k _ => congrArg (_ * ·) ?_
    simp only [pointwise]
    exact congrArg xs0 (congrArg₂ ix2 (Fin.ext (by show 0 + 1 * k.val = k.val; omega)) (Fin.ext (by show 1024 + 1 * (384 + d.val) = q.val; omega)))
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 2 := h1
    have h3' : (y 3).val = d.val := h3
    rw [pay25_apply, hr]
    refine Finset.sum_congr rfl fun k _ => congrArg (_ * ·) ?_
    simp only [pointwise]
    exact congrArg xs0 (congrArg₂ ix2 (Fin.ext (by show 0 + 1 * k.val = k.val; omega)) (Fin.ext (by show 1024 + 1 * (256 + d.val) = q.val; omega)))
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 1 := h1
    have h3' : (y 3).val = d.val := h3
    rw [pay24_apply, hr]
    refine Finset.sum_congr rfl fun k _ => congrArg (_ * ·) ?_
    simp only [pointwise]
    exact congrArg xs0 (congrArg₂ ix2 (Fin.ext (by show 0 + 1 * k.val = k.val; omega)) (Fin.ext (by show 1024 + 1 * (128 + d.val) = q.val; omega)))
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 0 := h1
    have h3' : (y 3).val = d.val := h3
    rw [pay23_apply, hr]
    refine Finset.sum_congr rfl fun k _ => congrArg (_ * ·) ?_
    simp only [pointwise]
    exact congrArg xs0 (congrArg₂ ix2 (Fin.ext (by show 0 + 1 * k.val = k.val; omega)) (Fin.ext (by show 1024 + 1 * (0 + d.val) = q.val; omega)))

/-- The values, at a point of case B. -/
theorem oB12 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .f32) (harg3 : arg3.IsWhole) (arg4 : Memref sig .tc .vmem S4x128x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S32x1024 .f32) (harg7 : arg7.IsWhole) (arg8 : Memref sig .tc .vmem S1024x128 .f32) (harg8 : arg8.IsWhole) (arg9 : Memref sig .tc .vmem S128x1024 .f32) (harg9 : arg9.IsWhole) (arg10 : Memref sig .tc .vmem S512x512 .bf16) (harg10 : arg10.IsWhole) (arg11 : Memref sig .tc .vmem S1x4x512x128 .bf16) (harg11 : arg11.IsWhole) (arg12 : Memref sig .tc .vmem S1x4x512x128 .bf16) (harg12 : arg12.IsWhole) (arg13 : Memref sig .tc .vmem S1x4x512x128 .bf16) (harg13 : arg13.IsWhole) (arg14 : Memref sig .tc .vmem S32x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1024x2048 .bf16) (harg17 : arg17.IsWhole) (arg18 : Memref sig .tc .vmem S536x512 .f32) (harg18 : arg18.IsWhole) (arg19 : Memref sig .tc .vmem S536x384 .f32) (harg19 : arg19.IsWhole) (arg20 : Memref sig .tc .vmem S536x256 .f32) (harg20 : arg20.IsWhole) (arg21 : Memref sig .tc .vmem S536x128 .f32) (harg21 : arg21.IsWhole) (hc0 : ¬cond0_0 i)
    (x0 : Vec Ideal S512x1024 .f32) (x1 : Vec Ideal S1x1024 .f32) (x2 : Vec Ideal S1024x2048 .f32) (x3 : Vec Ideal S4x128x128 .f32) (x4 : Vec Ideal S1x512 .f32) (x5 : Vec Ideal S1x512 .f32) (x6 : Vec Ideal S32x1024 .f32) (x7 : Vec Ideal S1024x128 .f32) (x8 : Vec Ideal S128x1024 .f32) (xs0 : Vec Ideal S1024x2048 .bf16) (xs1 : Vec Ideal S536x512 .f32) (xs2 : Vec Ideal S536x384 .f32) (xs3 : Vec Ideal S536x256 .f32) (y : S1x4x512x128.Idx) (q : Fin 2048) (hq : q.val = 1536 + 128 * (y 1).val + (y 3).val) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 xs0 xs1 xs2 xs3 y = (∑ k, k0_pay10 (F := Ideal) x0 x1 (ix2 (y 2) k) * xs0 (ix2 k q)) := by
  frame_out
  canon_tiles x h
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 3 := h1
    have h3' : (y 3).val = d.val := h3
    rw [pay37_apply, hr]
    refine Finset.sum_congr rfl fun k _ => congrArg (_ * ·) ?_
    simp only [pointwise]
    exact congrArg xs0 (congrArg₂ ix2 (Fin.ext (by show 0 + 1 * k.val = k.val; omega)) (Fin.ext (by show 1536 + 1 * (384 + d.val) = q.val; omega)))
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 2 := h1
    have h3' : (y 3).val = d.val := h3
    rw [pay36_apply, hr]
    refine Finset.sum_congr rfl fun k _ => congrArg (_ * ·) ?_
    simp only [pointwise]
    exact congrArg xs0 (congrArg₂ ix2 (Fin.ext (by show 0 + 1 * k.val = k.val; omega)) (Fin.ext (by show 1536 + 1 * (256 + d.val) = q.val; omega)))
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 1 := h1
    have h3' : (y 3).val = d.val := h3
    rw [pay34_apply, hr]
    refine Finset.sum_congr rfl fun k _ => congrArg (_ * ·) ?_
    simp only [pointwise]
    exact congrArg xs0 (congrArg₂ ix2 (Fin.ext (by show 0 + 1 * k.val = k.val; omega)) (Fin.ext (by show 1536 + 1 * (128 + d.val) = q.val; omega)))
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 0 := h1
    have h3' : (y 3).val = d.val := h3
    rw [pay33_apply, hr]
    refine Finset.sum_congr rfl fun k _ => congrArg (_ * ·) ?_
    simp only [pointwise]
    exact congrArg xs0 (congrArg₂ ix2 (Fin.ext (by show 0 + 1 * k.val = k.val; omega)) (Fin.ext (by show 1536 + 1 * (0 + d.val) = q.val; omega)))

/-- A slab of weights cast for the later calls, at a point of case B. -/
theorem oB13 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .f32) (harg3 : arg3.IsWhole) (arg4 : Memref sig .tc .vmem S4x128x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S32x1024 .f32) (harg7 : arg7.IsWhole) (arg8 : Memref sig .tc .vmem S1024x128 .f32) (harg8 : arg8.IsWhole) (arg9 : Memref sig .tc .vmem S128x1024 .f32) (harg9 : arg9.IsWhole) (arg10 : Memref sig .tc .vmem S512x512 .bf16) (harg10 : arg10.IsWhole) (arg11 : Memref sig .tc .vmem S1x4x512x128 .bf16) (harg11 : arg11.IsWhole) (arg12 : Memref sig .tc .vmem S1x4x512x128 .bf16) (harg12 : arg12.IsWhole) (arg13 : Memref sig .tc .vmem S1x4x512x128 .bf16) (harg13 : arg13.IsWhole) (arg14 : Memref sig .tc .vmem S32x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1024x2048 .bf16) (harg17 : arg17.IsWhole) (arg18 : Memref sig .tc .vmem S536x512 .f32) (harg18 : arg18.IsWhole) (arg19 : Memref sig .tc .vmem S536x384 .f32) (harg19 : arg19.IsWhole) (arg20 : Memref sig .tc .vmem S536x256 .f32) (harg20 : arg20.IsWhole) (arg21 : Memref sig .tc .vmem S536x128 .f32) (harg21 : arg21.IsWhole) (hc0 : ¬cond0_0 i)
    (x0 : Vec Ideal S512x1024 .f32) (x1 : Vec Ideal S1x1024 .f32) (x2 : Vec Ideal S1024x2048 .f32) (x3 : Vec Ideal S4x128x128 .f32) (x4 : Vec Ideal S1x512 .f32) (x5 : Vec Ideal S1x512 .f32) (x6 : Vec Ideal S32x1024 .f32) (x7 : Vec Ideal S1024x128 .f32) (x8 : Vec Ideal S128x1024 .f32) (xs0 : Vec Ideal S1024x2048 .bf16) (xs1 : Vec Ideal S536x512 .f32) (xs2 : Vec Ideal S536x384 .f32) (xs3 : Vec Ideal S536x256 .f32) (y : S32x1024.Idx) : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 xs0 xs1 xs2 xs3 y = x6 y := by
  frame_out
  obtain ⟨r, d, rfl⟩ : ∃ (r : Fin 32) (d : Fin 1024), y = ix2 r d := ⟨y 0, y 1, by funext a; match a with | ⟨0, _⟩ => rfl | ⟨1, _⟩ => rfl⟩
  unfold k0_pay7
  simp only [pointwise]

/-- A slab of weights cast for the later calls, at a point of case B. -/
theorem oB14 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .f32) (harg3 : arg3.IsWhole) (arg4 : Memref sig .tc .vmem S4x128x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S32x1024 .f32) (harg7 : arg7.IsWhole) (arg8 : Memref sig .tc .vmem S1024x128 .f32) (harg8 : arg8.IsWhole) (arg9 : Memref sig .tc .vmem S128x1024 .f32) (harg9 : arg9.IsWhole) (arg10 : Memref sig .tc .vmem S512x512 .bf16) (harg10 : arg10.IsWhole) (arg11 : Memref sig .tc .vmem S1x4x512x128 .bf16) (harg11 : arg11.IsWhole) (arg12 : Memref sig .tc .vmem S1x4x512x128 .bf16) (harg12 : arg12.IsWhole) (arg13 : Memref sig .tc .vmem S1x4x512x128 .bf16) (harg13 : arg13.IsWhole) (arg14 : Memref sig .tc .vmem S32x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1024x2048 .bf16) (harg17 : arg17.IsWhole) (arg18 : Memref sig .tc .vmem S536x512 .f32) (harg18 : arg18.IsWhole) (arg19 : Memref sig .tc .vmem S536x384 .f32) (harg19 : arg19.IsWhole) (arg20 : Memref sig .tc .vmem S536x256 .f32) (harg20 : arg20.IsWhole) (arg21 : Memref sig .tc .vmem S536x128 .f32) (harg21 : arg21.IsWhole) (hc0 : ¬cond0_0 i)
    (x0 : Vec Ideal S512x1024 .f32) (x1 : Vec Ideal S1x1024 .f32) (x2 : Vec Ideal S1024x2048 .f32) (x3 : Vec Ideal S4x128x128 .f32) (x4 : Vec Ideal S1x512 .f32) (x5 : Vec Ideal S1x512 .f32) (x6 : Vec Ideal S32x1024 .f32) (x7 : Vec Ideal S1024x128 .f32) (x8 : Vec Ideal S128x1024 .f32) (xs0 : Vec Ideal S1024x2048 .bf16) (xs1 : Vec Ideal S536x512 .f32) (xs2 : Vec Ideal S536x384 .f32) (xs3 : Vec Ideal S536x256 .f32) (y : S1024x128.Idx) : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 xs0 xs1 xs2 xs3 y = x7 y := by
  frame_out
  obtain ⟨r, d, rfl⟩ : ∃ (r : Fin 1024) (d : Fin 128), y = ix2 r d := ⟨y 0, y 1, by funext a; match a with | ⟨0, _⟩ => rfl | ⟨1, _⟩ => rfl⟩
  unfold k0_pay8
  simp only [pointwise]

/-- A slab of weights cast for the later calls, at a point of case B. -/
theorem oB15 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .f32) (harg3 : arg3.IsWhole) (arg4 : Memref sig .tc .vmem S4x128x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S32x1024 .f32) (harg7 : arg7.IsWhole) (arg8 : Memref sig .tc .vmem S1024x128 .f32) (harg8 : arg8.IsWhole) (arg9 : Memref sig .tc .vmem S128x1024 .f32) (harg9 : arg9.IsWhole) (arg10 : Memref sig .tc .vmem S512x512 .bf16) (harg10 : arg10.IsWhole) (arg11 : Memref sig .tc .vmem S1x4x512x128 .bf16) (harg11 : arg11.IsWhole) (arg12 : Memref sig .tc .vmem S1x4x512x128 .bf16) (harg12 : arg12.IsWhole) (arg13 : Memref sig .tc .vmem S1x4x512x128 .bf16) (harg13 : arg13.IsWhole) (arg14 : Memref sig .tc .vmem S32x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1024x2048 .bf16) (harg17 : arg17.IsWhole) (arg18 : Memref sig .tc .vmem S536x512 .f32) (harg18 : arg18.IsWhole) (arg19 : Memref sig .tc .vmem S536x384 .f32) (harg19 : arg19.IsWhole) (arg20 : Memref sig .tc .vmem S536x256 .f32) (harg20 : arg20.IsWhole) (arg21 : Memref sig .tc .vmem S536x128 .f32) (harg21 : arg21.IsWhole) (hc0 : ¬cond0_0 i)
    (x0 : Vec Ideal S512x1024 .f32) (x1 : Vec Ideal S1x1024 .f32) (x2 : Vec Ideal S1024x2048 .f32) (x3 : Vec Ideal S4x128x128 .f32) (x4 : Vec Ideal S1x512 .f32) (x5 : Vec Ideal S1x512 .f32) (x6 : Vec Ideal S32x1024 .f32) (x7 : Vec Ideal S1024x128 .f32) (x8 : Vec Ideal S128x1024 .f32) (xs0 : Vec Ideal S1024x2048 .bf16) (xs1 : Vec Ideal S536x512 .f32) (xs2 : Vec Ideal S536x384 .f32) (xs3 : Vec Ideal S536x256 .f32) (y : S128x1024.Idx) : out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 xs0 xs1 xs2 xs3 y = x8 y := by
  frame_out
  obtain ⟨r, d, rfl⟩ : ∃ (r : Fin 128) (d : Fin 1024), y = ix2 r d := ⟨y 0, y 1, by funext a; match a with | ⟨0, _⟩ => rfl | ⟨1, _⟩ => rfl⟩
  unfold k0_pay9
  simp only [pointwise]

/-- The carried weights after a point of case B. -/
theorem sB0 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .f32) (harg3 : arg3.IsWhole) (arg4 : Memref sig .tc .vmem S4x128x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S32x1024 .f32) (harg7 : arg7.IsWhole) (arg8 : Memref sig .tc .vmem S1024x128 .f32) (harg8 : arg8.IsWhole) (arg9 : Memref sig .tc .vmem S128x1024 .f32) (harg9 : arg9.IsWhole) (arg10 : Memref sig .tc .vmem S512x512 .bf16) (harg10 : arg10.IsWhole) (arg11 : Memref sig .tc .vmem S1x4x512x128 .bf16) (harg11 : arg11.IsWhole) (arg12 : Memref sig .tc .vmem S1x4x512x128 .bf16) (harg12 : arg12.IsWhole) (arg13 : Memref sig .tc .vmem S1x4x512x128 .bf16) (harg13 : arg13.IsWhole) (arg14 : Memref sig .tc .vmem S32x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1024x2048 .bf16) (harg17 : arg17.IsWhole) (arg18 : Memref sig .tc .vmem S536x512 .f32) (harg18 : arg18.IsWhole) (arg19 : Memref sig .tc .vmem S536x384 .f32) (harg19 : arg19.IsWhole) (arg20 : Memref sig .tc .vmem S536x256 .f32) (harg20 : arg20.IsWhole) (arg21 : Memref sig .tc .vmem S536x128 .f32) (harg21 : arg21.IsWhole) (hc0 : ¬cond0_0 i)
    (x0 : Vec Ideal S512x1024 .f32) (x1 : Vec Ideal S1x1024 .f32) (x2 : Vec Ideal S1024x2048 .f32) (x3 : Vec Ideal S4x128x128 .f32) (x4 : Vec Ideal S1x512 .f32) (x5 : Vec Ideal S1x512 .f32) (x6 : Vec Ideal S32x1024 .f32) (x7 : Vec Ideal S1024x128 .f32) (x8 : Vec Ideal S128x1024 .f32) (xs0 : Vec Ideal S1024x2048 .bf16) (xs1 : Vec Ideal S536x512 .f32) (xs2 : Vec Ideal S536x384 .f32) (xs3 : Vec Ideal S536x256 .f32) : sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 xs0 xs1 xs2 xs3 = xs0 := by
  rfl

/-- The pooled inputs' rows of the tile after a point of case B. -/
theorem sB1_hi (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .f32) (harg3 : arg3.IsWhole) (arg4 : Memref sig .tc .vmem S4x128x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S32x1024 .f32) (harg7 : arg7.IsWhole) (arg8 : Memref sig .tc .vmem S1024x128 .f32) (harg8 : arg8.IsWhole) (arg9 : Memref sig .tc .vmem S128x1024 .f32) (harg9 : arg9.IsWhole) (arg10 : Memref sig .tc .vmem S512x512 .bf16) (harg10 : arg10.IsWhole) (arg11 : Memref sig .tc .vmem S1x4x512x128 .bf16) (harg11 : arg11.IsWhole) (arg12 : Memref sig .tc .vmem S1x4x512x128 .bf16) (harg12 : arg12.IsWhole) (arg13 : Memref sig .tc .vmem S1x4x512x128 .bf16) (harg13 : arg13.IsWhole) (arg14 : Memref sig .tc .vmem S32x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1024x2048 .bf16) (harg17 : arg17.IsWhole) (arg18 : Memref sig .tc .vmem S536x512 .f32) (harg18 : arg18.IsWhole) (arg19 : Memref sig .tc .vmem S536x384 .f32) (harg19 : arg19.IsWhole) (arg20 : Memref sig .tc .vmem S536x256 .f32) (harg20 : arg20.IsWhole) (arg21 : Memref sig .tc .vmem S536x128 .f32) (harg21 : arg21.IsWhole) (hc0 : ¬cond0_0 i)
    (x0 : Vec Ideal S512x1024 .f32) (x1 : Vec Ideal S1x1024 .f32) (x2 : Vec Ideal S1024x2048 .f32) (x3 : Vec Ideal S4x128x128 .f32) (x4 : Vec Ideal S1x512 .f32) (x5 : Vec Ideal S1x512 .f32) (x6 : Vec Ideal S32x1024 .f32) (x7 : Vec Ideal S1024x128 .f32) (x8 : Vec Ideal S128x1024 .f32) (xs0 : Vec Ideal S1024x2048 .bf16) (xs1 : Vec Ideal S536x512 .f32) (xs2 : Vec Ideal S536x384 .f32) (xs3 : Vec Ideal S536x256 .f32) (n : Fin 536) (r : Fin 512) (d : Fin 512) (hn : n.val = 24 + r.val) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 xs0 xs1 xs2 xs3 (ix2 n d) = ∑ k, k0_pay10 (F := Ideal) x0 x1 (ix2 r k) * xs0 (ix2 k ⟨d.val, by omega⟩) := by
  frame_out
  refine (View.read_writes_cons_rows_of_mem _ _ (o := 24) _ _ _ (ix2 n d) (ix2 r d) rfl hn rfl).trans ?_
  rw [pay1_apply, pay49_apply]
  refine Finset.sum_congr rfl fun k _ => congrArg (_ * ·) ?_
  simp only [pointwise]
  exact congrArg xs0 (congrArg₂ ix2 (Fin.ext (by show 0 + 1 * k.val = k.val; omega)) (Fin.ext (by show 0 + 1 * d.val = d.val; omega)))

/-- The pooled inputs' halo rows after a point of case B. -/
theorem sB1_lo (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .f32) (harg3 : arg3.IsWhole) (arg4 : Memref sig .tc .vmem S4x128x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S32x1024 .f32) (harg7 : arg7.IsWhole) (arg8 : Memref sig .tc .vmem S1024x128 .f32) (harg8 : arg8.IsWhole) (arg9 : Memref sig .tc .vmem S128x1024 .f32) (harg9 : arg9.IsWhole) (arg10 : Memref sig .tc .vmem S512x512 .bf16) (harg10 : arg10.IsWhole) (arg11 : Memref sig .tc .vmem S1x4x512x128 .bf16) (harg11 : arg11.IsWhole) (arg12 : Memref sig .tc .vmem S1x4x512x128 .bf16) (harg12 : arg12.IsWhole) (arg13 : Memref sig .tc .vmem S1x4x512x128 .bf16) (harg13 : arg13.IsWhole) (arg14 : Memref sig .tc .vmem S32x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1024x2048 .bf16) (harg17 : arg17.IsWhole) (arg18 : Memref sig .tc .vmem S536x512 .f32) (harg18 : arg18.IsWhole) (arg19 : Memref sig .tc .vmem S536x384 .f32) (harg19 : arg19.IsWhole) (arg20 : Memref sig .tc .vmem S536x256 .f32) (harg20 : arg20.IsWhole) (arg21 : Memref sig .tc .vmem S536x128 .f32) (harg21 : arg21.IsWhole) (hc0 : ¬cond0_0 i)
    (x0 : Vec Ideal S512x1024 .f32) (x1 : Vec Ideal S1x1024 .f32) (x2 : Vec Ideal S1024x2048 .f32) (x3 : Vec Ideal S4x128x128 .f32) (x4 : Vec Ideal S1x512 .f32) (x5 : Vec Ideal S1x512 .f32) (x6 : Vec Ideal S32x1024 .f32) (x7 : Vec Ideal S1024x128 .f32) (x8 : Vec Ideal S128x1024 .f32) (xs0 : Vec Ideal S1024x2048 .bf16) (xs1 : Vec Ideal S536x512 .f32) (xs2 : Vec Ideal S536x384 .f32) (xs3 : Vec Ideal S536x256 .f32) (n : Fin 536) (r : Fin 16) (d : Fin 512) (hn : n.val = 8 + r.val) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 xs0 xs1 xs2 xs3 (ix2 n d) = if startBit (BitVec.ofNat 32 (i 0).val) = 1#1 then 0 else xs1 (ix2 ⟨520 + r.val, by omega⟩ d) := by
  frame_out
  refine (View.read_writes_cons_rows_of_not_mem _ _ (o := 24) (W := 512) _ _ _ _ rfl rfl (Or.inl (by show n.val < 24; omega))).trans ?_
  refine (View.read_writes_cons_rows_of_mem _ _ (o := 8) _ _ _ (ix2 n d) (ix2 r d) rfl hn rfl).trans ?_
  rw [pay48_apply]
  refine if_congr Iff.rfl rfl ?_
  simp only [pointwise]
  exact congrArg xs1 (congrArg₂ ix2 (Fin.ext (by show 520 + 1 * r.val = 520 + r.val; omega)) (Fin.ext (by show 0 + 1 * d.val = d.val; omega)))

/-- The queries, at a point of case A. -/
theorem oA10 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .f32) (harg3 : arg3.IsWhole) (arg4 : Memref sig .tc .vmem S4x128x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S32x1024 .f32) (harg7 : arg7.IsWhole) (arg8 : Memref sig .tc .vmem S1024x128 .f32) (harg8 : arg8.IsWhole) (arg9 : Memref sig .tc .vmem S128x1024 .f32) (harg9 : arg9.IsWhole) (arg10 : Memref sig .tc .vmem S512x512 .bf16) (harg10 : arg10.IsWhole) (arg11 : Memref sig .tc .vmem S1x4x512x128 .bf16) (harg11 : arg11.IsWhole) (arg12 : Memref sig .tc .vmem S1x4x512x128 .bf16) (harg12 : arg12.IsWhole) (arg13 : Memref sig .tc .vmem S1x4x512x128 .bf16) (harg13 : arg13.IsWhole) (arg14 : Memref sig .tc .vmem S32x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1024x2048 .bf16) (harg17 : arg17.IsWhole) (arg18 : Memref sig .tc .vmem S536x512 .f32) (harg18 : arg18.IsWhole) (arg19 : Memref sig .tc .vmem S536x384 .f32) (harg19 : arg19.IsWhole) (arg20 : Memref sig .tc .vmem S536x256 .f32) (harg20 : arg20.IsWhole) (arg21 : Memref sig .tc .vmem S536x128 .f32) (harg21 : arg21.IsWhole) (hc0 : cond0_0 i)
    (x0 : Vec Ideal S512x1024 .f32) (x1 : Vec Ideal S1x1024 .f32) (x2 : Vec Ideal S1024x2048 .f32) (x3 : Vec Ideal S4x128x128 .f32) (x4 : Vec Ideal S1x512 .f32) (x5 : Vec Ideal S1x512 .f32) (x6 : Vec Ideal S32x1024 .f32) (x7 : Vec Ideal S1024x128 .f32) (x8 : Vec Ideal S128x1024 .f32) (y : S1x4x512x128.Idx) (q : Fin 2048) (hq : q.val = 512 + 128 * (y 1).val + (y 3).val) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 y = (∑ k, k0_pay10 (F := Ideal) x0 x1 (ix2 (y 2) k) * x2 (ix2 k q)) * Ideal.ofBits .f32 0x3E38AA3B#32 := by
  frame_out
  simp only [rc0 (S := S1024x2048) _ (off := ![0, 0]) (by decide : ∀ a : Fin 2, (![0, 0] : Fin 2 → Nat) a = 0), rc0 (S := S536x512) _ (off := ![0, 0]) (by decide : ∀ a : Fin 2, (![0, 0] : Fin 2 → Nat) a = 0), pay2_eq]
  canon_tiles x h
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 3 := h1
    have h3' : (y 3).val = d.val := h3
    rw [pay15_apply, pay11_apply, hr]
    refine congrArg (· * _) ?_
    refine Finset.sum_congr rfl fun k _ => congrArg (_ * ·) ?_
    simp only [pointwise]
    exact congrArg x2 (congrArg₂ ix2 (Fin.ext (by show 0 + 1 * k.val = k.val; omega)) (Fin.ext (by show 512 + 1 * (384 + d.val) = q.val; omega)))
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 2 := h1
    have h3' : (y 3).val = d.val := h3
    rw [pay14_apply, pay11_apply, hr]
    refine congrArg (· * _) ?_
    refine Finset.sum_congr rfl fun k _ => congrArg (_ * ·) ?_
    simp only [pointwise]
    exact congrArg x2 (congrArg₂ ix2 (Fin.ext (by show 0 + 1 * k.val = k.val; omega)) (Fin.ext (by show 512 + 1 * (256 + d.val) = q.val; omega)))
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 1 := h1
    have h3' : (y 3).val = d.val := h3
    rw [pay13_apply, pay11_apply, hr]
    refine congrArg (· * _) ?_
    refine Finset.sum_congr rfl fun k _ => congrArg (_ * ·) ?_
    simp only [pointwise]
    exact congrArg x2 (congrArg₂ ix2 (Fin.ext (by show 0 + 1 * k.val = k.val; omega)) (Fin.ext (by show 512 + 1 * (128 + d.val) = q.val; omega)))
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 0 := h1
    have h3' : (y 3).val = d.val := h3
    rw [pay12_apply, pay11_apply, hr]
    refine congrArg (· * _) ?_
    refine Finset.sum_congr rfl fun k _ => congrArg (_ * ·) ?_
    simp only [pointwise]
    exact congrArg x2 (congrArg₂ ix2 (Fin.ext (by show 0 + 1 * k.val = k.val; omega)) (Fin.ext (by show 512 + 1 * (0 + d.val) = q.val; omega)))

/-- The keys, at a point of case A. -/
theorem oA11 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .f32) (harg3 : arg3.IsWhole) (arg4 : Memref sig .tc .vmem S4x128x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S32x1024 .f32) (harg7 : arg7.IsWhole) (arg8 : Memref sig .tc .vmem S1024x128 .f32) (harg8 : arg8.IsWhole) (arg9 : Memref sig .tc .vmem S128x1024 .f32) (harg9 : arg9.IsWhole) (arg10 : Memref sig .tc .vmem S512x512 .bf16) (harg10 : arg10.IsWhole) (arg11 : Memref sig .tc .vmem S1x4x512x128 .bf16) (harg11 : arg11.IsWhole) (arg12 : Memref sig .tc .vmem S1x4x512x128 .bf16) (harg12 : arg12.IsWhole) (arg13 : Memref sig .tc .vmem S1x4x512x128 .bf16) (harg13 : arg13.IsWhole) (arg14 : Memref sig .tc .vmem S32x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1024x2048 .bf16) (harg17 : arg17.IsWhole) (arg18 : Memref sig .tc .vmem S536x512 .f32) (harg18 : arg18.IsWhole) (arg19 : Memref sig .tc .vmem S536x384 .f32) (harg19 : arg19.IsWhole) (arg20 : Memref sig .tc .vmem S536x256 .f32) (harg20 : arg20.IsWhole) (arg21 : Memref sig .tc .vmem S536x128 .f32) (harg21 : arg21.IsWhole) (hc0 : cond0_0 i)
    (x0 : Vec Ideal S512x1024 .f32) (x1 : Vec Ideal S1x1024 .f32) (x2 : Vec Ideal S1024x2048 .f32) (x3 : Vec Ideal S4x128x128 .f32) (x4 : Vec Ideal S1x512 .f32) (x5 : Vec Ideal S1x512 .f32) (x6 : Vec Ideal S32x1024 .f32) (x7 : Vec Ideal S1024x128 .f32) (x8 : Vec Ideal S128x1024 .f32) (y : S1x4x512x128.Idx) (q : Fin 2048) (hq : q.val = 1024 + 128 * (y 1).val + (y 3).val) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 y = (∑ k, k0_pay10 (F := Ideal) x0 x1 (ix2 (y 2) k) * x2 (ix2 k q)) := by
  frame_out
  simp only [rc0 (S := S1024x2048) _ (off := ![0, 0]) (by decide : ∀ a : Fin 2, (![0, 0] : Fin 2 → Nat) a = 0), rc0 (S := S536x512) _ (off := ![0, 0]) (by decide : ∀ a : Fin 2, (![0, 0] : Fin 2 → Nat) a = 0), pay2_eq]
  canon_tiles x h
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 3 := h1
    have h3' : (y 3).val = d.val := h3
    rw [pay27_apply, hr]
    refine Finset.sum_congr rfl fun k _ => congrArg (_ * ·) ?_
    simp only [pointwise]
    exact congrArg x2 (congrArg₂ ix2 (Fin.ext (by show 0 + 1 * k.val = k.val; omega)) (Fin.ext (by show 1024 + 1 * (384 + d.val) = q.val; omega)))
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 2 := h1
    have h3' : (y 3).val = d.val := h3
    rw [pay25_apply, hr]
    refine Finset.sum_congr rfl fun k _ => congrArg (_ * ·) ?_
    simp only [pointwise]
    exact congrArg x2 (congrArg₂ ix2 (Fin.ext (by show 0 + 1 * k.val = k.val; omega)) (Fin.ext (by show 1024 + 1 * (256 + d.val) = q.val; omega)))
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 1 := h1
    have h3' : (y 3).val = d.val := h3
    rw [pay24_apply, hr]
    refine Finset.sum_congr rfl fun k _ => congrArg (_ * ·) ?_
    simp only [pointwise]
    exact congrArg x2 (congrArg₂ ix2 (Fin.ext (by show 0 + 1 * k.val = k.val; omega)) (Fin.ext (by show 1024 + 1 * (128 + d.val) = q.val; omega)))
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 0 := h1
    have h3' : (y 3).val = d.val := h3
    rw [pay23_apply, hr]
    refine Finset.sum_congr rfl fun k _ => congrArg (_ * ·) ?_
    simp only [pointwise]
    exact congrArg x2 (congrArg₂ ix2 (Fin.ext (by show 0 + 1 * k.val = k.val; omega)) (Fin.ext (by show 1024 + 1 * (0 + d.val) = q.val; omega)))

/-- The values, at a point of case A. -/
theorem oA12 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .f32) (harg3 : arg3.IsWhole) (arg4 : Memref sig .tc .vmem S4x128x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S32x1024 .f32) (harg7 : arg7.IsWhole) (arg8 : Memref sig .tc .vmem S1024x128 .f32) (harg8 : arg8.IsWhole) (arg9 : Memref sig .tc .vmem S128x1024 .f32) (harg9 : arg9.IsWhole) (arg10 : Memref sig .tc .vmem S512x512 .bf16) (harg10 : arg10.IsWhole) (arg11 : Memref sig .tc .vmem S1x4x512x128 .bf16) (harg11 : arg11.IsWhole) (arg12 : Memref sig .tc .vmem S1x4x512x128 .bf16) (harg12 : arg12.IsWhole) (arg13 : Memref sig .tc .vmem S1x4x512x128 .bf16) (harg13 : arg13.IsWhole) (arg14 : Memref sig .tc .vmem S32x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1024x2048 .bf16) (harg17 : arg17.IsWhole) (arg18 : Memref sig .tc .vmem S536x512 .f32) (harg18 : arg18.IsWhole) (arg19 : Memref sig .tc .vmem S536x384 .f32) (harg19 : arg19.IsWhole) (arg20 : Memref sig .tc .vmem S536x256 .f32) (harg20 : arg20.IsWhole) (arg21 : Memref sig .tc .vmem S536x128 .f32) (harg21 : arg21.IsWhole) (hc0 : cond0_0 i)
    (x0 : Vec Ideal S512x1024 .f32) (x1 : Vec Ideal S1x1024 .f32) (x2 : Vec Ideal S1024x2048 .f32) (x3 : Vec Ideal S4x128x128 .f32) (x4 : Vec Ideal S1x512 .f32) (x5 : Vec Ideal S1x512 .f32) (x6 : Vec Ideal S32x1024 .f32) (x7 : Vec Ideal S1024x128 .f32) (x8 : Vec Ideal S128x1024 .f32) (y : S1x4x512x128.Idx) (q : Fin 2048) (hq : q.val = 1536 + 128 * (y 1).val + (y 3).val) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 y = (∑ k, k0_pay10 (F := Ideal) x0 x1 (ix2 (y 2) k) * x2 (ix2 k q)) := by
  frame_out
  simp only [rc0 (S := S1024x2048) _ (off := ![0, 0]) (by decide : ∀ a : Fin 2, (![0, 0] : Fin 2 → Nat) a = 0), rc0 (S := S536x512) _ (off := ![0, 0]) (by decide : ∀ a : Fin 2, (![0, 0] : Fin 2 → Nat) a = 0), pay2_eq]
  canon_tiles x h
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 3 := h1
    have h3' : (y 3).val = d.val := h3
    rw [pay37_apply, hr]
    refine Finset.sum_congr rfl fun k _ => congrArg (_ * ·) ?_
    simp only [pointwise]
    exact congrArg x2 (congrArg₂ ix2 (Fin.ext (by show 0 + 1 * k.val = k.val; omega)) (Fin.ext (by show 1536 + 1 * (384 + d.val) = q.val; omega)))
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 2 := h1
    have h3' : (y 3).val = d.val := h3
    rw [pay36_apply, hr]
    refine Finset.sum_congr rfl fun k _ => congrArg (_ * ·) ?_
    simp only [pointwise]
    exact congrArg x2 (congrArg₂ ix2 (Fin.ext (by show 0 + 1 * k.val = k.val; omega)) (Fin.ext (by show 1536 + 1 * (256 + d.val) = q.val; omega)))
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 1 := h1
    have h3' : (y 3).val = d.val := h3
    rw [pay34_apply, hr]
    refine Finset.sum_congr rfl fun k _ => congrArg (_ * ·) ?_
    simp only [pointwise]
    exact congrArg x2 (congrArg₂ ix2 (Fin.ext (by show 0 + 1 * k.val = k.val; omega)) (Fin.ext (by show 1536 + 1 * (128 + d.val) = q.val; omega)))
  · obtain ⟨r, d, rfl⟩ : ∃ (r : Fin 512) (d : Fin 128), x = ix4 0 0 r d := ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
    have hr : y 2 = r := Fin.ext h2
    have h1' : (y 1).val = 0 := h1
    have h3' : (y 3).val = d.val := h3
    rw [pay33_apply, hr]
    refine Finset.sum_congr rfl fun k _ => congrArg (_ * ·) ?_
    simp only [pointwise]
    exact congrArg x2 (congrArg₂ ix2 (Fin.ext (by show 0 + 1 * k.val = k.val; omega)) (Fin.ext (by show 1536 + 1 * (0 + d.val) = q.val; omega)))

/-- A slab of weights cast for the later calls, at a point of case A. -/
theorem oA13 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .f32) (harg3 : arg3.IsWhole) (arg4 : Memref sig .tc .vmem S4x128x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S32x1024 .f32) (harg7 : arg7.IsWhole) (arg8 : Memref sig .tc .vmem S1024x128 .f32) (harg8 : arg8.IsWhole) (arg9 : Memref sig .tc .vmem S128x1024 .f32) (harg9 : arg9.IsWhole) (arg10 : Memref sig .tc .vmem S512x512 .bf16) (harg10 : arg10.IsWhole) (arg11 : Memref sig .tc .vmem S1x4x512x128 .bf16) (harg11 : arg11.IsWhole) (arg12 : Memref sig .tc .vmem S1x4x512x128 .bf16) (harg12 : arg12.IsWhole) (arg13 : Memref sig .tc .vmem S1x4x512x128 .bf16) (harg13 : arg13.IsWhole) (arg14 : Memref sig .tc .vmem S32x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1024x2048 .bf16) (harg17 : arg17.IsWhole) (arg18 : Memref sig .tc .vmem S536x512 .f32) (harg18 : arg18.IsWhole) (arg19 : Memref sig .tc .vmem S536x384 .f32) (harg19 : arg19.IsWhole) (arg20 : Memref sig .tc .vmem S536x256 .f32) (harg20 : arg20.IsWhole) (arg21 : Memref sig .tc .vmem S536x128 .f32) (harg21 : arg21.IsWhole) (hc0 : cond0_0 i)
    (x0 : Vec Ideal S512x1024 .f32) (x1 : Vec Ideal S1x1024 .f32) (x2 : Vec Ideal S1024x2048 .f32) (x3 : Vec Ideal S4x128x128 .f32) (x4 : Vec Ideal S1x512 .f32) (x5 : Vec Ideal S1x512 .f32) (x6 : Vec Ideal S32x1024 .f32) (x7 : Vec Ideal S1024x128 .f32) (x8 : Vec Ideal S128x1024 .f32) (y : S32x1024.Idx) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 y = x6 y := by
  frame_out
  obtain ⟨r, d, rfl⟩ : ∃ (r : Fin 32) (d : Fin 1024), y = ix2 r d := ⟨y 0, y 1, by funext a; match a with | ⟨0, _⟩ => rfl | ⟨1, _⟩ => rfl⟩
  unfold k0_pay7
  simp only [pointwise]

/-- A slab of weights cast for the later calls, at a point of case A. -/
theorem oA14 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .f32) (harg3 : arg3.IsWhole) (arg4 : Memref sig .tc .vmem S4x128x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S32x1024 .f32) (harg7 : arg7.IsWhole) (arg8 : Memref sig .tc .vmem S1024x128 .f32) (harg8 : arg8.IsWhole) (arg9 : Memref sig .tc .vmem S128x1024 .f32) (harg9 : arg9.IsWhole) (arg10 : Memref sig .tc .vmem S512x512 .bf16) (harg10 : arg10.IsWhole) (arg11 : Memref sig .tc .vmem S1x4x512x128 .bf16) (harg11 : arg11.IsWhole) (arg12 : Memref sig .tc .vmem S1x4x512x128 .bf16) (harg12 : arg12.IsWhole) (arg13 : Memref sig .tc .vmem S1x4x512x128 .bf16) (harg13 : arg13.IsWhole) (arg14 : Memref sig .tc .vmem S32x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1024x2048 .bf16) (harg17 : arg17.IsWhole) (arg18 : Memref sig .tc .vmem S536x512 .f32) (harg18 : arg18.IsWhole) (arg19 : Memref sig .tc .vmem S536x384 .f32) (harg19 : arg19.IsWhole) (arg20 : Memref sig .tc .vmem S536x256 .f32) (harg20 : arg20.IsWhole) (arg21 : Memref sig .tc .vmem S536x128 .f32) (harg21 : arg21.IsWhole) (hc0 : cond0_0 i)
    (x0 : Vec Ideal S512x1024 .f32) (x1 : Vec Ideal S1x1024 .f32) (x2 : Vec Ideal S1024x2048 .f32) (x3 : Vec Ideal S4x128x128 .f32) (x4 : Vec Ideal S1x512 .f32) (x5 : Vec Ideal S1x512 .f32) (x6 : Vec Ideal S32x1024 .f32) (x7 : Vec Ideal S1024x128 .f32) (x8 : Vec Ideal S128x1024 .f32) (y : S1024x128.Idx) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 y = x7 y := by
  frame_out
  obtain ⟨r, d, rfl⟩ : ∃ (r : Fin 1024) (d : Fin 128), y = ix2 r d := ⟨y 0, y 1, by funext a; match a with | ⟨0, _⟩ => rfl | ⟨1, _⟩ => rfl⟩
  unfold k0_pay8
  simp only [pointwise]

/-- A slab of weights cast for the later calls, at a point of case A. -/
theorem oA15 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .f32) (harg3 : arg3.IsWhole) (arg4 : Memref sig .tc .vmem S4x128x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S32x1024 .f32) (harg7 : arg7.IsWhole) (arg8 : Memref sig .tc .vmem S1024x128 .f32) (harg8 : arg8.IsWhole) (arg9 : Memref sig .tc .vmem S128x1024 .f32) (harg9 : arg9.IsWhole) (arg10 : Memref sig .tc .vmem S512x512 .bf16) (harg10 : arg10.IsWhole) (arg11 : Memref sig .tc .vmem S1x4x512x128 .bf16) (harg11 : arg11.IsWhole) (arg12 : Memref sig .tc .vmem S1x4x512x128 .bf16) (harg12 : arg12.IsWhole) (arg13 : Memref sig .tc .vmem S1x4x512x128 .bf16) (harg13 : arg13.IsWhole) (arg14 : Memref sig .tc .vmem S32x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1024x2048 .bf16) (harg17 : arg17.IsWhole) (arg18 : Memref sig .tc .vmem S536x512 .f32) (harg18 : arg18.IsWhole) (arg19 : Memref sig .tc .vmem S536x384 .f32) (harg19 : arg19.IsWhole) (arg20 : Memref sig .tc .vmem S536x256 .f32) (harg20 : arg20.IsWhole) (arg21 : Memref sig .tc .vmem S536x128 .f32) (harg21 : arg21.IsWhole) (hc0 : cond0_0 i)
    (x0 : Vec Ideal S512x1024 .f32) (x1 : Vec Ideal S1x1024 .f32) (x2 : Vec Ideal S1024x2048 .f32) (x3 : Vec Ideal S4x128x128 .f32) (x4 : Vec Ideal S1x512 .f32) (x5 : Vec Ideal S1x512 .f32) (x6 : Vec Ideal S32x1024 .f32) (x7 : Vec Ideal S1024x128 .f32) (x8 : Vec Ideal S128x1024 .f32) (y : S128x1024.Idx) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 y = x8 y := by
  frame_out
  obtain ⟨r, d, rfl⟩ : ∃ (r : Fin 128) (d : Fin 1024), y = ix2 r d := ⟨y 0, y 1, by funext a; match a with | ⟨0, _⟩ => rfl | ⟨1, _⟩ => rfl⟩
  unfold k0_pay9
  simp only [pointwise]

/-- The carried weights after a point of case A. -/
theorem sA0 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .f32) (harg3 : arg3.IsWhole) (arg4 : Memref sig .tc .vmem S4x128x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S32x1024 .f32) (harg7 : arg7.IsWhole) (arg8 : Memref sig .tc .vmem S1024x128 .f32) (harg8 : arg8.IsWhole) (arg9 : Memref sig .tc .vmem S128x1024 .f32) (harg9 : arg9.IsWhole) (arg10 : Memref sig .tc .vmem S512x512 .bf16) (harg10 : arg10.IsWhole) (arg11 : Memref sig .tc .vmem S1x4x512x128 .bf16) (harg11 : arg11.IsWhole) (arg12 : Memref sig .tc .vmem S1x4x512x128 .bf16) (harg12 : arg12.IsWhole) (arg13 : Memref sig .tc .vmem S1x4x512x128 .bf16) (harg13 : arg13.IsWhole) (arg14 : Memref sig .tc .vmem S32x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1024x2048 .bf16) (harg17 : arg17.IsWhole) (arg18 : Memref sig .tc .vmem S536x512 .f32) (harg18 : arg18.IsWhole) (arg19 : Memref sig .tc .vmem S536x384 .f32) (harg19 : arg19.IsWhole) (arg20 : Memref sig .tc .vmem S536x256 .f32) (harg20 : arg20.IsWhole) (arg21 : Memref sig .tc .vmem S536x128 .f32) (harg21 : arg21.IsWhole) (hc0 : cond0_0 i)
    (x0 : Vec Ideal S512x1024 .f32) (x1 : Vec Ideal S1x1024 .f32) (x2 : Vec Ideal S1024x2048 .f32) (x3 : Vec Ideal S4x128x128 .f32) (x4 : Vec Ideal S1x512 .f32) (x5 : Vec Ideal S1x512 .f32) (x6 : Vec Ideal S32x1024 .f32) (x7 : Vec Ideal S1024x128 .f32) (x8 : Vec Ideal S128x1024 .f32) : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 = x2 := by
  funext y
  frame_out
  rw [pay2_eq]

/-- The pooled inputs' rows of the tile after a point of case A. -/
theorem sA1_hi (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .f32) (harg3 : arg3.IsWhole) (arg4 : Memref sig .tc .vmem S4x128x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S32x1024 .f32) (harg7 : arg7.IsWhole) (arg8 : Memref sig .tc .vmem S1024x128 .f32) (harg8 : arg8.IsWhole) (arg9 : Memref sig .tc .vmem S128x1024 .f32) (harg9 : arg9.IsWhole) (arg10 : Memref sig .tc .vmem S512x512 .bf16) (harg10 : arg10.IsWhole) (arg11 : Memref sig .tc .vmem S1x4x512x128 .bf16) (harg11 : arg11.IsWhole) (arg12 : Memref sig .tc .vmem S1x4x512x128 .bf16) (harg12 : arg12.IsWhole) (arg13 : Memref sig .tc .vmem S1x4x512x128 .bf16) (harg13 : arg13.IsWhole) (arg14 : Memref sig .tc .vmem S32x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1024x2048 .bf16) (harg17 : arg17.IsWhole) (arg18 : Memref sig .tc .vmem S536x512 .f32) (harg18 : arg18.IsWhole) (arg19 : Memref sig .tc .vmem S536x384 .f32) (harg19 : arg19.IsWhole) (arg20 : Memref sig .tc .vmem S536x256 .f32) (harg20 : arg20.IsWhole) (arg21 : Memref sig .tc .vmem S536x128 .f32) (harg21 : arg21.IsWhole) (hc0 : cond0_0 i)
    (x0 : Vec Ideal S512x1024 .f32) (x1 : Vec Ideal S1x1024 .f32) (x2 : Vec Ideal S1024x2048 .f32) (x3 : Vec Ideal S4x128x128 .f32) (x4 : Vec Ideal S1x512 .f32) (x5 : Vec Ideal S1x512 .f32) (x6 : Vec Ideal S32x1024 .f32) (x7 : Vec Ideal S1024x128 .f32) (x8 : Vec Ideal S128x1024 .f32) (n : Fin 536) (r : Fin 512) (d : Fin 512) (hn : n.val = 24 + r.val) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 (ix2 n d) = ∑ k, k0_pay10 (F := Ideal) x0 x1 (ix2 r k) * x2 (ix2 k ⟨d.val, by omega⟩) := by
  frame_out
  simp only [rc0 (S := S1024x2048) _ (off := ![0, 0]) (by decide : ∀ a : Fin 2, (![0, 0] : Fin 2 → Nat) a = 0), rc0 (S := S536x512) _ (off := ![0, 0]) (by decide : ∀ a : Fin 2, (![0, 0] : Fin 2 → Nat) a = 0), pay2_eq]
  refine (congrFun (View.read_writes_junk_eq_canon arg18.view _) _).symm.trans ?_
  refine (View.read_writes_cons_rows_of_mem _ _ (o := 24) _ _ _ (ix2 n d) (ix2 r d) rfl hn rfl).trans ?_
  rw [pay1_apply, pay49_apply]
  refine Finset.sum_congr rfl fun k _ => congrArg (_ * ·) ?_
  simp only [pointwise]
  exact congrArg x2 (congrArg₂ ix2 (Fin.ext (by show 0 + 1 * k.val = k.val; omega)) (Fin.ext (by show 0 + 1 * d.val = d.val; omega)))

/-- The pooled inputs' halo rows after a point of case A. -/
theorem sA1_lo (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .f32) (harg3 : arg3.IsWhole) (arg4 : Memref sig .tc .vmem S4x128x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S32x1024 .f32) (harg7 : arg7.IsWhole) (arg8 : Memref sig .tc .vmem S1024x128 .f32) (harg8 : arg8.IsWhole) (arg9 : Memref sig .tc .vmem S128x1024 .f32) (harg9 : arg9.IsWhole) (arg10 : Memref sig .tc .vmem S512x512 .bf16) (harg10 : arg10.IsWhole) (arg11 : Memref sig .tc .vmem S1x4x512x128 .bf16) (harg11 : arg11.IsWhole) (arg12 : Memref sig .tc .vmem S1x4x512x128 .bf16) (harg12 : arg12.IsWhole) (arg13 : Memref sig .tc .vmem S1x4x512x128 .bf16) (harg13 : arg13.IsWhole) (arg14 : Memref sig .tc .vmem S32x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1024x2048 .bf16) (harg17 : arg17.IsWhole) (arg18 : Memref sig .tc .vmem S536x512 .f32) (harg18 : arg18.IsWhole) (arg19 : Memref sig .tc .vmem S536x384 .f32) (harg19 : arg19.IsWhole) (arg20 : Memref sig .tc .vmem S536x256 .f32) (harg20 : arg20.IsWhole) (arg21 : Memref sig .tc .vmem S536x128 .f32) (harg21 : arg21.IsWhole) (hc0 : cond0_0 i)
    (x0 : Vec Ideal S512x1024 .f32) (x1 : Vec Ideal S1x1024 .f32) (x2 : Vec Ideal S1024x2048 .f32) (x3 : Vec Ideal S4x128x128 .f32) (x4 : Vec Ideal S1x512 .f32) (x5 : Vec Ideal S1x512 .f32) (x6 : Vec Ideal S32x1024 .f32) (x7 : Vec Ideal S1024x128 .f32) (x8 : Vec Ideal S128x1024 .f32) (n : Fin 536) (r : Fin 16) (d : Fin 512) (hn : n.val = 8 + r.val) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 (ix2 n d) = if startBit (BitVec.ofNat 32 (i 0).val) = 1#1 then 0 else 0 := by
  frame_out
  simp only [rc0 (S := S1024x2048) _ (off := ![0, 0]) (by decide : ∀ a : Fin 2, (![0, 0] : Fin 2 → Nat) a = 0), rc0 (S := S536x512) _ (off := ![0, 0]) (by decide : ∀ a : Fin 2, (![0, 0] : Fin 2 → Nat) a = 0), pay2_eq]
  refine (congrFun (View.read_writes_junk_eq_canon arg18.view _) _).symm.trans ?_
  refine (View.read_writes_cons_rows_of_not_mem _ _ (o := 24) (W := 512) _ _ _ _ rfl rfl (Or.inl (by show n.val < 24; omega))).trans ?_
  refine (View.read_writes_cons_rows_of_mem _ _ (o := 8) _ _ _ (ix2 n d) (ix2 r d) rfl hn rfl).trans ?_
  rw [pay48_apply]
  refine if_congr Iff.rfl rfl ?_
  unfold k0_pay3
  simp only [pointwise]

end Cert.Proof.Inp
-- ==== Proof.InpPool.lean ====
/-
  The pooled mixer's block: the row function of InpSpec.lean over the buffer the point before left.
-/
module

public import proofs.«01_k».proof.Proof.InpKernel
public import Idealize.ShloMosaic.Lib.Pointwise
public import Idealize.ShloMosaic.Lib.WritesUnit
public import Idealize.ShloMosaic.Lib.Pipeline.ValueKit
public import Idealize.ShloMosaic.PureOps.Ideal.Laws

@[expose] public section

set_option maxRecDepth 16384
noncomputable section

namespace Cert.Proof.Inp
open Idealize.ShloMosaic Idealize.ShloMosaic.TcCoe Cert.Kernel3Ideal Cert.Kernel3Ideal.Gen

/-- A column of the pooled inputs' buffer. -/
def col (u : Vec Ideal S536x512 .f32) (d : Fin 512) (n : ℕ) : EReal := if h : n < 536 then u (ix2 ⟨n, h⟩ d) else 0

/-- A column read at a row known by its number. -/
theorem col_of (u : Vec Ideal S536x512 .f32) (d : Fin 512) (n : Fin 536) (m : ℕ) (h : n.val = m) : u (ix2 n d) = col u d m := by
  subst h
  unfold col
  rw [dif_pos n.isLt]

/-- The window sum of group `g`: two, four, eight or sixteen neighbours. -/
def wsum (g : Fin 4) (f : ℕ → EReal) (n : ℕ) : EReal :=
  match g with | 0 => t2 f n | 1 => t4 f n | 2 => t8 f n | 3 => t16 f n

/-- The window mean of group `g`. -/
def gmean (g : Fin 4) (p : BitVec 32) (s : EReal) (r : Fin 512) : EReal :=
  match g with
  | 0 => meanV 2#32 (Ideal.ofBits .f32 0x40000000#32) (Ideal.ofBits .f32 0x3F000000#32) p s r
  | 1 => meanV 4#32 (Ideal.ofBits .f32 0x40800000#32) (Ideal.ofBits .f32 0x3E800000#32) p s r
  | 2 => meanV 8#32 (Ideal.ofBits .f32 0x41000000#32) (Ideal.ofBits .f32 0x3E000000#32) p s r
  | 3 => meanV 16#32 (Ideal.ofBits .f32 0x41800000#32) (Ideal.ofBits .f32 0x3D800000#32) p s r

/-- A covered load of rows stored from row 8 on. -/
theorem rcv {sg : RefSig} {κ : Kind} {sp : Space} (N len : ℕ) (v : View sg κ sp (⟨2, ![536, N]⟩ : Shape) .f32)
    (inb : ∀ a : Fin 2, (![8, 0] : Fin 2 → ℕ) a + (![528, N] : Fin 2 → ℕ) a ≤ (![536, N] : Fin 2 → ℕ) a) (w : (⟨2, ![528, N]⟩ : Shape).Idx → EReal) (o : ℕ)
    (inb' : ∀ a : Fin 2, (![o, 0] : Fin 2 → ℕ) a + (![len, N] : Fin 2 → ℕ) a ≤ (![536, N] : Fin 2 → ℕ) a) (j : Fin len) (c : Fin N) (j' : Fin 528) (h : o + j.val = 8 + j'.val) :
    v.readCov [(⟨Rect.unit (s := (⟨2, ![536, N]⟩ : Shape)) ![8, 0] ![528, N] inb, w⟩ : View.Piece (Elt Ideal) (⟨2, ![536, N]⟩ : Shape) .f32)]
      (Rect.unit (s := (⟨2, ![536, N]⟩ : Shape)) ![o, 0] ![len, N] inb').toLoadRect (ix2 j c) = w (ix2 j' c) :=
  View.read_writes_cons_rows_of_mem (Val := Elt Ideal) v v.junk (o := 8) (d := ![536, N]) (size := ![528, N]) inb w [] ((Rect.unit (s := (⟨2, ![536, N]⟩ : Shape)) ![o, 0] ![len, N] inb').toLoadRect.idx (ix2 j c)) (ix2 j' c) rfl
    (by show o + 1 * j.val = 8 + j'.val; omega) (by show 0 + 1 * c.val = c.val; omega)

/-- A load of rows stored from row 8 on over what was there. -/
theorem ldv {sg : RefSig} {κ : Kind} {sp : Space} (N : ℕ) (v : View sg κ sp (⟨2, ![536, N]⟩ : Shape) .f32) (f : _)
    (inb : ∀ a : Fin 2, (![8, 0] : Fin 2 → ℕ) a + (![528, N] : Fin 2 → ℕ) a ≤ (![536, N] : Fin 2 → ℕ) a) (w : (⟨2, ![528, N]⟩ : Shape).Idx → EReal) (o : ℕ)
    (inb' : ∀ a : Fin 2, (![o, 0] : Fin 2 → ℕ) a + (![528, N] : Fin 2 → ℕ) a ≤ (![536, N] : Fin 2 → ℕ) a) (j : Fin 528) (c : Fin N) (j' : Fin 528) (h : o + j.val = 8 + j'.val) :
    View.ld (v.read (Elt Ideal) (v.writes (Elt Ideal) f [(⟨Rect.unit (s := (⟨2, ![536, N]⟩ : Shape)) ![8, 0] ![528, N] inb, w⟩ : View.Piece (Elt Ideal) (⟨2, ![536, N]⟩ : Shape) .f32)]))
      (Rect.unit (s := (⟨2, ![536, N]⟩ : Shape)) ![o, 0] ![528, N] inb') (ix2 j c) = w (ix2 j' c) :=
  View.read_writes_cons_rows_of_mem (Val := Elt Ideal) v f (o := 8) (d := ![536, N]) (size := ![528, N]) inb w [] ((Rect.unit (s := (⟨2, ![536, N]⟩ : Shape)) ![o, 0] ![528, N] inb').toLoadRect.idx (ix2 j c)) (ix2 j' c) rfl
    (by show o + 1 * j.val = 8 + j'.val; omega) (by show 0 + 1 * c.val = c.val; omega)

/-- Two neighbours, the rows and columns the mean over two reads. -/
theorem lev2a (a b : Vec Ideal S528x512 .f32) (f : Fin 512 → ℕ → EReal) (ha : ∀ (j : Fin 528) (c : Fin 512), a (ix2 j c) = f c (8 + j.val))
    (hb : ∀ (j : Fin 528) (c : Fin 512), b (ix2 j c) = f c (8 + j.val - 1)) (r : Fin 512) (k : Fin 128) :
    k0_pay17 (F := Ideal) a b (ix2 r k) = t2 (f ⟨k.val, by omega⟩) (24 + r.val) := by
  have e : k0_pay17 (F := Ideal) a b (ix2 r k) = k0_pay16 (F := Ideal) a b (ix2 ⟨16 + r.val, by omega⟩ ⟨k.val, by omega⟩) := by
    unfold k0_pay17
    simp only [pointwise]
    exact congrArg _ (congrArg₂ ix2 rfl (Fin.ext (by show 0 + k.val = k.val; omega)))
  rw [e]
  unfold k0_pay16
  simp only [pointwise]
  rw [ha, hb]
  show f _ (8 + (16 + r.val)) + f _ (8 + (16 + r.val) - 1) = _
  unfold t2
  rw [show 8 + (16 + r.val) = 24 + r.val by omega]

/-- Two neighbours in the columns the wider means go on with. -/
theorem lev2 (a b : Vec Ideal S528x512 .f32) (f : Fin 512 → ℕ → EReal) (ha : ∀ (j : Fin 528) (c : Fin 512), a (ix2 j c) = f c (8 + j.val))
    (hb : ∀ (j : Fin 528) (c : Fin 512), b (ix2 j c) = f c (8 + j.val - 1)) (j : Fin 528) (c : Fin 384) :
    k0_pay18 (F := Ideal) (k0_pay16 (F := Ideal) a b) (ix2 j c) = t2 (f ⟨128 + c.val, by omega⟩) (8 + j.val) := by
  have e : k0_pay18 (F := Ideal) (k0_pay16 (F := Ideal) a b) (ix2 j c) = k0_pay16 (F := Ideal) a b (ix2 j ⟨128 + c.val, by omega⟩) := by
    unfold k0_pay18
    simp only [pointwise]
    exact congrArg _ (congrArg₂ ix2 (Fin.ext (by show 0 + j.val = j.val; omega)) rfl)
  rw [e]
  unfold k0_pay16
  simp only [pointwise]
  rw [ha, hb]
  rfl

/-- Four neighbours, the rows and columns the mean reads. -/
theorem lev4a (P a b : Vec Ideal S528x384 .f32) (f : Fin 384 → ℕ → EReal) (hP : ∀ (j : Fin 528) (c : Fin 384), 0 ≤ j.val → P (ix2 j c) = t2 (f c) (8 + j.val))
    (ha : ∀ (j : Fin 528) (c : Fin 384), a (ix2 j c) = P (ix2 j c)) (hb : ∀ (j : Fin 528) (c : Fin 384), 2 ≤ j.val → b (ix2 j c) = P (ix2 ⟨j.val - 2, by omega⟩ c))
    (r : Fin 512) (k : Fin 128) :
    k0_pay20 (F := Ideal) a b (ix2 r k) = t4 (f ⟨k.val, by omega⟩) (24 + r.val) := by
  have e : k0_pay20 (F := Ideal) a b (ix2 r k) = k0_pay19 (F := Ideal) a b (ix2 ⟨16 + r.val, by omega⟩ ⟨k.val, by omega⟩) := by
    unfold k0_pay20
    simp only [pointwise]
    exact congrArg _ (congrArg₂ ix2 rfl (Fin.ext (by show 0 + k.val = k.val; omega)))
  rw [e]
  unfold k0_pay19
  simp only [pointwise]
  rw [ha, hb _ _ (by show 2 ≤ 16 + r.val; omega), hP _ _ (by show 0 ≤ 16 + r.val; omega), hP _ _ (by show 0 ≤ 16 + r.val - 2; omega)]
  show t2 _ (8 + (16 + r.val)) + t2 _ (8 + (16 + r.val - 2)) = t2 _ (24 + r.val) + t2 _ (24 + r.val - 2)
  rw [show 8 + (16 + r.val) = 24 + r.val by omega, show 8 + (16 + r.val - 2) = 24 + r.val - 2 by omega]

/-- Four neighbours in the columns the wider means go on with. -/
theorem lev4 (P a b : Vec Ideal S528x384 .f32) (f : Fin 384 → ℕ → EReal) (hP : ∀ (j : Fin 528) (c : Fin 384), 0 ≤ j.val → P (ix2 j c) = t2 (f c) (8 + j.val))
    (ha : ∀ (j : Fin 528) (c : Fin 384), a (ix2 j c) = P (ix2 j c)) (hb : ∀ (j : Fin 528) (c : Fin 384), 2 ≤ j.val → b (ix2 j c) = P (ix2 ⟨j.val - 2, by omega⟩ c))
    (j : Fin 528) (c : Fin 256) (hj : 2 ≤ j.val) :
    k0_pay21 (F := Ideal) a b (ix2 j c) = t4 (f ⟨128 + c.val, by omega⟩) (8 + j.val) := by
  have e : k0_pay21 (F := Ideal) a b (ix2 j c) = k0_pay19 (F := Ideal) a b (ix2 j ⟨128 + c.val, by omega⟩) := by
    unfold k0_pay21
    simp only [pointwise]
    exact congrArg _ (congrArg₂ ix2 (Fin.ext (by show 0 + j.val = j.val; omega)) rfl)
  rw [e]
  unfold k0_pay19
  simp only [pointwise]
  rw [ha, hb _ _ (by omega), hP _ _ (by omega), hP _ _ (by show 0 ≤ j.val - 2; omega)]
  show t2 _ (8 + j.val) + t2 _ (8 + (j.val - 2)) = t2 _ (8 + j.val) + t2 _ (8 + j.val - 2)
  rw [show 8 + (j.val - 2) = 8 + j.val - 2 by omega]

/-- Eight neighbours, the rows and columns the mean reads. -/
theorem lev8a (P a b : Vec Ideal S528x256 .f32) (f : Fin 256 → ℕ → EReal) (hP : ∀ (j : Fin 528) (c : Fin 256), 2 ≤ j.val → P (ix2 j c) = t4 (f c) (8 + j.val))
    (ha : ∀ (j : Fin 528) (c : Fin 256), a (ix2 j c) = P (ix2 j c)) (hb : ∀ (j : Fin 528) (c : Fin 256), 4 ≤ j.val → b (ix2 j c) = P (ix2 ⟨j.val - 4, by omega⟩ c))
    (r : Fin 512) (k : Fin 128) :
    k0_pay29 (F := Ideal) a b (ix2 r k) = t8 (f ⟨k.val, by omega⟩) (24 + r.val) := by
  have e : k0_pay29 (F := Ideal) a b (ix2 r k) = k0_pay28 (F := Ideal) a b (ix2 ⟨16 + r.val, by omega⟩ ⟨k.val, by omega⟩) := by
    unfold k0_pay29
    simp only [pointwise]
    exact congrArg _ (congrArg₂ ix2 rfl (Fin.ext (by show 0 + k.val = k.val; omega)))
  rw [e]
  unfold k0_pay28
  simp only [pointwise]
  rw [ha, hb _ _ (by show 4 ≤ 16 + r.val; omega), hP _ _ (by show 2 ≤ 16 + r.val; omega), hP _ _ (by show 2 ≤ 16 + r.val - 4; omega)]
  show t4 _ (8 + (16 + r.val)) + t4 _ (8 + (16 + r.val - 4)) = t4 _ (24 + r.val) + t4 _ (24 + r.val - 4)
  rw [show 8 + (16 + r.val) = 24 + r.val by omega, show 8 + (16 + r.val - 4) = 24 + r.val - 4 by omega]

/-- Eight neighbours in the columns the wider means go on with. -/
theorem lev8 (P a b : Vec Ideal S528x256 .f32) (f : Fin 256 → ℕ → EReal) (hP : ∀ (j : Fin 528) (c : Fin 256), 2 ≤ j.val → P (ix2 j c) = t4 (f c) (8 + j.val))
    (ha : ∀ (j : Fin 528) (c : Fin 256), a (ix2 j c) = P (ix2 j c)) (hb : ∀ (j : Fin 528) (c : Fin 256), 4 ≤ j.val → b (ix2 j c) = P (ix2 ⟨j.val - 4, by omega⟩ c))
    (j : Fin 528) (c : Fin 128) (hj : 6 ≤ j.val) :
    k0_pay30 (F := Ideal) a b (ix2 j c) = t8 (f ⟨128 + c.val, by omega⟩) (8 + j.val) := by
  have e : k0_pay30 (F := Ideal) a b (ix2 j c) = k0_pay28 (F := Ideal) a b (ix2 j ⟨128 + c.val, by omega⟩) := by
    unfold k0_pay30
    simp only [pointwise]
    exact congrArg _ (congrArg₂ ix2 (Fin.ext (by show 0 + j.val = j.val; omega)) rfl)
  rw [e]
  unfold k0_pay28
  simp only [pointwise]
  rw [ha, hb _ _ (by omega), hP _ _ (by omega), hP _ _ (by show 2 ≤ j.val - 4; omega)]
  show t4 _ (8 + j.val) + t4 _ (8 + (j.val - 4)) = t4 _ (8 + j.val) + t4 _ (8 + j.val - 4)
  rw [show 8 + (j.val - 4) = 8 + j.val - 4 by omega]

/-- Sixteen neighbours. -/
theorem lev16 (P : Vec Ideal S528x128 .f32) (a b : Vec Ideal S512x128 .f32) (f : Fin 128 → ℕ → EReal) (hP : ∀ (j : Fin 528) (c : Fin 128), 6 ≤ j.val → P (ix2 j c) = t8 (f c) (8 + j.val))
    (ha : ∀ (r : Fin 512) (c : Fin 128), a (ix2 r c) = P (ix2 ⟨16 + r.val, by omega⟩ c)) (hb : ∀ (r : Fin 512) (c : Fin 128), b (ix2 r c) = P (ix2 ⟨8 + r.val, by omega⟩ c))
    (r : Fin 512) (k : Fin 128) : k0_pay31 (F := Ideal) a b (ix2 r k) = t16 (f k) (24 + r.val) := by
  unfold k0_pay31
  simp only [pointwise]
  rw [ha, hb, hP _ _ (by show 6 ≤ 16 + r.val; omega), hP _ _ (by show 6 ≤ 8 + r.val; omega)]
  show t8 _ (8 + (16 + r.val)) + t8 _ (8 + (8 + r.val)) = t8 _ (24 + r.val) + t8 _ (24 + r.val - 8)
  rw [show 8 + (16 + r.val) = 24 + r.val by omega, show 8 + (8 + r.val) = 24 + r.val - 8 by omega]

/-- The pooled block, row by row, at a point after the first. -/
theorem oB9 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .f32) (harg3 : arg3.IsWhole) (arg4 : Memref sig .tc .vmem S4x128x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S32x1024 .f32) (harg7 : arg7.IsWhole) (arg8 : Memref sig .tc .vmem S1024x128 .f32) (harg8 : arg8.IsWhole) (arg9 : Memref sig .tc .vmem S128x1024 .f32) (harg9 : arg9.IsWhole) (arg10 : Memref sig .tc .vmem S512x512 .bf16) (harg10 : arg10.IsWhole) (arg11 : Memref sig .tc .vmem S1x4x512x128 .bf16) (harg11 : arg11.IsWhole) (arg12 : Memref sig .tc .vmem S1x4x512x128 .bf16) (harg12 : arg12.IsWhole) (arg13 : Memref sig .tc .vmem S1x4x512x128 .bf16) (harg13 : arg13.IsWhole) (arg14 : Memref sig .tc .vmem S32x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1024x2048 .bf16) (harg17 : arg17.IsWhole) (arg18 : Memref sig .tc .vmem S536x512 .f32) (harg18 : arg18.IsWhole) (arg19 : Memref sig .tc .vmem S536x384 .f32) (harg19 : arg19.IsWhole) (arg20 : Memref sig .tc .vmem S536x256 .f32) (harg20 : arg20.IsWhole) (arg21 : Memref sig .tc .vmem S536x128 .f32) (harg21 : arg21.IsWhole) (hc0 : ¬cond0_0 i)
    (x0 : Vec Ideal S512x1024 .f32) (x1 : Vec Ideal S1x1024 .f32) (x2 : Vec Ideal S1024x2048 .f32) (x3 : Vec Ideal S4x128x128 .f32) (x4 : Vec Ideal S1x512 .f32) (x5 : Vec Ideal S1x512 .f32) (x6 : Vec Ideal S32x1024 .f32) (x7 : Vec Ideal S1024x128 .f32) (x8 : Vec Ideal S128x1024 .f32) (xs0 : Vec Ideal S1024x2048 .bf16) (xs1 : Vec Ideal S536x512 .f32) (xs2 : Vec Ideal S536x384 .f32) (xs3 : Vec Ideal S536x256 .f32) (r d : Fin 512) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 xs0 xs1 xs2 xs3 (ix2 r d) = poolRow (fun g k => gmean g (at16 (k0_pay38 (BitVec.ofNat 32 (i 0).val)) r) (wsum g (col xs1 ⟨128 * g.val + k.val, by omega⟩) (24 + r.val)) r)
      (fun k => xs1 (ix2 ⟨24 + r.val, by omega⟩ k)) (fun g k e => x3 (ix3 g k e)) (fun k => x4 (ix2 0 k)) (fun k => x5 (ix2 0 k)) d := by
  frame_out
  rw [pay47_apply]
  unfold poolRow
  have HA : ∀ (j : Fin 528) (c : Fin 512), View.ld xs1 (Rect.unit ![8, 0] ![528, 512] inb_S536x512_S528x512_8_0) (ix2 j c) = col xs1 c (8 + j.val) := fun j c => by
    simp only [pointwise]
    exact (congrArg xs1 (congrArg₂ ix2 (Fin.ext (by show 8 + 1 * j.val = 8 + j.val; omega)) (Fin.ext (by show 0 + 1 * c.val = c.val; omega)))).trans (col_of xs1 c ⟨8 + j.val, by omega⟩ _ rfl)
  have HB : ∀ (j : Fin 528) (c : Fin 512), View.ld xs1 (Rect.unit ![7, 0] ![528, 512] inb_S536x512_S528x512_7_0) (ix2 j c) = col xs1 c (8 + j.val - 1) := fun j c => by
    simp only [pointwise]
    exact (congrArg xs1 (congrArg₂ ix2 (Fin.ext (by show 7 + 1 * j.val = 8 + j.val - 1; omega)) (Fin.ext (by show 0 + 1 * c.val = c.val; omega)))).trans (col_of xs1 c ⟨8 + j.val - 1, by omega⟩ _ rfl)
  have HU : ∀ (g : Fin 4) (k : Fin 128) (o : ℕ) (h : ∀ a, (![24, o] : Fin 2 → ℕ) a + (![512, 128] : Fin 2 → ℕ) a ≤ S536x512.size a) (ho : o = 128 * g.val),
      View.ld xs1 (Rect.unit (s := S536x512) ![24, o] ![512, 128] h) (ix2 r k) = xs1 (ix2 ⟨24 + r.val, by omega⟩ ⟨128 * g.val + k.val, by omega⟩) := fun g k o h ho => by
    simp only [pointwise]
    exact congrArg xs1 (congrArg₂ ix2 (Fin.ext (by show 24 + 1 * r.val = 24 + r.val; omega)) (Fin.ext (by show o + 1 * k.val = 128 * g.val + k.val; omega)))
  have HW : ∀ (g : Fin 4) (k e : Fin 128) (o : ℕ) (h : ∀ a, (![o, 0, 0] : Fin 3 → ℕ) a + (![1, 128, 128] : Fin 3 → ℕ) a ≤ S4x128x128.size a) (ho : o = g.val),
      View.ld x3 (Rect.unit (s := S4x128x128) ![o, 0, 0] ![1, 128, 128] h) (ix3 0 k e) = x3 (ix3 g k e) := fun g k e o h ho => by
    simp only [pointwise]
    refine congrArg x3 (funext fun a => Fin.ext ?_)
    match a with
    | ⟨0, _⟩ => show o + 1 * 0 = g.val; omega
    | ⟨1, _⟩ => show 0 + 1 * k.val = k.val; omega
    | ⟨2, _⟩ => show 0 + 1 * e.val = e.val; omega
  refine congrFun (congrArg₂ rms5 (funext fun l => ?_) ?_) d
  · obtain ⟨g, e, hl⟩ : ∃ (g : Fin 4) (e : Fin 128), l.val = 128 * g.val + e.val := ⟨⟨l.val / 128, by omega⟩, ⟨l.val % 128, by omega⟩, by show l.val = 128 * (l.val / 128) + l.val % 128; omega⟩
    rw [yrow_group _ _ _ _ g e l hl]
    match g, hl with
    | 0, hl =>
      refine (pay43_g0 _ _ _ _ _ _ _ _ _ _ _ e _ hl).trans ?_
      refine congrArg (· * _) ?_
      rw [pay40_apply]
      refine congrFun (congrArg₂ gmap (funext fun k => ?_) (funext fun k => funext fun e => HW 0 k e 0 _ rfl)) _
      refine congrArg₂ (· - ·) ?_ (HU 0 k 0 _ rfl)
      rw [pay39_apply]
      refine congrArg (fun s => meanV _ _ _ _ s r) ?_
      refine (lev2a _ _ _ HA HB r k).trans ?fin
      case fin => refine congrArg (fun q => t2 (col xs1 q) (24 + r.val)) (Fin.ext (by show k.val = 128 * 0 + k.val; omega))
    | 1, hl =>
      refine (pay43_g1 _ _ _ _ _ _ _ _ _ _ _ e _ hl).trans ?_
      refine congrArg (· * _) ?_
      rw [pay41_apply]
      refine congrFun (congrArg₂ gmap (funext fun k => ?_) (funext fun k => funext fun e => HW 1 k e 1 _ rfl)) _
      refine congrArg₂ (· - ·) ?_ (HU 1 k 128 _ rfl)
      skip
      refine congrArg (fun s => meanV _ _ _ _ s r) ?_
      refine (lev4a _ _ _ (fun c => col xs1 ⟨128 + c.val, by omega⟩) ?hP (by exact fun j c => rcv 384 528 _ _ _ 8 _ j c j rfl) (by exact fun j c hj => ldv 384 _ _ _ _ 6 _ j c ⟨j.val - 2, by omega⟩ (by show 6 + j.val = 8 + (j.val - 2); omega)) r k).trans ?fin
      case hP => exact fun j c _ => lev2 _ _ _ HA HB j c
      case fin => refine congrArg (fun q => t4 (col xs1 q) (24 + r.val)) (Fin.ext (by show 128 + k.val = 128 * 1 + k.val; omega))
    | 2, hl =>
      refine (pay43_g2 _ _ _ _ _ _ _ _ _ _ _ e _ hl).trans ?_
      refine congrArg (· * _) ?_
      skip
      refine congrFun (congrArg₂ gmap (funext fun k => ?_) (funext fun k => funext fun e => HW 2 k e 2 _ rfl)) _
      refine congrArg₂ (· - ·) ?_ (HU 2 k 256 _ rfl)
      rw [pay42_apply]
      refine congrArg (fun s => meanV _ _ _ _ s r) ?_
      refine (lev8a _ _ _ (fun c => col xs1 ⟨128 + (128 + c.val), by omega⟩) ?hP (by exact fun j c => rcv 256 528 _ _ _ 8 _ j c j rfl) (by exact fun j c hj => ldv 256 _ _ _ _ 4 _ j c ⟨j.val - 4, by omega⟩ (by show 4 + j.val = 8 + (j.val - 4); omega)) r k).trans ?fin
      case hP =>
        intro j c hj
        refine lev4 _ _ _ (fun c => col xs1 ⟨128 + c.val, by omega⟩) ?hP (by exact fun j c => rcv 384 528 _ _ _ 8 _ j c j rfl) (by exact fun j c hj => ldv 384 _ _ _ _ 6 _ j c ⟨j.val - 2, by omega⟩ (by show 6 + j.val = 8 + (j.val - 2); omega)) j c (by omega)
        case hP => exact fun j c _ => lev2 _ _ _ HA HB j c
      case fin => refine congrArg (fun q => t8 (col xs1 q) (24 + r.val)) (Fin.ext (by show 128 + (128 + k.val) = 128 * 2 + k.val; omega))
    | 3, hl =>
      refine (pay43_g3 _ _ _ _ _ _ _ _ _ _ _ e _ hl).trans ?_
      refine congrArg (· * _) ?_
      skip
      refine congrFun (congrArg₂ gmap (funext fun k => ?_) (funext fun k => funext fun e => HW 3 k e 3 _ rfl)) _
      refine congrArg₂ (· - ·) ?_ (HU 3 k 384 _ rfl)
      skip
      refine congrArg (fun s => meanV _ _ _ _ s r) ?_
      refine (lev16 _ _ _ (fun c => col xs1 ⟨128 + (128 + (128 + c.val)), by omega⟩) ?hP (by exact fun j c => rcv 128 512 _ _ _ 24 _ j c ⟨16 + j.val, by omega⟩ (by show 24 + j.val = 8 + (16 + j.val); omega)) (by exact fun j c => rcv 128 512 _ _ _ 16 _ j c ⟨8 + j.val, by omega⟩ (by show 16 + j.val = 8 + (8 + j.val); omega)) r k).trans ?fin
      case hP =>
        intro j c hj
        refine lev8 _ _ _ (fun c => col xs1 ⟨128 + (128 + c.val), by omega⟩) ?hP (by exact fun j c => rcv 256 528 _ _ _ 8 _ j c j rfl) (by exact fun j c hj => ldv 256 _ _ _ _ 4 _ j c ⟨j.val - 4, by omega⟩ (by show 4 + j.val = 8 + (j.val - 4); omega)) j c (by omega)
        case hP =>
          intro j c hj
          refine lev4 _ _ _ (fun c => col xs1 ⟨128 + c.val, by omega⟩) ?hP (by exact fun j c => rcv 384 528 _ _ _ 8 _ j c j rfl) (by exact fun j c hj => ldv 384 _ _ _ _ 6 _ j c ⟨j.val - 2, by omega⟩ (by show 6 + j.val = 8 + (j.val - 2); omega)) j c (by omega)
          case hP => exact fun j c _ => lev2 _ _ _ HA HB j c
      case fin => refine congrArg (fun q => t16 (col xs1 q) (24 + r.val)) (Fin.ext (by show 128 + (128 + (128 + k.val)) = 128 * 3 + k.val; omega))
  · funext k
    rfl

end Cert.Proof.Inp
-- ==== Proof.InpMean.lean ====
/-
  The window means: the kernel's tree of neighbour sums, scaled, is the window's sum over its count; and, over real entries,
  so is the difference of two running sums.
-/
module

public import proofs.«01_k».proof.Proof.InpPool

@[expose] public section

set_option maxRecDepth 16384
noncomputable section

namespace Cert.Proof.Inp
open Idealize.ShloMosaic Idealize.ShloMosaic.TcCoe Cert.Kernel3Ideal Cert.Kernel3Ideal.Gen
open scoped BigOperators

/-- The window's length in group `g`. -/
def wlen (g : Fin 4) : ℕ := match g with | 0 => 2 | 1 => 4 | 2 => 8 | 3 => 16

/-- The last `w` entries up to position `s`, added; a position before the sequence counts zero. -/
def win (w : ℕ) (f : ℕ → EReal) (s : ℕ) : EReal := ∑ j ∈ Finset.range w, if j ≤ s then f (s - j) else 0

/-- The mean over the window: its sum over the number of positions it holds. -/
def wmean (w : ℕ) (f : ℕ → EReal) (s : ℕ) : EReal := Ideal.div (win w f s) ((min (s + 1) w : ℕ) : ℝ)

/-- The 2-neighbour tree is the sum of 2 entries. -/
theorem t2_eq (F : ℕ → EReal) (n : ℕ) : t2 F n = ∑ j ∈ Finset.range 2, F (n - j) := by
  simp [t2, Finset.sum_range_succ]
/-- The 4-neighbour tree is the sum of 4 entries. -/
theorem t4_eq (F : ℕ → EReal) (n : ℕ) : t4 F n = ∑ j ∈ Finset.range 4, F (n - j) := by
  simp [t4, t2, Finset.sum_range_succ, Nat.sub_sub, add_assoc]
/-- The 8-neighbour tree is the sum of 8 entries. -/
theorem t8_eq (F : ℕ → EReal) (n : ℕ) : t8 F n = ∑ j ∈ Finset.range 8, F (n - j) := by
  simp [t8, t4, t2, Finset.sum_range_succ, Nat.sub_sub, add_assoc]
/-- The 16-neighbour tree is the sum of 16 entries. -/
theorem t16_eq (F : ℕ → EReal) (n : ℕ) : t16 F n = ∑ j ∈ Finset.range 16, F (n - j) := by
  simp [t16, t8, t4, t2, Finset.sum_range_succ, Nat.sub_sub, add_assoc]

/-- The tree of neighbour sums adds the last `wlen g` entries. -/
theorem wsum_eq (g : Fin 4) (F f : ℕ → EReal) (n s : ℕ) (h : ∀ j < 16, F (n - j) = if j ≤ s then f (s - j) else 0) : wsum g F n = win (wlen g) f s := by
  fin_cases g
  · exact (t2_eq F n).trans (Finset.sum_congr rfl fun j hj => h j (by have := Finset.mem_range.mp hj; show j < 16; have : j < 2 := this; omega))
  · exact (t4_eq F n).trans (Finset.sum_congr rfl fun j hj => h j (by have : j < 4 := Finset.mem_range.mp hj; omega))
  · exact (t8_eq F n).trans (Finset.sum_congr rfl fun j hj => h j (by have : j < 8 := Finset.mem_range.mp hj; omega))
  · exact (t16_eq F n).trans (Finset.sum_congr rfl fun j hj => h j (by have : j < 16 := Finset.mem_range.mp hj; omega))

/-- The constant 2. -/
theorem c2 : Ideal.ofBits .f32 0x40000000#32 = ((2 : ℝ) : EReal) := by
  simp [Ideal.ofBits, Ideal.ieee, -EReal.coe_mul]; norm_num
/-- The constant 4. -/
theorem c4 : Ideal.ofBits .f32 0x40800000#32 = ((4 : ℝ) : EReal) := by
  simp [Ideal.ofBits, Ideal.ieee, -EReal.coe_mul]; norm_num
/-- The constant 8. -/
theorem c8 : Ideal.ofBits .f32 0x41000000#32 = ((8 : ℝ) : EReal) := by
  simp [Ideal.ofBits, Ideal.ieee, -EReal.coe_mul]; norm_num
/-- The constant 16. -/
theorem c16 : Ideal.ofBits .f32 0x41800000#32 = ((16 : ℝ) : EReal) := by
  simp [Ideal.ofBits, Ideal.ieee, -EReal.coe_mul]; norm_num
/-- The constant 1/2. -/
theorem i2 : Ideal.ofBits .f32 0x3F000000#32 = ((1 / 2 : ℝ) : EReal) := by
  simp [Ideal.ofBits, Ideal.ieee, -EReal.coe_mul]; norm_num
/-- The constant 1/4. -/
theorem i4 : Ideal.ofBits .f32 0x3E800000#32 = ((1 / 4 : ℝ) : EReal) := by
  simp [Ideal.ofBits, Ideal.ieee, -EReal.coe_mul]; norm_num
/-- The constant 1/8. -/
theorem i8 : Ideal.ofBits .f32 0x3E000000#32 = ((1 / 8 : ℝ) : EReal) := by
  simp [Ideal.ofBits, Ideal.ieee, -EReal.coe_mul]; norm_num
/-- The constant 1/16. -/
theorem i16 : Ideal.ofBits .f32 0x3D800000#32 = ((1 / 16 : ℝ) : EReal) := by
  simp [Ideal.ofBits, Ideal.ieee, -EReal.coe_mul]; norm_num

/-- Scaling by `w / count` and then by `1 / w` divides by the count. -/
theorem meanV_eq (w : ℕ) (hw : 0 < w) (hw' : w ≤ 16) (wb p : BitVec 32) (cw ci S : EReal) (hcw : cw = ((w : ℝ) : EReal)) (hci : ci = ((1 / (w : ℝ) : ℝ) : EReal)) (r : Fin 512) (s : ℕ)
    (hlo : r.val < 16 → (IntOp.minsi (IntOp.addi p 1#32) wb).toInt = ((min (s + 1) w : ℕ) : ℤ)) (hhi : ¬ r.val < 16 → 16 ≤ s) :
    meanV wb cw ci p S r = Ideal.div S (((min (s + 1) w : ℕ) : ℝ) : EReal) := by
  have hw0 : (w : ℝ) ≠ 0 := by exact_mod_cast hw.ne'
  have hc0 : ((min (s + 1) w : ℕ) : ℝ) ≠ 0 := by
    have : 0 < min (s + 1) w := lt_min (Nat.succ_pos _) hw
    exact_mod_cast this.ne'
  unfold meanV
  by_cases h : r.val < 16
  · rw [if_pos h, hcw, hci]
    have e : FloatOps.sitofp (F := Ideal) .f32 (IntOp.minsi (IntOp.addi p 1#32) wb) = (((min (s + 1) w : ℕ) : ℝ) : EReal) := by
      show (((IntOp.minsi (IntOp.addi p 1#32) wb).toInt : ℝ) : EReal) = _
      rw [hlo h]
      push_cast
      rfl
    rw [e, Ideal.div_coe hc0, Ideal.div_coe hc0, mul_assoc, ← EReal.coe_mul, ← EReal.coe_mul]
    congr 2
    field_simp
  · rw [if_neg h, hci]
    have : min (s + 1) w = w := min_eq_right (by have := hhi h; omega)
    rw [this, Ideal.div_coe hw0]

/-- The window mean of group `g` as the kernel computes it. -/
theorem gmean_eq (g : Fin 4) (p : BitVec 32) (S : EReal) (r : Fin 512) (s : ℕ)
    (hlo : r.val < 16 → ∀ w ≤ 16, 0 < w → (IntOp.minsi (IntOp.addi p 1#32) (BitVec.ofNat 32 w)).toInt = ((min (s + 1) w : ℕ) : ℤ)) (hhi : ¬ r.val < 16 → 16 ≤ s) :
    gmean g p S r = Ideal.div S (((min (s + 1) (wlen g) : ℕ) : ℝ) : EReal) := by
  fin_cases g
  · exact meanV_eq 2 (by decide) (by decide) _ p _ _ S (by rw [c2]; norm_num) (by rw [i2]; norm_num) r s (fun h => hlo h 2 (by decide) (by decide)) hhi
  · exact meanV_eq 4 (by decide) (by decide) _ p _ _ S (by rw [c4]; norm_num) (by rw [i4]; norm_num) r s (fun h => hlo h 4 (by decide) (by decide)) hhi
  · exact meanV_eq 8 (by decide) (by decide) _ p _ _ S (by rw [c8]; norm_num) (by rw [i8]; norm_num) r s (fun h => hlo h 8 (by decide) (by decide)) hhi
  · exact meanV_eq 16 (by decide) (by decide) _ p _ _ S (by rw [c16]; norm_num) (by rw [i16]; norm_num) r s (fun h => hlo h 16 (by decide) (by decide)) hhi

/-- Over real entries, the running sum less the running sum `w` places back is the window's sum. -/
theorem lag_eq (w : ℕ) (f : ℕ → EReal) (φ : ℕ → ℝ) (hf : ∀ n, f n = (φ n : EReal)) (s : ℕ) :
    (∑ n ∈ Finset.range (s + 1), f n) - (if w ≤ s then ∑ n ∈ Finset.range (s - w + 1), f n else 0) = win w f s := by
  have hs : ∀ k, (∑ n ∈ Finset.range k, f n) = ((∑ n ∈ Finset.range k, φ n : ℝ) : EReal) := fun k => by
    rw [Finset.sum_congr rfl fun n _ => hf n]
    induction k with
    | zero => simp
    | succ k ih => rw [Finset.sum_range_succ, Finset.sum_range_succ, ih, EReal.coe_add]
  have hw : ∀ w', win w' f s = ((∑ j ∈ Finset.range w', (if j ≤ s then φ (s - j) else 0) : ℝ) : EReal) := fun w' => by
    unfold win
    induction w' with
    | zero => simp
    | succ k ih =>
      rw [Finset.sum_range_succ, Finset.sum_range_succ, ih, EReal.coe_add]
      refine congrArg _ ?_
      split
      · exact hf _
      · simp
  have hr : ∀ w', (∑ n ∈ Finset.range (s + 1), φ n) - (if w' ≤ s then ∑ n ∈ Finset.range (s - w' + 1), φ n else 0) = ∑ j ∈ Finset.range w', (if j ≤ s then φ (s - j) else 0) := fun w' => by
    induction w' with
    | zero => simp
    | succ k ih =>
      rw [Finset.sum_range_succ (fun j => if j ≤ s then φ (s - j) else 0) k, ← ih]
      by_cases h1 : k + 1 ≤ s
      · rw [if_pos h1, if_pos (by omega : k ≤ s), if_pos (by omega : k ≤ s), show s - k + 1 = (s - (k + 1) + 1) + 1 by omega, Finset.sum_range_succ φ (s - (k + 1) + 1), show s - (k + 1) + 1 = s - k by omega]
        ring
      · by_cases h2 : k ≤ s
        · have : k = s := by omega
          subst this
          simp
        · rw [if_neg h1, if_neg h2, if_neg h2]
          ring
  rw [hw, ← hr w, hs, EReal.coe_sub]
  refine congrArg _ ?_
  split
  · exact hs _
  · simp

section Results
variable (x : S4x4096x1024.Idx → EReal) (g1 : S1024.Idx → EReal) (w : S1024x2048.Idx → EReal)

/-- Column `q` of token `i`'s projected row. -/
def urow (i : Fin 16384) (q : Fin 2048) : EReal :=
  proj (fun k => x (ix3 ⟨i.val / 4096, Nat.div_lt_of_lt_mul i.isLt⟩ ⟨i.val % 4096, Nat.mod_lt _ (by decide)⟩ k)) (fun k => g1 (ix1 k)) (fun k e => w (ix2 k e)) q

/-- Lane `d` of the pooled inputs at position `n` of sequence `b`. -/
def hist (b : Fin 4) (d : Fin 512) (n : ℕ) : EReal :=
  if h : n < 4096 then urow x g1 w ⟨4096 * b.val + n, by omega⟩ ⟨d.val, by omega⟩ else 0

/-- The pooled mixer's normed rows. -/
def Gpool (pw : S4x128x128.Idx → EReal) (sc pg : S512.Idx → EReal) (y : S16384x512.Idx) : EReal :=
  poolRow (fun gr k => wmean (wlen gr) (hist x g1 w ⟨(y 0).val / 4096, Nat.div_lt_of_lt_mul (y 0).isLt⟩ ⟨128 * gr.val + k.val, by omega⟩) ((y 0).val % 4096))
    (fun k => urow x g1 w (y 0) ⟨k.val, by omega⟩) (fun gr k e => pw (ix3 gr k e)) (fun k => sc (ix1 k)) (fun k => pg (ix1 k)) (y 1)

/-- The projected columns from `c`, split into sequences, pairs of heads, positions and lanes. -/
def Gcols (c : Fin 1537) (y : S4x4x4096x128.Idx) : EReal :=
  urow x g1 w ⟨4096 * (y 0).val + (y 2).val, by have h0 : (y 0).val < 4 := (y 0).isLt; have h2 : (y 2).val < 4096 := (y 2).isLt; omega⟩
    ⟨c.val + 128 * (y 1).val + (y 3).val, by have h1 : (y 1).val < 4 := (y 1).isLt; have h3 : (y 3).val < 128 := (y 3).isLt; omega⟩

/-- The queries carry the attention's scale. -/
def Gq (y : S4x4x4096x128.Idx) : EReal := Gcols x g1 w 512 y * Ideal.ofBits .f32 0x3E38AA3B#32

end Results

end Cert.Proof.Inp
-- ==== Proof.InpPoint.lean ====
/-
  The third program's point values, component by component.
-/
module

public import proofs.«01_k».proof.Proof.InpMean
public import proofs.«01_k».proof.Proof.Gen.Kernel3Ideal.Value

@[expose] public section

set_option maxRecDepth 16384
noncomputable section

namespace Cert.Proof.Inp
open Idealize.ShloMosaic Idealize.ShloMosaic.TcCoe Cert.Kernel3Ideal Cert.Kernel3Ideal.Gen

variable (m : (ℓ : Loc nD τ sig) → Buf (Elt Ideal) ℓ)

/-- At the first point, component 1 of what the body leaves. -/
theorem cA1 (c : Dev nD) (t : Fin cfg0.N) (h0 : t.val % 33 = 0) : (outsAt0 m c t.val t.isLt).2.1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) := by
  rw [outsAt0_A m c t h0]

/-- At the first point, component 2 of what the body leaves. -/
theorem cA2 (c : Dev nD) (t : Fin cfg0.N) (h0 : t.val % 33 = 0) : (outsAt0 m c t.val t.isLt).2.2.1 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) := by
  rw [outsAt0_A m c t h0]

/-- At the first point, component 3 of what the body leaves. -/
theorem cA3 (c : Dev nD) (t : Fin cfg0.N) (h0 : t.val % 33 = 0) : (outsAt0 m c t.val t.isLt).2.2.2.1 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) := by
  rw [outsAt0_A m c t h0]

/-- At the first point, component 4 of what the body leaves. -/
theorem cA4 (c : Dev nD) (t : Fin cfg0.N) (h0 : t.val % 33 = 0) : (outsAt0 m c t.val t.isLt).2.2.2.2.1 = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) := by
  rw [outsAt0_A m c t h0]

/-- At the first point, component 5 of what the body leaves. -/
theorem cA5 (c : Dev nD) (t : Fin cfg0.N) (h0 : t.val % 33 = 0) : (outsAt0 m c t.val t.isLt).2.2.2.2.2.1 = out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) := by
  rw [outsAt0_A m c t h0]

/-- At the first point, component 6 of what the body leaves. -/
theorem cA6 (c : Dev nD) (t : Fin cfg0.N) (h0 : t.val % 33 = 0) : (outsAt0 m c t.val t.isLt).2.2.2.2.2.2.1 = out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) := by
  rw [outsAt0_A m c t h0]

/-- At the first point, component 7 of what the body leaves. -/
theorem cA7 (c : Dev nD) (t : Fin cfg0.N) (h0 : t.val % 33 = 0) : (outsAt0 m c t.val t.isLt).2.2.2.2.2.2.2.1 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) := by
  rw [outsAt0_A m c t h0]

/-- At the first point, component 8 of what the body leaves. -/
theorem cA8 (c : Dev nD) (t : Fin cfg0.N) (h0 : t.val % 33 = 0) : (outsAt0 m c t.val t.isLt).2.2.2.2.2.2.2.2.1 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) := by
  rw [outsAt0_A m c t h0]

/-- At a later point, component 0 of what the body leaves. -/
theorem cB0 (c : Dev nD) (t : Fin cfg0.N) (h0 : ¬t.val % 33 = 0) : (outsAt0 m c t.val t.isLt).1 = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2 := by
  rw [outsAt0_B m c t h0]

/-- At a later point, component 1 of what the body leaves. -/
theorem cB1 (c : Dev nD) (t : Fin cfg0.N) (h0 : ¬t.val % 33 = 0) : (outsAt0 m c t.val t.isLt).2.1 = out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2 := by
  rw [outsAt0_B m c t h0]

/-- At a later point, component 2 of what the body leaves. -/
theorem cB2 (c : Dev nD) (t : Fin cfg0.N) (h0 : ¬t.val % 33 = 0) : (outsAt0 m c t.val t.isLt).2.2.1 = out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2 := by
  rw [outsAt0_B m c t h0]

/-- At a later point, component 3 of what the body leaves. -/
theorem cB3 (c : Dev nD) (t : Fin cfg0.N) (h0 : ¬t.val % 33 = 0) : (outsAt0 m c t.val t.isLt).2.2.2.1 = out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2 := by
  rw [outsAt0_B m c t h0]

/-- At a later point, component 4 of what the body leaves. -/
theorem cB4 (c : Dev nD) (t : Fin cfg0.N) (h0 : ¬t.val % 33 = 0) : (outsAt0 m c t.val t.isLt).2.2.2.2.1 = out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2 := by
  rw [outsAt0_B m c t h0]

/-- At a later point, component 5 of what the body leaves. -/
theorem cB5 (c : Dev nD) (t : Fin cfg0.N) (h0 : ¬t.val % 33 = 0) : (outsAt0 m c t.val t.isLt).2.2.2.2.2.1 = out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2 := by
  rw [outsAt0_B m c t h0]

/-- At a later point, component 6 of what the body leaves. -/
theorem cB6 (c : Dev nD) (t : Fin cfg0.N) (h0 : ¬t.val % 33 = 0) : (outsAt0 m c t.val t.isLt).2.2.2.2.2.2.1 = out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2 := by
  rw [outsAt0_B m c t h0]

/-- At a later point, component 7 of what the body leaves. -/
theorem cB7 (c : Dev nD) (t : Fin cfg0.N) (h0 : ¬t.val % 33 = 0) : (outsAt0 m c t.val t.isLt).2.2.2.2.2.2.2.1 = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2 := by
  rw [outsAt0_B m c t h0]

/-- At a later point, component 8 of what the body leaves. -/
theorem cB8 (c : Dev nD) (t : Fin cfg0.N) (h0 : ¬t.val % 33 = 0) : (outsAt0 m c t.val t.isLt).2.2.2.2.2.2.2.2.1 = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2 := by
  rw [outsAt0_B m c t h0]

end Cert.Proof.Inp
-- ==== Proof.InpValue.lean ====
/-
  From blocks to arrays: the third program's seven output arrays are functions of its arguments.
-/
module

public import proofs.«01_k».proof.Proof.InpPoint

@[expose] public section

set_option maxRecDepth 16384
noncomputable section

namespace Cert.Proof.Inp
open Idealize.ShloMosaic Idealize.ShloMosaic.TcCoe Cert.Kernel3Ideal Cert.Kernel3Ideal.Gen
open scoped BigOperators

variable (m : (ℓ : Loc nD τ sig) → Buf (Elt Ideal) ℓ)

/-- The grid's one coordinate is the point's number. -/
theorem hcoord : ∀ t : Fin cfg0.N, (grid0.coords t 0).val = t.val := (by decide +kernel : ∀ t : Fin grid0.N, (grid0.coords t 0).val = t.val)
/-- Where window 0's block starts at each point. -/
theorem e0 : ∀ t : Fin cfg0.N, win0_0.index t = ![min t.val 31, 0] := (by decide +kernel : ∀ t : Fin grid0.N, win0_0.index t = ![min t.val 31, 0])
/-- Where window 1's block starts at each point. -/
theorem e1 : ∀ t : Fin cfg0.N, win0_1.index t = ![0, 0] := (by decide +kernel : ∀ t : Fin grid0.N, win0_1.index t = ![0, 0])
/-- Where window 2's block starts at each point. -/
theorem e2 : ∀ t : Fin cfg0.N, win0_2.index t = ![0, 0] := (by decide +kernel : ∀ t : Fin grid0.N, win0_2.index t = ![0, 0])
/-- Where window 3's block starts at each point. -/
theorem e3 : ∀ t : Fin cfg0.N, win0_3.index t = ![0, 0, 0] := (by decide +kernel : ∀ t : Fin grid0.N, win0_3.index t = ![0, 0, 0])
/-- Where window 4's block starts at each point. -/
theorem e4 : ∀ t : Fin cfg0.N, win0_4.index t = ![0, 0] := (by decide +kernel : ∀ t : Fin grid0.N, win0_4.index t = ![0, 0])
/-- Where window 5's block starts at each point. -/
theorem e5 : ∀ t : Fin cfg0.N, win0_5.index t = ![0, 0] := (by decide +kernel : ∀ t : Fin grid0.N, win0_5.index t = ![0, 0])
/-- Where window 6's block starts at each point. -/
theorem e6 : ∀ t : Fin cfg0.N, win0_6.index t = ![min t.val 31, 0] := (by decide +kernel : ∀ t : Fin grid0.N, win0_6.index t = ![min t.val 31, 0])
/-- Where window 7's block starts at each point. -/
theorem e7 : ∀ t : Fin cfg0.N, win0_7.index t = ![0, min t.val 31] := (by decide +kernel : ∀ t : Fin grid0.N, win0_7.index t = ![0, min t.val 31])
/-- Where window 8's block starts at each point. -/
theorem e8 : ∀ t : Fin cfg0.N, win0_8.index t = ![min t.val 31, 0] := (by decide +kernel : ∀ t : Fin grid0.N, win0_8.index t = ![min t.val 31, 0])
/-- Where window 9's block starts at each point. -/
theorem e9 : ∀ t : Fin cfg0.N, win0_9.index t = ![t.val - 1, 0] := (by decide +kernel : ∀ t : Fin grid0.N, win0_9.index t = ![t.val - 1, 0])
/-- Where window 10's block starts at each point. -/
theorem e10 : ∀ t : Fin cfg0.N, win0_10.index t = ![min t.val 31 / 8, 0, min t.val 31 % 8, 0] := (by decide +kernel : ∀ t : Fin grid0.N, win0_10.index t = ![min t.val 31 / 8, 0, min t.val 31 % 8, 0])
/-- Where window 11's block starts at each point. -/
theorem e11 : ∀ t : Fin cfg0.N, win0_11.index t = ![min t.val 31 / 8, 0, min t.val 31 % 8, 0] := (by decide +kernel : ∀ t : Fin grid0.N, win0_11.index t = ![min t.val 31 / 8, 0, min t.val 31 % 8, 0])
/-- Where window 12's block starts at each point. -/
theorem e12 : ∀ t : Fin cfg0.N, win0_12.index t = ![min t.val 31 / 8, 0, min t.val 31 % 8, 0] := (by decide +kernel : ∀ t : Fin grid0.N, win0_12.index t = ![min t.val 31 / 8, 0, min t.val 31 % 8, 0])
/-- Where window 13's block starts at each point. -/
theorem e13 : ∀ t : Fin cfg0.N, win0_13.index t = ![min t.val 31, 0] := (by decide +kernel : ∀ t : Fin grid0.N, win0_13.index t = ![min t.val 31, 0])
/-- Where window 14's block starts at each point. -/
theorem e14 : ∀ t : Fin cfg0.N, win0_14.index t = ![0, min t.val 31] := (by decide +kernel : ∀ t : Fin grid0.N, win0_14.index t = ![0, min t.val 31])
/-- Where window 15's block starts at each point. -/
theorem e15 : ∀ t : Fin cfg0.N, win0_15.index t = ![min t.val 31, 0] := (by decide +kernel : ∀ t : Fin grid0.N, win0_15.index t = ![min t.val 31, 0])

/-- A tile starts a sequence when its number is a multiple of eight. -/
theorem start_iff : ∀ t : Fin 33, startBit (BitVec.ofNat 32 t.val) = 1#1 ↔ min t.val 31 % 8 = 0 := by decide +kernel

/-- What the host part hands the call here. -/
theorem V0 (c : Dev nD) : V m c main_v0 = shapeCast S16384x1024 (m ((c : Thread nD τ).loc main_arg0)) shapeCasts_S4x4096x1024_S16384x1024 := by
  dsimp only [V]; simp only [hostOps0]; after_results_simp <;> rfl
/-- What the host part hands the call here. -/
theorem V1 (c : Dev nD) : V m c main_v1 = shapeCast S1x1024 (m ((c : Thread nD τ).loc main_arg1)) shapeCasts_S1024_S1x1024 := by
  dsimp only [V]; simp only [hostOps0]; after_results_simp <;> rfl
/-- What the host part hands the call here. -/
theorem V2 (c : Dev nD) : V m c main_v2 = shapeCast S1x512 (m ((c : Thread nD τ).loc main_arg4)) shapeCasts_S512_S1x512 := by
  dsimp only [V]; simp only [hostOps0]; after_results_simp <;> rfl
/-- What the host part hands the call here. -/
theorem V3 (c : Dev nD) : V m c main_v3 = shapeCast S1x512 (m ((c : Thread nD τ).loc main_arg5)) shapeCasts_S512_S1x512 := by
  dsimp only [V]; simp only [hostOps0]; after_results_simp <;> rfl

/-- A gain reshaped to one row, read lane by lane. -/
theorem sc1 (f : S1024.Idx → EReal) (k : Fin 1024) : shapeCast S1x1024 f shapeCasts_S1024_S1x1024 (ix2 0 k) = f (ix1 k) := by
  refine shapeCast_apply _ _ _ _ ?_
  rw [Shape.rowMajor_val_one, Shape.rowMajor_val_two]
  simp [ix1, ix2]

/-- A row of width 512, read lane by lane. -/
theorem sc5 (f : S512.Idx → EReal) (k : Fin 512) : shapeCast S1x512 f shapeCasts_S512_S1x512 (ix2 0 k) = f (ix1 k) := by
  refine shapeCast_apply _ _ _ _ ?_
  rw [Shape.rowMajor_val_one, Shape.rowMajor_val_two]
  simp [ix1, ix2]

/-- The tokens as rows: row `i` is position `i % 4096` of sequence `i / 4096`. -/
theorem sc1024 (f : S4x4096x1024.Idx → EReal) (i : Fin 16384) (k : Fin 1024) : shapeCast S16384x1024 f shapeCasts_S4x4096x1024_S16384x1024 (ix2 i k)
    = f (ix3 ⟨i.val / 4096, Nat.div_lt_of_lt_mul i.isLt⟩ ⟨i.val % 4096, Nat.mod_lt _ (by decide)⟩ k) := by
  refine shapeCast_apply _ _ _ _ ?_
  rw [Shape.rowMajor_val_three, Shape.rowMajor_val_two]
  simp [ix2, ix3]
  omega

/-- Row `r` of point `t`'s block of array 0 is the row of token `512 t + r` (the last tile again at the last point). -/
theorem b0 (c : Dev nD) (t : Fin cfg0.N) (r : Fin 512) (k : Fin 1024) (i : Fin 16384) (hi : i.val = 512 * min t.val 31 + r.val) :
    iblk m c 0 t (ix2 r k) = m ((c : Thread nD τ).loc main_arg0) (ix3 ⟨i.val / 4096, Nat.div_lt_of_lt_mul i.isLt⟩ ⟨i.val % 4096, Nat.mod_lt _ (by decide)⟩ k) := by
  rw [← sc1024 (m ((c : Thread nD τ).loc main_arg0)) i k]
  refine Eq.trans ?_ (congrFun (V0 m c) (ix2 i k))
  blk_simp [iblk]
  exact congrArg (V m c main_v0) (by blk_ext [e0 t]; all_goals simp [ix2]; try omega)

/-- The norm's gain, whole at every point. -/
theorem b1 (c : Dev nD) (t : Fin cfg0.N) (k : Fin 1024) : iblk m c 1 t (ix2 0 k) = m ((c : Thread nD τ).loc main_arg1) (ix1 k) := by
  rw [← sc1 (m ((c : Thread nD τ).loc main_arg1)) k, ← V1 m c]
  blk_simp [iblk]
  exact congrArg _ (by blk_ext [e1 t])

/-- The projection's weights, whole at every point. -/
theorem b2 (c : Dev nD) (t : Fin cfg0.N) (e : Fin 1024) (k : Fin 2048) : iblk m c 2 t (ix2 e k) = m ((c : Thread nD τ).loc main_arg2) (ix2 e k) := by
  rw [← V_main_arg2 m c]
  blk_simp [iblk]
  exact congrArg _ (by blk_ext [e2 t])

/-- The pooling maps, whole at every point. -/
theorem b3 (c : Dev nD) (t : Fin cfg0.N) (g : Fin 4) (e k : Fin 128) : iblk m c 3 t (ix3 g e k) = m ((c : Thread nD τ).loc main_arg3) (ix3 g e k) := by
  rw [← V_main_arg3 m c]
  blk_simp [iblk]
  exact congrArg _ (by blk_ext [e3 t])

/-- The pooling scale, whole at every point. -/
theorem b4 (c : Dev nD) (t : Fin cfg0.N) (k : Fin 512) : iblk m c 4 t (ix2 0 k) = m ((c : Thread nD τ).loc main_arg4) (ix1 k) := by
  rw [← sc5 (m ((c : Thread nD τ).loc main_arg4)) k, ← V2 m c]
  blk_simp [iblk]
  exact congrArg _ (by blk_ext [e4 t])

/-- The pooled norm's gain, whole at every point. -/
theorem b5 (c : Dev nD) (t : Fin cfg0.N) (k : Fin 512) : iblk m c 5 t (ix2 0 k) = m ((c : Thread nD τ).loc main_arg5) (ix1 k) := by
  rw [← sc5 (m ((c : Thread nD τ).loc main_arg5)) k, ← V3 m c]
  blk_simp [iblk]
  exact congrArg _ (by blk_ext [e5 t])

/-- The projection's weights as one block. -/
theorem b2' (c : Dev nD) (t : Fin cfg0.N) : (iblk m c 2 t : S1024x2048.Idx → EReal) = (m ((c : Thread nD τ).loc main_arg2)) := by
  funext y
  obtain ⟨e, k, rfl⟩ : ∃ (e : Fin 1024) (k : Fin 2048), y = ix2 e k := ⟨y 0, y 1, by funext a; match a with | ⟨0, _⟩ => rfl | ⟨1, _⟩ => rfl⟩
  exact b2 m c t e k

/-- The projection of a tile's rows is the projection of its tokens. -/
theorem tileProj (c : Dev nD) (t : Fin cfg0.N) (r : Fin 512) (q : Fin 2048) (i : Fin 16384) (hi : i.val = 512 * min t.val 31 + r.val) :
    (∑ k, k0_pay10 (F := Ideal) (iblk m c 0 t) (iblk m c 1 t) (ix2 r k) * (m ((c : Thread nD τ).loc main_arg2)) (ix2 k q)) = urow (m ((c : Thread nD τ).loc main_arg0)) (m ((c : Thread nD τ).loc main_arg1)) (m ((c : Thread nD τ).loc main_arg2)) i q := by
  refine Finset.sum_congr rfl fun k _ => congrArg (· * _) ?_
  rw [pay10_apply]
  exact congrArg₂ (fun a b => Mlp.rms a b k) (funext fun k => b0 m c t r k i hi) (funext fun k => b1 m c t k)

/-- The carried weights are the weights at every point. -/
theorem wbfAux (c : Dev nD) : ∀ (n : ℕ) (t : Fin cfg0.N), t.val = n → (outsAt0 m c t.val t.isLt).2.2.2.2.2.2.2.1 = (m ((c : Thread nD τ).loc main_arg2)) := by
  intro n
  induction n with
  | zero =>
    intro t ht
    rw [cA7 m c t (by rw [ht])]
    exact (sA0 _ _ _ _ _ _ _ _ _ _ _ _ _ _ _ _ _ _ _ _ _ _ _ _ _ _ _ _ _ _ _ _ _ _ _ _ _ _ _ _ _ _ _ _ _ _ _ _ _ _ _ _ _ _).trans (b2' m c t)
  | succ n ih =>
    intro t ht
    have hn' : t.val < 33 := t.isLt
    rw [cB7 m c t (by omega)]
    exact (sB0 _ _ _ _ _ _ _ _ _ _ _ _ _ _ _ _ _ _ _ _ _ _ _ _ _ _ _ _ _ _ _ _ _ _ _ _ _ _ _ _ _ _ _ _ _ _ _ _ _ _ _ _ _ _ _ _ _ _).trans (ih ⟨t.val - 1, by omega⟩ (by show t.val - 1 = n; omega))

/-- The kept weights after any point are the projection's weights. -/
theorem wbf (c : Dev nD) (n : ℕ) (hn : n < cfg0.N) : (outsAt0 m c n hn).2.2.2.2.2.2.2.1 = (m ((c : Thread nD τ).loc main_arg2)) := wbfAux m c n ⟨n, hn⟩ rfl

/-- The pooled inputs' own rows after a point are its tile's. -/
theorem ubufHi (c : Dev nD) (t : Fin cfg0.N) (r : Fin 512) (d : Fin 512) (a : Fin 536) (ha : a.val = 24 + r.val) (i : Fin 16384) (hi : i.val = 512 * min t.val 31 + r.val) :
    (outsAt0 m c t.val t.isLt).2.2.2.2.2.2.2.2.1 (ix2 a d) = urow (m ((c : Thread nD τ).loc main_arg0)) (m ((c : Thread nD τ).loc main_arg1)) (m ((c : Thread nD τ).loc main_arg2)) i ⟨d.val, by omega⟩ := by
  by_cases h0 : t.val % 33 = 0
  · rw [cA8 m c t h0]
    refine (sA1_hi _ _ _ _ _ _ _ _ _ _ _ _ _ _ _ _ _ _ _ _ _ _ _ _ _ _ _ _ _ _ _ _ _ _ _ _ _ _ _ _ _ _ _ _ _ _ _ _ _ _ _ _ _ _ a r d ha).trans ?_
    rw [b2' m c]
    exact tileProj m c t r _ i hi
  · rw [cB8 m c t h0]
    refine (sB1_hi _ _ _ _ _ _ _ _ _ _ _ _ _ _ _ _ _ _ _ _ _ _ _ _ _ _ _ _ _ _ _ _ _ _ _ _ _ _ _ _ _ _ _ _ _ _ _ _ _ _ _ _ _ _ _ _ _ _ a r d ha).trans ?_
    rw [wbf m c]
    exact tileProj m c t r _ i hi

/-- The sixteen rows before them are the last of the tile before, or zero at a sequence's start. -/
theorem ubufLo (c : Dev nD) (t : Fin cfg0.N) (hn1 : t.val < 32) (j : Fin 16) (d : Fin 512) (a : Fin 536) (ha : a.val = 8 + j.val) :
    (outsAt0 m c t.val t.isLt).2.2.2.2.2.2.2.2.1 (ix2 a d) = if h : t.val % 8 = 0 then 0 else urow (m ((c : Thread nD τ).loc main_arg0)) (m ((c : Thread nD τ).loc main_arg1)) (m ((c : Thread nD τ).loc main_arg2)) ⟨512 * t.val - 16 + j.val, by omega⟩ ⟨d.val, by omega⟩ := by
  have hs : startBit (BitVec.ofNat 32 (grid0.coords t 0).val) = 1#1 ↔ t.val % 8 = 0 := by
    rw [hcoord t]
    refine (start_iff ⟨t.val, by omega⟩).trans ?_
    show min t.val 31 % 8 = 0 ↔ _
    rw [min_eq_left (by omega)]
  by_cases h0 : t.val % 33 = 0
  · rw [cA8 m c t h0]
    refine (sA1_lo _ _ _ _ _ _ _ _ _ _ _ _ _ _ _ _ _ _ _ _ _ _ _ _ _ _ _ _ _ _ _ _ _ _ _ _ _ _ _ _ _ _ _ _ _ _ _ _ _ _ _ _ _ _ a j d ha).trans ?_
    rw [dif_pos (by omega : t.val % 8 = 0)]
    exact ite_self _
  · rw [cB8 m c t h0]
    refine (sB1_lo _ _ _ _ _ _ _ _ _ _ _ _ _ _ _ _ _ _ _ _ _ _ _ _ _ _ _ _ _ _ _ _ _ _ _ _ _ _ _ _ _ _ _ _ _ _ _ _ _ _ _ _ _ _ _ _ _ _ a j d ha).trans ?_
    by_cases h8 : t.val % 8 = 0
    · rw [dif_pos h8]
      exact if_pos (hs.mpr h8)
    · rw [dif_neg h8]
      refine (if_neg (fun h => h8 (hs.mp h))).trans ?_
      exact ubufHi m c ⟨t.val - 1, by have := t.isLt; omega⟩ ⟨496 + j.val, by omega⟩ d _ (by show 520 + j.val = 24 + (496 + j.val); omega) _ (by show 512 * t.val - 16 + j.val = 512 * min (t.val - 1) 31 + (496 + j.val); omega)

/-- The queries' array. -/
theorem final10 (c : Dev nD) : (dats m 0 c).arrAt 10 cfg0.N = Gq (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  have ht : t.val < 33 := t.isLt
  have h1 : (y 1).val < 4 := (y 1).isLt
  have h2 : (y 2).val < 512 := (y 2).isLt
  have h3 : (y 3).val < 128 := (y 3).isLt
  have hy0 : (y 0).val = 0 := by have : (y 0).val < 1 := (y 0).isLt; omega
  have he : (win0_10.blk t).view.emb y = ix4 ⟨min t.val 31 / 8, by omega⟩ ⟨(y 1).val, h1⟩ ⟨512 * (min t.val 31 % 8) + (y 2).val, by omega⟩ ⟨(y 3).val, h3⟩ := by
    blk_ext [e10 t]; all_goals simp [ix4]; try omega
  rw [he]
  have hG : ∀ i : Fin 16384, i.val = 512 * min t.val 31 + (y 2).val → urow (m ((c : Thread nD τ).loc main_arg0)) (m ((c : Thread nD τ).loc main_arg1)) (m ((c : Thread nD τ).loc main_arg2)) i ⟨512 + 128 * (y 1).val + (y 3).val, by have h1 : (y 1).val < 4 := (y 1).isLt; have h3 : (y 3).val < 128 := (y 3).isLt; omega⟩ = Gcols (m ((c : Thread nD τ).loc main_arg0)) (m ((c : Thread nD τ).loc main_arg1)) (m ((c : Thread nD τ).loc main_arg2)) 512 (ix4 ⟨min t.val 31 / 8, by omega⟩ ⟨(y 1).val, h1⟩ ⟨512 * (min t.val 31 % 8) + (y 2).val, by omega⟩ ⟨(y 3).val, h3⟩) := fun i hi =>
    congrArg₂ (urow (m ((c : Thread nD τ).loc main_arg0)) (m ((c : Thread nD τ).loc main_arg1)) (m ((c : Thread nD τ).loc main_arg2))) (Fin.ext (by show i.val = 4096 * (min t.val 31 / 8) + (512 * (min t.val 31 % 8) + (y 2).val); omega)) (Fin.ext rfl)
  refine Eq.trans ?_ (congrArg (· * _) (hG ⟨512 * min t.val 31 + (y 2).val, by omega⟩ rfl))
  by_cases h0 : t.val % 33 = 0
  · rw [cA1 m c t h0]
    refine (oA10 _ _ _ _ _ _ _ _ _ _ _ _ _ _ _ _ _ _ _ _ _ _ _ _ _ _ _ _ _ _ _ _ _ _ _ _ _ _ _ _ _ _ _ _ _ _ _ _ _ _ _ _ _ _ y ⟨512 + 128 * (y 1).val + (y 3).val, by have h1 : (y 1).val < 4 := (y 1).isLt; have h3 : (y 3).val < 128 := (y 3).isLt; omega⟩ rfl).trans ?_
    rw [b2' m c]
    exact congrArg (· * _) (tileProj m c t (y 2) _ _ rfl)
  · rw [cB1 m c t h0]
    refine (oB10 _ _ _ _ _ _ _ _ _ _ _ _ _ _ _ _ _ _ _ _ _ _ _ _ _ _ _ _ _ _ _ _ _ _ _ _ _ _ _ _ _ _ _ _ _ _ _ _ _ _ _ _ _ _ _ _ _ _ y ⟨512 + 128 * (y 1).val + (y 3).val, by have h1 : (y 1).val < 4 := (y 1).isLt; have h3 : (y 3).val < 128 := (y 3).isLt; omega⟩ rfl).trans ?_
    rw [wbf m c]
    exact congrArg (· * _) (tileProj m c t (y 2) _ _ rfl)

/-- The keys' array. -/
theorem final11 (c : Dev nD) : (dats m 0 c).arrAt 11 cfg0.N = Gcols (m ((c : Thread nD τ).loc main_arg0)) (m ((c : Thread nD τ).loc main_arg1)) (m ((c : Thread nD τ).loc main_arg2)) 1024 := by
  refine (dats m 0 c).arrAt_eq_of_covers 11 _ (by decide +kernel) fun t hf y => ?_
  blk_simp
  rw [after0_11]
  have ht : t.val < 33 := t.isLt
  have h1 : (y 1).val < 4 := (y 1).isLt
  have h2 : (y 2).val < 512 := (y 2).isLt
  have h3 : (y 3).val < 128 := (y 3).isLt
  have hy0 : (y 0).val = 0 := by have : (y 0).val < 1 := (y 0).isLt; omega
  have he : (win0_11.blk t).view.emb y = ix4 ⟨min t.val 31 / 8, by omega⟩ ⟨(y 1).val, h1⟩ ⟨512 * (min t.val 31 % 8) + (y 2).val, by omega⟩ ⟨(y 3).val, h3⟩ := by
    blk_ext [e11 t]; all_goals simp [ix4]; try omega
  rw [he]
  have hG : ∀ i : Fin 16384, i.val = 512 * min t.val 31 + (y 2).val → urow (m ((c : Thread nD τ).loc main_arg0)) (m ((c : Thread nD τ).loc main_arg1)) (m ((c : Thread nD τ).loc main_arg2)) i ⟨1024 + 128 * (y 1).val + (y 3).val, by have h1 : (y 1).val < 4 := (y 1).isLt; have h3 : (y 3).val < 128 := (y 3).isLt; omega⟩ = Gcols (m ((c : Thread nD τ).loc main_arg0)) (m ((c : Thread nD τ).loc main_arg1)) (m ((c : Thread nD τ).loc main_arg2)) 1024 (ix4 ⟨min t.val 31 / 8, by omega⟩ ⟨(y 1).val, h1⟩ ⟨512 * (min t.val 31 % 8) + (y 2).val, by omega⟩ ⟨(y 3).val, h3⟩) := fun i hi =>
    congrArg₂ (urow (m ((c : Thread nD τ).loc main_arg0)) (m ((c : Thread nD τ).loc main_arg1)) (m ((c : Thread nD τ).loc main_arg2))) (Fin.ext (by show i.val = 4096 * (min t.val 31 / 8) + (512 * (min t.val 31 % 8) + (y 2).val); omega)) (Fin.ext rfl)
  refine Eq.trans ?_ ((hG ⟨512 * min t.val 31 + (y 2).val, by omega⟩ rfl))
  by_cases h0 : t.val % 33 = 0
  · rw [cA2 m c t h0]
    refine (oA11 _ _ _ _ _ _ _ _ _ _ _ _ _ _ _ _ _ _ _ _ _ _ _ _ _ _ _ _ _ _ _ _ _ _ _ _ _ _ _ _ _ _ _ _ _ _ _ _ _ _ _ _ _ _ y ⟨1024 + 128 * (y 1).val + (y 3).val, by have h1 : (y 1).val < 4 := (y 1).isLt; have h3 : (y 3).val < 128 := (y 3).isLt; omega⟩ rfl).trans ?_
    rw [b2' m c]
    exact (tileProj m c t (y 2) _ _ rfl)
  · rw [cB2 m c t h0]
    refine (oB11 _ _ _ _ _ _ _ _ _ _ _ _ _ _ _ _ _ _ _ _ _ _ _ _ _ _ _ _ _ _ _ _ _ _ _ _ _ _ _ _ _ _ _ _ _ _ _ _ _ _ _ _ _ _ _ _ _ _ y ⟨1024 + 128 * (y 1).val + (y 3).val, by have h1 : (y 1).val < 4 := (y 1).isLt; have h3 : (y 3).val < 128 := (y 3).isLt; omega⟩ rfl).trans ?_
    rw [wbf m c]
    exact (tileProj m c t (y 2) _ _ rfl)

/-- The values' array. -/
theorem final12 (c : Dev nD) : (dats m 0 c).arrAt 12 cfg0.N = Gcols (m ((c : Thread nD τ).loc main_arg0)) (m ((c : Thread nD τ).loc main_arg1)) (m ((c : Thread nD τ).loc main_arg2)) 1536 := by
  refine (dats m 0 c).arrAt_eq_of_covers 12 _ (by decide +kernel) fun t hf y => ?_
  blk_simp
  rw [after0_12]
  have ht : t.val < 33 := t.isLt
  have h1 : (y 1).val < 4 := (y 1).isLt
  have h2 : (y 2).val < 512 := (y 2).isLt
  have h3 : (y 3).val < 128 := (y 3).isLt
  have hy0 : (y 0).val = 0 := by have : (y 0).val < 1 := (y 0).isLt; omega
  have he : (win0_12.blk t).view.emb y = ix4 ⟨min t.val 31 / 8, by omega⟩ ⟨(y 1).val, h1⟩ ⟨512 * (min t.val 31 % 8) + (y 2).val, by omega⟩ ⟨(y 3).val, h3⟩ := by
    blk_ext [e12 t]; all_goals simp [ix4]; try omega
  rw [he]
  have hG : ∀ i : Fin 16384, i.val = 512 * min t.val 31 + (y 2).val → urow (m ((c : Thread nD τ).loc main_arg0)) (m ((c : Thread nD τ).loc main_arg1)) (m ((c : Thread nD τ).loc main_arg2)) i ⟨1536 + 128 * (y 1).val + (y 3).val, by have h1 : (y 1).val < 4 := (y 1).isLt; have h3 : (y 3).val < 128 := (y 3).isLt; omega⟩ = Gcols (m ((c : Thread nD τ).loc main_arg0)) (m ((c : Thread nD τ).loc main_arg1)) (m ((c : Thread nD τ).loc main_arg2)) 1536 (ix4 ⟨min t.val 31 / 8, by omega⟩ ⟨(y 1).val, h1⟩ ⟨512 * (min t.val 31 % 8) + (y 2).val, by omega⟩ ⟨(y 3).val, h3⟩) := fun i hi =>
    congrArg₂ (urow (m ((c : Thread nD τ).loc main_arg0)) (m ((c : Thread nD τ).loc main_arg1)) (m ((c : Thread nD τ).loc main_arg2))) (Fin.ext (by show i.val = 4096 * (min t.val 31 / 8) + (512 * (min t.val 31 % 8) + (y 2).val); omega)) (Fin.ext rfl)
  refine Eq.trans ?_ ((hG ⟨512 * min t.val 31 + (y 2).val, by omega⟩ rfl))
  by_cases h0 : t.val % 33 = 0
  · rw [cA3 m c t h0]
    refine (oA12 _ _ _ _ _ _ _ _ _ _ _ _ _ _ _ _ _ _ _ _ _ _ _ _ _ _ _ _ _ _ _ _ _ _ _ _ _ _ _ _ _ _ _ _ _ _ _ _ _ _ _ _ _ _ y ⟨1536 + 128 * (y 1).val + (y 3).val, by have h1 : (y 1).val < 4 := (y 1).isLt; have h3 : (y 3).val < 128 := (y 3).isLt; omega⟩ rfl).trans ?_
    rw [b2' m c]
    exact (tileProj m c t (y 2) _ _ rfl)
  · rw [cB3 m c t h0]
    refine (oB12 _ _ _ _ _ _ _ _ _ _ _ _ _ _ _ _ _ _ _ _ _ _ _ _ _ _ _ _ _ _ _ _ _ _ _ _ _ _ _ _ _ _ _ _ _ _ _ _ _ _ _ _ _ _ _ _ _ _ y ⟨1536 + 128 * (y 1).val + (y 3).val, by have h1 : (y 1).val < 4 := (y 1).isLt; have h3 : (y 3).val < 128 := (y 3).isLt; omega⟩ rfl).trans ?_
    rw [wbf m c]
    exact (tileProj m c t (y 2) _ _ rfl)

/-- The slabs handed on: argument 6 itself. -/
theorem final13 (c : Dev nD) : (dats m 0 c).arrAt 13 cfg0.N = (m ((c : Thread nD τ).loc main_arg6)) := by
  refine (dats m 0 c).arrAt_eq_of_covers 13 _ (by decide +kernel) fun t hf y => ?_
  blk_simp
  rw [after0_13]
  have hx : iblk m c 6 t y = (m ((c : Thread nD τ).loc main_arg6)) ((win0_13.blk t).view.emb y) := by
    rw [← V_main_arg6 m c]
    blk_simp [iblk]
    exact congrArg _ (by blk_ext [e6 t, e13 t])
  refine Eq.trans ?_ hx
  by_cases h0 : t.val % 33 = 0
  · rw [cA4 m c t h0]
    exact oA13 _ _ _ _ _ _ _ _ _ _ _ _ _ _ _ _ _ _ _ _ _ _ _ _ _ _ _ _ _ _ _ _ _ _ _ _ _ _ _ _ _ _ _ _ _ _ _ _ _ _ _ _ _ _ y
  · rw [cB4 m c t h0]
    exact oB13 _ _ _ _ _ _ _ _ _ _ _ _ _ _ _ _ _ _ _ _ _ _ _ _ _ _ _ _ _ _ _ _ _ _ _ _ _ _ _ _ _ _ _ _ _ _ _ _ _ _ _ _ _ _ _ _ _ _ y

/-- The slabs handed on: argument 7 itself. -/
theorem final14 (c : Dev nD) : (dats m 0 c).arrAt 14 cfg0.N = (m ((c : Thread nD τ).loc main_arg7)) := by
  refine (dats m 0 c).arrAt_eq_of_covers 14 _ (by decide +kernel) fun t hf y => ?_
  blk_simp
  rw [after0_14]
  have hx : iblk m c 7 t y = (m ((c : Thread nD τ).loc main_arg7)) ((win0_14.blk t).view.emb y) := by
    rw [← V_main_arg7 m c]
    blk_simp [iblk]
    exact congrArg _ (by blk_ext [e7 t, e14 t])
  refine Eq.trans ?_ hx
  by_cases h0 : t.val % 33 = 0
  · rw [cA5 m c t h0]
    exact oA14 _ _ _ _ _ _ _ _ _ _ _ _ _ _ _ _ _ _ _ _ _ _ _ _ _ _ _ _ _ _ _ _ _ _ _ _ _ _ _ _ _ _ _ _ _ _ _ _ _ _ _ _ _ _ y
  · rw [cB5 m c t h0]
    exact oB14 _ _ _ _ _ _ _ _ _ _ _ _ _ _ _ _ _ _ _ _ _ _ _ _ _ _ _ _ _ _ _ _ _ _ _ _ _ _ _ _ _ _ _ _ _ _ _ _ _ _ _ _ _ _ _ _ _ _ y

/-- The slabs handed on: argument 8 itself. -/
theorem final15 (c : Dev nD) : (dats m 0 c).arrAt 15 cfg0.N = (m ((c : Thread nD τ).loc main_arg8)) := by
  refine (dats m 0 c).arrAt_eq_of_covers 15 _ (by decide +kernel) fun t hf y => ?_
  blk_simp
  rw [after0_15]
  have hx : iblk m c 8 t y = (m ((c : Thread nD τ).loc main_arg8)) ((win0_15.blk t).view.emb y) := by
    rw [← V_main_arg8 m c]
    blk_simp [iblk]
    exact congrArg _ (by blk_ext [e8 t, e15 t])
  refine Eq.trans ?_ hx
  by_cases h0 : t.val % 33 = 0
  · rw [cA6 m c t h0]
    exact oA15 _ _ _ _ _ _ _ _ _ _ _ _ _ _ _ _ _ _ _ _ _ _ _ _ _ _ _ _ _ _ _ _ _ _ _ _ _ _ _ _ _ _ _ _ _ _ _ _ _ _ _ _ _ _ y
  · rw [cB6 m c t h0]
    exact oB15 _ _ _ _ _ _ _ _ _ _ _ _ _ _ _ _ _ _ _ _ _ _ _ _ _ _ _ _ _ _ _ _ _ _ _ _ _ _ _ _ _ _ _ _ _ _ _ _ _ _ _ _ _ _ _ _ _ _ y

end Cert.Proof.Inp
-- ==== Proof.InpWords.lean ====
/-
  The position words: a tile's first position in its sequence, and the number of positions a window holds.
-/
module

public import proofs.«01_k».proof.Proof.InpMean

@[expose] public section

noncomputable section

namespace Cert.Proof.Inp
open Idealize.ShloMosaic Idealize.ShloMosaic.TcCoe Cert.Kernel3Ideal Cert.Kernel3Ideal.Gen

/-- A small word, read as a number. -/
theorem toInt_small (a : ℕ) (h : a < 2 ^ 31) : (BitVec.ofNat 32 a).toInt = (a : ℤ) := by
  have e : (BitVec.ofNat 32 a).toNat = a := by rw [BitVec.toNat_ofNat]; exact Nat.mod_eq_of_lt (by omega)
  rw [BitVec.toInt_eq_toNat_of_lt (by rw [e]; omega), e]

/-- The lesser of two small words, read as a number. -/
theorem minsi_small (a b : ℕ) (ha : a < 2 ^ 31) (hb : b < 2 ^ 31) : (IntOp.minsi (BitVec.ofNat 32 a) (BitVec.ofNat 32 b)).toInt = ((min a b : ℕ) : ℤ) := by
  unfold IntOp.minsi
  by_cases h : a < b
  · rw [if_pos (by rw [BitVec.slt_iff_toInt_lt, toInt_small a ha, toInt_small b hb]; exact_mod_cast h), toInt_small a ha, min_eq_left h.le]
  · rw [if_neg (by rw [BitVec.slt_iff_toInt_lt, toInt_small a ha, toInt_small b hb]; exact_mod_cast h), toInt_small b hb, min_eq_right (not_lt.mp h)]

/-- The count at position `s`: the lesser of `s + 1` and the window's length. -/
theorem count_small (s w : ℕ) (hs : s < 4096) (hw : w ≤ 16) : (IntOp.minsi (IntOp.addi (BitVec.ofNat 32 s) 1#32) (BitVec.ofNat 32 w)).toInt = ((min (s + 1) w : ℕ) : ℤ) := by
  have e : IntOp.addi (BitVec.ofNat 32 s) 1#32 = BitVec.ofNat 32 (s + 1) := by
    show BitVec.ofNat 32 s + BitVec.ofNat 32 1 = _
    rw [BitVec.ofNat_add]
  rw [e]
  exact minsi_small _ _ (by omega) (by omega)

/-- The first position of the tile before, in its sequence. -/
def tileBase (arg0 : BitVec 32) : BitVec 32 :=
  let v130 : BitVec 32 := Scalar.subi arg0 1#32
  let v131 : BitVec 32 := Scalar.maxsi v130 0#32
  let v132 : BitVec 1 := Scalar.cmpi .eq 8#32 0#32
  let v133 : BitVec 32 := Scalar.select v132 1#32 8#32
  let v134 : BitVec 32 := Scalar.remsi v131 v133
  let v135 : BitVec 1 := Scalar.cmpi .ne v134 0#32
  let v136 : BitVec 1 := Scalar.cmpi .slt v134 0#32
  let v137 : BitVec 1 := Scalar.cmpi .slt v133 0#32
  let v138 : BitVec 1 := Scalar.xori v136 v137
  let v139 : BitVec 1 := Scalar.andi v138 v135
  let v140 : BitVec 32 := Scalar.addi v134 v133
  let v141 : BitVec 32 := Scalar.select v139 v140 v134
  Scalar.muli v141 512#32

/-- Row `r`'s position word in terms of the tile's first position. -/
theorem pay38_apply (a : BitVec 32) (r : Fin 16) : k0_pay38 a (ix2 r 0) = IntOp.addi (tileBase a) (BitVec.ofNat 32 r.val) := by
  unfold k0_pay38
  simp only [pointwise]
  refine congrArg (IntOp.addi (tileBase a)) (congrArg (BitVec.ofNat 32) ?_)
  show 0 * 16 + r.val = r.val
  omega

/-- The position words at every point, by computation. -/
theorem base_words : ∀ (t : Fin 33) (r : Fin 16), IntOp.addi (tileBase (BitVec.ofNat 32 t.val)) (BitVec.ofNat 32 r.val) = BitVec.ofNat 32 (512 * ((t.val - 1) % 8) + r.val) := by decide +kernel

/-- Row `r`'s position word at point `t`. -/
theorem at16_val (t : Fin 33) (r : Fin 512) (h : r.val < 16) : at16 (k0_pay38 (BitVec.ofNat 32 t.val)) r = BitVec.ofNat 32 (512 * ((t.val - 1) % 8) + r.val) := by
  unfold at16
  rw [dif_pos h, pay38_apply]
  exact base_words t ⟨r.val, h⟩

end Cert.Proof.Inp
-- ==== Proof.InpPoolValue.lean ====
/-
  The third program's pooled array.
-/
module

public import proofs.«01_k».proof.Proof.InpValue
public import proofs.«01_k».proof.Proof.InpWords

@[expose] public section

set_option maxRecDepth 16384
noncomputable section

namespace Cert.Proof.Inp
open Idealize.ShloMosaic Idealize.ShloMosaic.TcCoe Cert.Kernel3Ideal Cert.Kernel3Ideal.Gen
open scoped BigOperators

variable (m : (ℓ : Loc nD τ sig) → Buf (Elt Ideal) ℓ)

/-- The pooled rows are never written back at the first point. -/
theorem flush9 : ∀ t : Fin cfg0.N, (cfg0.win 9).flush t = true → t.val ≠ 0 := (by decide +kernel : ∀ t : Fin grid0.N, (cfg0.win 9).flush t = true → t.val ≠ 0)

/-- Equal token numbers give equal projected entries. -/
theorem urow_congr (c : Dev nD) {i j : Fin 16384} (q : Fin 2048) (h : i.val = j.val) : urow (m ((c : Thread nD τ).loc main_arg0)) (m ((c : Thread nD τ).loc main_arg1)) (m ((c : Thread nD τ).loc main_arg2)) i q = urow (m ((c : Thread nD τ).loc main_arg0)) (m ((c : Thread nD τ).loc main_arg1)) (m ((c : Thread nD τ).loc main_arg2)) j q :=
  congrArg (fun z => urow (m ((c : Thread nD τ).loc main_arg0)) (m ((c : Thread nD τ).loc main_arg1)) (m ((c : Thread nD τ).loc main_arg2)) z q) (Fin.ext h)

/-- The buffer's column above row 24 + r of point `n` is the sequence's history at that row's position. -/
theorem colHist (c : Dev nD) (t : Fin cfg0.N) (hn : t.val < 32) (r : Fin 512) (d : Fin 512) (b : Fin 4) (s : ℕ) (hb : b.val = t.val / 8) (hs : s = 512 * (t.val % 8) + r.val)
    (j : ℕ) (hj : j < 16) :
    col ((outsAt0 m c t.val t.isLt).2.2.2.2.2.2.2.2.1) d (24 + r.val - j) = if j ≤ s then hist (m ((c : Thread nD τ).loc main_arg0)) (m ((c : Thread nD τ).loc main_arg1)) (m ((c : Thread nD τ).loc main_arg2)) b d (s - j) else 0 := by
  by_cases h : j ≤ r.val
  · rw [if_pos (by omega)]
    refine (col_of _ d ⟨24 + r.val - j, by omega⟩ _ rfl).symm.trans ?_
    refine (ubufHi m c t ⟨r.val - j, by omega⟩ d ⟨24 + r.val - j, by omega⟩ (by show 24 + r.val - j = 24 + (r.val - j); omega) ⟨512 * t.val + (r.val - j), by omega⟩ (by show 512 * t.val + (r.val - j) = 512 * min t.val 31 + (r.val - j); omega)).trans ?_
    unfold hist
    rw [dif_pos (by omega : s - j < 4096)]
    exact urow_congr m c _ (by show 512 * t.val + (r.val - j) = 4096 * b.val + (s - j); omega)
  · refine (col_of _ d ⟨24 + r.val - j, by omega⟩ _ rfl).symm.trans ?_
    refine (ubufLo m c t hn ⟨16 + r.val - j, by omega⟩ d ⟨24 + r.val - j, by omega⟩ (by show 24 + r.val - j = 8 + (16 + r.val - j); omega)).trans ?_
    by_cases h8 : t.val % 8 = 0
    · rw [dif_pos h8, if_neg (by omega)]
    · rw [dif_neg h8, if_pos (by omega)]
      unfold hist
      rw [dif_pos (by omega : s - j < 4096)]
      exact urow_congr m c _ (by show 512 * t.val - 16 + (16 + r.val - j) = 4096 * b.val + (s - j); omega)

/-- The pooled array. -/
theorem final9 (c : Dev nD) : (dats m 0 c).arrAt 9 cfg0.N = Gpool (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  have ht : t.val < 33 := t.isLt
  have h00 : t.val ≠ 0 := flush9 t hf
  obtain ⟨r, d, rfl⟩ : ∃ r d : Fin 512, y = ix2 r d := ⟨y 0, y 1, by funext a; match a with | ⟨0, _⟩ => rfl | ⟨1, _⟩ => rfl⟩
  have he : (win0_9.blk t).view.emb (ix2 r d) = ix2 ⟨512 * (t.val - 1) + r.val, by omega⟩ d := by
    blk_ext [e9 t]; all_goals simp [ix2]; try omega
  rw [he, cB0 m c t (by omega)]
  refine (oB9 _ _ _ _ _ _ _ _ _ _ _ _ _ _ _ _ _ _ _ _ _ _ _ _ _ _ _ _ _ _ _ _ _ _ _ _ _ _ _ _ _ _ _ _ _ _ _ _ _ _ _ _ _ _ _ _ _ _ r d).trans ?_
  obtain ⟨T, hT⟩ : ∃ T : Fin cfg0.N, T.val = t.val - 1 := ⟨⟨t.val - 1, lt_of_le_of_lt (Nat.sub_le _ _) t.isLt⟩, rfl⟩
  have hT32 : T.val < 32 := by omega
  have hgm : ∀ (g : Fin 4) (k : Fin 128), gmean g (at16 (k0_pay38 (BitVec.ofNat 32 (grid0.coords t 0).val)) r) (wsum g (col ((outsAt0 m c T.val T.isLt).2.2.2.2.2.2.2.2.1) ⟨128 * g.val + k.val, by omega⟩) (24 + r.val)) r
      = wmean (wlen g) (hist (m ((c : Thread nD τ).loc main_arg0)) (m ((c : Thread nD τ).loc main_arg1)) (m ((c : Thread nD τ).loc main_arg2)) ⟨(512 * (t.val - 1) + r.val) / 4096, by omega⟩ ⟨128 * g.val + k.val, by omega⟩) ((512 * (t.val - 1) + r.val) % 4096) := fun g k => by
    rw [hcoord t, wsum_eq g _ (hist (m ((c : Thread nD τ).loc main_arg0)) (m ((c : Thread nD τ).loc main_arg1)) (m ((c : Thread nD τ).loc main_arg2)) ⟨(512 * (t.val - 1) + r.val) / 4096, by omega⟩ ⟨128 * g.val + k.val, by omega⟩) _ ((512 * (t.val - 1) + r.val) % 4096) (fun j hj => colHist m c T hT32 r ⟨128 * g.val + k.val, by omega⟩ ⟨(512 * (t.val - 1) + r.val) / 4096, by omega⟩ ((512 * (t.val - 1) + r.val) % 4096)
      (by show (512 * (t.val - 1) + r.val) / 4096 = T.val / 8; omega) (by omega) j hj)]
    refine gmean_eq g _ _ r ((512 * (t.val - 1) + r.val) % 4096) (fun hr w hw hw0 => ?_) (fun hr => by omega)
    rw [at16_val ⟨t.val, ht⟩ r hr]
    refine (count_small _ w (by show 512 * ((t.val - 1) % 8) + r.val < 4096; omega) hw).trans ?_
    show ((min (512 * ((t.val - 1) % 8) + r.val + 1) w : ℕ) : ℤ) = _
    rw [show 512 * ((t.val - 1) % 8) + r.val = (512 * (t.val - 1) + r.val) % 4096 by omega]
  have hu : ∀ k : Fin 512, (outsAt0 m c T.val T.isLt).2.2.2.2.2.2.2.2.1 (ix2 ⟨24 + r.val, by omega⟩ k) = urow (m ((c : Thread nD τ).loc main_arg0)) (m ((c : Thread nD τ).loc main_arg1)) (m ((c : Thread nD τ).loc main_arg2)) ⟨512 * (t.val - 1) + r.val, by omega⟩ ⟨k.val, by omega⟩ := fun k =>
    ubufHi m c T r k _ rfl _ (by show 512 * (t.val - 1) + r.val = 512 * min T.val 31 + r.val; omega)
  obtain rfl : T = ⟨t.val - 1, lt_of_le_of_lt (Nat.sub_le _ _) t.isLt⟩ := Fin.ext hT
  have key : ∀ (mean mean' : Fin 4 → Fin 128 → EReal) (u u' : Fin 512 → EReal) (w w' : Fin 4 → Fin 128 → Fin 128 → EReal) (sc sc' pg pg' : Fin 512 → EReal), mean = mean' → u = u' → w = w' → sc = sc' → pg = pg' →
      poolRow mean u w sc pg d = poolRow mean' u' w' sc' pg' d := fun _ _ _ _ _ _ _ _ _ _ h1 h2 h3 h4 h5 => by subst h1 h2 h3 h4 h5; rfl
  exact key _ _ _ _ _ _ _ _ _ _ (funext fun g => funext fun k => hgm g k) (funext hu) (funext fun g => funext fun k => funext fun e => b3 m c t g k e)
    (funext fun k => b4 m c t k) (funext fun k => b5 m c t k)

end Cert.Proof.Inp
-- ==== Proof.InpCumsum.lean ====
/-
  The host's running sum along a sequence, and the running sum moved `w` places back.
-/
module

public import proofs.«01_k».proof.Proof.InpWords
public import proofs.«01_k».proof.Proof.Gen.Reference3Ideal.Read
public import Idealize.ShloMosaic.Lib.Pointwise

@[expose] public section

noncomputable section

namespace Cert.Proof.Inp
open Idealize.ShloMosaic Idealize.ShloMosaic.TcCoe Cert.Reference3Ideal Cert.Reference3Ideal.Read
open scoped BigOperators

/-- A left fold of additions is the start plus the sum. -/
theorem foldl_add {n : ℕ} (g : Fin n → EReal) (v : EReal) : (List.finRange n).foldl (fun r i => r + g i) v = v + ∑ i, g i := by
  have h : ∀ (l : List (Fin n)) (v : EReal), l.foldl (fun r i => r + g i) v = v + (l.map g).sum := fun l => by
    induction l with
    | nil => intro v; simp
    | cons a l ih => intro v; rw [List.foldl_cons, ih, List.map_cons, List.sum_cons, add_assoc]
  rw [h, ← Fin.sum_univ_def]

/-- The host's window sum is the start plus the sum over the places of the window. -/
theorem reduceWindow_sum {s t u : Shape} (window strides lo hi : Fin s.rank → ℕ) (x : s.Idx → EReal) (init : u.Idx → EReal)
    (h : s.ReduceWindows window strides lo hi t) (hu : 0 < u.numel) (j : t.Idx) :
    Host.reduceWindowAdd (F := Ideal) (φ := .f32) window strides lo hi x init h hu j = init (Shape.Idx.first hu) +
      ∑ w : (⟨s.rank, window⟩ : Shape).Idx, if hin : ∀ a, lo a ≤ (j (a.cast h.1.symm)).val * strides a + (w a).val ∧
          (j (a.cast h.1.symm)).val * strides a + (w a).val - lo a < s.size a
        then x (fun a => ⟨(j (a.cast h.1.symm)).val * strides a + (w a).val - lo a, (hin a).2⟩) else init (Shape.Idx.first hu) := by
  have h0 := foldl_add (fun n => if hin : ∀ a, lo a ≤ (j (a.cast h.1.symm)).val * strides a + ((⟨s.rank, window⟩ : Shape).rowMajor.symm n a).val ∧
          (j (a.cast h.1.symm)).val * strides a + ((⟨s.rank, window⟩ : Shape).rowMajor.symm n a).val - lo a < s.size a
        then x (fun a => ⟨(j (a.cast h.1.symm)).val * strides a + ((⟨s.rank, window⟩ : Shape).rowMajor.symm n a).val - lo a, (hin a).2⟩)
        else init (Shape.Idx.first hu)) (init (Shape.Idx.first hu))
  have h1 := Equiv.sum_comp (⟨s.rank, window⟩ : Shape).rowMajor.symm (fun w => if hin : ∀ a, lo a ≤ (j (a.cast h.1.symm)).val * strides a + (w a).val ∧
          (j (a.cast h.1.symm)).val * strides a + (w a).val - lo a < s.size a
        then x (fun a => ⟨(j (a.cast h.1.symm)).val * strides a + (w a).val - lo a, (hin a).2⟩) else init (Shape.Idx.first hu))
  unfold Host.reduceWindowAdd
  rw [Ideal.hostReduceWindowAdd_def]
  unfold Ideal.hostReduceWindowAdd Host.reduceWindow
  dsimp only
  convert Eq.trans h0 (congrArg (init (Shape.Idx.first hu) + ·) h1)

/-- The windows of the running sum, indexed by their place along the sequence. -/
def wEquiv : Fin 4096 ≃ (⟨3, ![1, 4096, 1]⟩ : Shape).Idx where
  toFun n := ix3 0 n 0
  invFun w := w 1
  left_inv _ := rfl
  right_inv w := by
    funext a
    match a with
    | ⟨0, _⟩ => exact Subsingleton.elim (α := Fin 1) _ _
    | ⟨1, _⟩ => rfl
    | ⟨2, _⟩ => exact Subsingleton.elim (α := Fin 1) _ _

/-- The entries along one sequence and lane. -/
def seq (x : S4x4096x128.Idx → EReal) (b : Fin 4) (k : Fin 128) (n : ℕ) : EReal := if h : n < 4096 then x (ix3 b ⟨n, h⟩ k) else 0

/-- The window's places in turn are the entries up to `s`. -/
theorem sum_back (f : ℕ → EReal) (s : ℕ) (hs : s < 4096) : (∑ n : Fin 4096, if 4095 ≤ s + n.val then f (s + n.val - 4095) else 0) = ∑ n ∈ Finset.range (s + 1), f n := by
  rw [Fin.sum_univ_eq_sum_range (fun n => if 4095 ≤ s + n then f (s + n - 4095) else 0) 4096, ← Finset.sum_range_reflect, ← Finset.sum_range_reflect f]
  have h : Finset.range (s + 1) ⊆ Finset.range 4096 := Finset.range_subset_range.mpr (by omega)
  rw [← Finset.sum_subset h (fun j hj hj' => ?_)]
  · refine Finset.sum_congr rfl fun j hj => ?_
    have : j < s + 1 := Finset.mem_range.mp hj
    rw [if_pos (by omega)]
    exact congrArg f (by omega)
  · have h1 : j < 4096 := Finset.mem_range.mp hj
    have h2 : ¬ j < s + 1 := fun h => hj' (Finset.mem_range.mpr h)
    exact if_neg (by omega)

/-- The running sum at position `s` is the sum of the entries up to `s`. -/
theorem cumsum_apply (x : S4x4096x128.Idx → EReal) (init : S_.Idx → EReal) (hz : ∀ i, init i = 0)
    (h : S4x4096x128.ReduceWindows ![1, 4096, 1] ![1, 1, 1] ![0, 4095, 0] ![0, 0, 0] S4x4096x128) (hu : 0 < S_.numel) (b : Fin 4) (s : Fin 4096) (k : Fin 128) :
    Host.reduceWindowAdd (F := Ideal) (φ := .f32) ![1, 4096, 1] ![1, 1, 1] ![0, 4095, 0] ![0, 0, 0] x init h hu (ix3 b s k) = ∑ n ∈ Finset.range (s.val + 1), seq x b k n := by
  rw [reduceWindow_sum, hz, zero_add,
    ← Equiv.sum_comp wEquiv, ← sum_back (seq x b k) s.val s.isLt]
  refine Finset.sum_congr rfl fun n _ => ?_
  by_cases hn : 4095 ≤ s.val + n.val
  · rw [if_pos hn]
    unfold seq
    rw [dif_pos (by omega : s.val + n.val - 4095 < 4096)]
    refine (dif_pos (fun a => ?_)).trans (congrArg x (funext fun a => Fin.ext ?_))
    · match a with
      | ⟨0, _⟩ => exact ⟨Nat.zero_le _, by show b.val * 1 + 0 - 0 < 4; omega⟩
      | ⟨1, _⟩ => exact ⟨by show 4095 ≤ s.val * 1 + n.val; omega, by show s.val * 1 + n.val - 4095 < 4096; omega⟩
      | ⟨2, _⟩ => exact ⟨Nat.zero_le _, by show k.val * 1 + 0 - 0 < 128; omega⟩
    · match a with
      | ⟨0, _⟩ => show b.val * 1 + 0 - 0 = b.val; omega
      | ⟨1, _⟩ => show s.val * 1 + n.val - 4095 = s.val + n.val - 4095; omega
      | ⟨2, _⟩ => show k.val * 1 + 0 - 0 = k.val; omega
  · rw [if_neg hn]
    refine dif_neg (fun hin => hn ?_)
    have h1 : 4095 ≤ s.val * 1 + n.val := (hin 1).1
    omega

/-- The array moved `w` places along the sequence, read at position `s`. -/
theorem pad_lag (w N : ℕ) (x : S4x4096x128.Idx → EReal) (v : S_.Idx → EReal) (hv : ∀ i, v i = 0)
    (h : S4x4096x128.Pads ![0, w, 0] ![0, 0, 0] ![0, 0, 0] (⟨3, ![4, N, 128]⟩ : Shape)) (hu : 0 < S_.numel) (b : Fin 4) (s : Fin N) (k : Fin 128) (hs : s.val < 4096) :
    pad (⟨3, ![4, N, 128]⟩ : Shape) ![0, w, 0] ![0, 0, 0] ![0, 0, 0] x v h hu (ix3 b s k) = if w ≤ s.val then x (ix3 b ⟨s.val - w, by omega⟩ k) else 0 := by
  unfold pad
  by_cases hw : w ≤ s.val
  · rw [if_pos hw]
    refine (dif_pos (fun a => ?_)).trans (congrArg x (funext fun a => Fin.ext ?_))
    · match a with
      | ⟨0, _⟩ => exact ⟨Nat.zero_le _, Nat.mod_one _, by show (b.val - 0) / 1 < 4; omega⟩
      | ⟨1, _⟩ => exact ⟨hw, Nat.mod_one _, by show (s.val - w) / 1 < 4096; omega⟩
      | ⟨2, _⟩ => exact ⟨Nat.zero_le _, Nat.mod_one _, by show (k.val - 0) / 1 < 128; omega⟩
    · match a with
      | ⟨0, _⟩ => show (b.val - 0) / 1 = b.val; omega
      | ⟨1, _⟩ => show (s.val - w) / 1 = s.val - w; omega
      | ⟨2, _⟩ => show (k.val - 0) / 1 = k.val; omega
  · rw [if_neg hw]
    exact (dif_neg (fun hin => hw (hin 1).1)).trans (hv _)

end Cert.Proof.Inp
-- ==== Proof.InpRef.lean ====
/-
  The reference's values: its seven host arrays are the same functions of its arguments as the kernel's.
-/
module

public import proofs.«01_k».proof.Proof.InpCumsum
public import proofs.«01_k».proof.Proof.InpMean
public import proofs.«01_k».proof.Proof.MlpRef

@[expose] public section

noncomputable section

namespace Cert.Proof.Inp
open Idealize.ShloMosaic Idealize.ShloMosaic.TcCoe Cert.Reference3Ideal Cert.Reference3Ideal.Read
open scoped BigOperators

variable (x : S4x4096x1024.Idx → EReal) (g1 : S1024.Idx → EReal) (w : S1024x2048.Idx → EReal) (pw : S4x128x128.Idx → EReal) (sc pg : S512.Idx → EReal) (b : Fin 4) (s : Fin 4096)

/-- A token's projected row, by its sequence and position. -/
theorem urow_tok (i : Fin 16384) (hi : i.val = 4096 * b.val + s.val) (q : Fin 2048) :
    urow x g1 w i q = proj (fun k => x (ix3 b s k)) (fun k => g1 (ix1 k)) (fun k e => w (ix2 k e)) q := by
  unfold urow
  have hb : (⟨i.val / 4096, by omega⟩ : Fin 4) = b := Fin.ext (by show i.val / 4096 = b.val; omega)
  have hs : (⟨i.val % 4096, by omega⟩ : Fin 4096) = s := Fin.ext (by show i.val % 4096 = s.val; omega)
  rw [hb, hs]

/-- The normed row the reference projects. -/
theorem n12 (d : Fin 1024) : val_main_v12 (F := Ideal) x g1 (ix3 b s d) = Mlp.rms (fun k => x (ix3 b s k)) (fun k => g1 (ix1 k)) d := by
  rw [val_main_v12_apply, val_main_v9_apply, val_main_v8_apply, val_main_v7_apply, val_main_v6_apply, val_main_v4_apply,
    val_main_v2_apply, val_main_v1_apply, val_main_v11_apply, val_main_v10_apply]
  have hg : idx_main_v10 (idx_main_v11 (ix3 b s d)) = ix1 d := funext fun q => by fin_cases q; rfl
  rw [hg]
  exact Mlp.rms_steps (fun k => x (ix3 b s k)) (fun k => g1 (ix1 k)) (fun k => val_main_v0 (F := Ideal) x (idx_main_v1 (idx_main_v2 (idx_main_v8 (ix3 b s d))) k)) (fun k => by
    have hk : idx_main_v1 (idx_main_v2 (idx_main_v8 (ix3 b s d))) k = ix3 b s k := funext fun q => by fin_cases q <;> rfl
    rw [hk, val_main_v0_apply]; rfl) d

/-- The reference's projection. -/
theorem n13 (i : Fin 16384) (hi : i.val = 4096 * b.val + s.val) (q : Fin 2048) : val_main_v13 (F := Ideal) x g1 w (ix3 b s q) = urow x g1 w i q := by
  rw [val_main_v13_apply, urow_tok x g1 w b s i hi]
  refine Finset.sum_congr rfl fun k _ => congrArg₂ (· * ·) (Eq.trans ?_ (n12 x g1 b s k)) ?_
  all_goals (refine congrArg _ (funext fun q => ?_); fin_cases q <;> rfl)

/-- The reference's queries. -/
theorem ref_q : val_main_v114 (F := Ideal) x g1 w = Gq x g1 w := by
  funext y
  have h0 : (y 0).val < 4 := (y 0).isLt
  have h1 : (y 1).val < 4 := (y 1).isLt
  have h2 : (y 2).val < 4096 := (y 2).isLt
  have h3 : (y 3).val < 128 := (y 3).isLt
  have e : idx_main_v107 (idx_main_v108 y) = ix3 (⟨(y 0).val, h0⟩ : Fin 4) (⟨(y 2).val, h2⟩ : Fin 4096) (⟨128 * (y 1).val + (y 3).val, by omega⟩ : Fin 512) := by
    funext a
    fin_cases a <;> refine Fin.ext ?_
    · show ((((y 0).val * 4096 + (y 2).val) * 4 + (y 1).val) * 128 + (y 3).val) / 2097152 = (y 0).val; omega
    · show ((((y 0).val * 4096 + (y 2).val) * 4 + (y 1).val) * 128 + (y 3).val) / 512 % 4096 = (y 2).val; omega
    · show ((((y 0).val * 4096 + (y 2).val) * 4 + (y 1).val) * 128 + (y 3).val) % 512 = 128 * (y 1).val + (y 3).val; omega
  have e2 : idx_main_v15 (ix3 (⟨(y 0).val, h0⟩ : Fin 4) (⟨(y 2).val, h2⟩ : Fin 4096) (⟨128 * (y 1).val + (y 3).val, by omega⟩ : Fin 512)) = ix3 (⟨(y 0).val, h0⟩ : Fin 4) (⟨(y 2).val, h2⟩ : Fin 4096) (⟨512 + 128 * (y 1).val + (y 3).val, by omega⟩ : Fin 2048) := by
    funext a
    fin_cases a <;> refine Fin.ext ?_
    · rfl
    · rfl
    · show 512 + (128 * (y 1).val + (y 3).val) = 512 + 128 * (y 1).val + (y 3).val; omega
  rw [val_main_v114_apply, val_main_v108_apply, val_main_v107_apply, e, val_main_v17_apply, val_main_v15_apply, e2, val_main_v16_apply, val_main_cst_2_apply,
    n13 x g1 w ⟨(y 0).val, h0⟩ ⟨(y 2).val, h2⟩ ⟨4096 * (y 0).val + (y 2).val, by omega⟩ rfl]
  rfl

/-- The reference's keys. -/
theorem ref_k : val_main_v115 (F := Ideal) x g1 w = Gcols x g1 w 1024 := by
  funext y
  have h0 : (y 0).val < 4 := (y 0).isLt
  have h1 : (y 1).val < 4 := (y 1).isLt
  have h2 : (y 2).val < 4096 := (y 2).isLt
  have h3 : (y 3).val < 128 := (y 3).isLt
  have e : idx_main_v109 (idx_main_v110 y) = ix3 (⟨(y 0).val, h0⟩ : Fin 4) (⟨(y 2).val, h2⟩ : Fin 4096) (⟨128 * (y 1).val + (y 3).val, by omega⟩ : Fin 512) := by
    funext a
    fin_cases a <;> refine Fin.ext ?_
    · show ((((y 0).val * 4096 + (y 2).val) * 4 + (y 1).val) * 128 + (y 3).val) / 2097152 = (y 0).val; omega
    · show ((((y 0).val * 4096 + (y 2).val) * 4 + (y 1).val) * 128 + (y 3).val) / 512 % 4096 = (y 2).val; omega
    · show ((((y 0).val * 4096 + (y 2).val) * 4 + (y 1).val) * 128 + (y 3).val) % 512 = 128 * (y 1).val + (y 3).val; omega
  have e2 : idx_main_v18 (ix3 (⟨(y 0).val, h0⟩ : Fin 4) (⟨(y 2).val, h2⟩ : Fin 4096) (⟨128 * (y 1).val + (y 3).val, by omega⟩ : Fin 512)) = ix3 (⟨(y 0).val, h0⟩ : Fin 4) (⟨(y 2).val, h2⟩ : Fin 4096) (⟨1024 + 128 * (y 1).val + (y 3).val, by omega⟩ : Fin 2048) := by
    funext a
    fin_cases a <;> refine Fin.ext ?_
    · rfl
    · rfl
    · show 1024 + (128 * (y 1).val + (y 3).val) = 1024 + 128 * (y 1).val + (y 3).val; omega
  rw [val_main_v115_apply, val_main_v110_apply, val_main_v109_apply, e, val_main_v18_apply, e2,
    n13 x g1 w ⟨(y 0).val, h0⟩ ⟨(y 2).val, h2⟩ ⟨4096 * (y 0).val + (y 2).val, by omega⟩ rfl]
  rfl

/-- The reference's values. -/
theorem ref_v : val_main_v116 (F := Ideal) x g1 w = Gcols x g1 w 1536 := by
  funext y
  have h0 : (y 0).val < 4 := (y 0).isLt
  have h1 : (y 1).val < 4 := (y 1).isLt
  have h2 : (y 2).val < 4096 := (y 2).isLt
  have h3 : (y 3).val < 128 := (y 3).isLt
  have e : idx_main_v111 (idx_main_v112 y) = ix3 (⟨(y 0).val, h0⟩ : Fin 4) (⟨(y 2).val, h2⟩ : Fin 4096) (⟨128 * (y 1).val + (y 3).val, by omega⟩ : Fin 512) := by
    funext a
    fin_cases a <;> refine Fin.ext ?_
    · show ((((y 0).val * 4096 + (y 2).val) * 4 + (y 1).val) * 128 + (y 3).val) / 2097152 = (y 0).val; omega
    · show ((((y 0).val * 4096 + (y 2).val) * 4 + (y 1).val) * 128 + (y 3).val) / 512 % 4096 = (y 2).val; omega
    · show ((((y 0).val * 4096 + (y 2).val) * 4 + (y 1).val) * 128 + (y 3).val) % 512 = 128 * (y 1).val + (y 3).val; omega
  have e2 : idx_main_v19 (ix3 (⟨(y 0).val, h0⟩ : Fin 4) (⟨(y 2).val, h2⟩ : Fin 4096) (⟨128 * (y 1).val + (y 3).val, by omega⟩ : Fin 512)) = ix3 (⟨(y 0).val, h0⟩ : Fin 4) (⟨(y 2).val, h2⟩ : Fin 4096) (⟨1536 + 128 * (y 1).val + (y 3).val, by omega⟩ : Fin 2048) := by
    funext a
    fin_cases a <;> refine Fin.ext ?_
    · rfl
    · rfl
    · show 1536 + (128 * (y 1).val + (y 3).val) = 1536 + 128 * (y 1).val + (y 3).val; omega
  rw [val_main_v116_apply, val_main_v112_apply, val_main_v111_apply, e, val_main_v19_apply, e2,
    n13 x g1 w ⟨(y 0).val, h0⟩ ⟨(y 2).val, h2⟩ ⟨4096 * (y 0).val + (y 2).val, by omega⟩ rfl]
  rfl

/-- A weight passed on in the kernel's format is the weight. -/
theorem ref_w6 (a : S1024x1024.Idx → EReal) : val_main_v117 (F := Ideal) a = a := rfl

/-- A weight passed on in the kernel's format is the weight. -/
theorem ref_w7 (a : S1024x4096.Idx → EReal) : val_main_v118 (F := Ideal) a = a := rfl

/-- A weight passed on in the kernel's format is the weight. -/
theorem ref_w8 (a : S4096x1024.Idx → EReal) : val_main_v119 (F := Ideal) a = a := rfl

/-- A lane of the first 512 columns, by its group. -/
theorem n20 (g : Fin 4) (k : Fin 128) (i : Fin 16384) (hi : i.val = 4096 * b.val + s.val) (q : Fin 2048) (hq : q.val = 128 * g.val + k.val) :
    val_main_v20 (F := Ideal) x g1 w (ix4 b s g k) = urow x g1 w i q := by
  rw [val_main_v20_apply, val_main_v14_apply]
  have e : idx_main_v14 (idx_main_v20 (ix4 b s g k)) = ix3 b s q := by
    funext a
    fin_cases a <;> refine Fin.ext ?_
    · show (((b.val * 4096 + s.val) * 4 + g.val) * 128 + k.val) / 2097152 = b.val; omega
    · show (((b.val * 4096 + s.val) * 4 + g.val) * 128 + k.val) / 512 % 4096 = s.val; omega
    · show (((b.val * 4096 + s.val) * 4 + g.val) * 128 + k.val) % 512 = q.val; omega
  rw [e, n13 x g1 w b s i hi]

/-- The running sum less the running sum moved back, over the count, is the window's mean. -/
theorem mean_steps (g : Fin 4) (f : ℕ → EReal) (φ : ℕ → ℝ) (hf : ∀ n, f n = (φ n : EReal)) (n : ℕ) (c : EReal)
    (hc : c = (((min (n + 1) (wlen g) : ℕ) : ℝ) : EReal)) :
    Ideal.div ((∑ j ∈ Finset.range (n + 1), f j) - (if wlen g ≤ n then ∑ j ∈ Finset.range (n - wlen g + 1), f j else 0)) c = wmean (wlen g) f n := by
  rw [lag_eq (wlen g) f φ hf n, hc]
  rfl

/-- Along a sequence the entries are reals when the projection's are. -/
theorem hist_real (hr : ∀ i q, ∃ r : ℝ, urow x g1 w i q = (r : EReal)) (d : Fin 512) : ∃ φ : ℕ → ℝ, ∀ n, hist x g1 w b d n = (φ n : EReal) := by
  have h1 : ∀ n, ∃ r : ℝ, hist x g1 w b d n = (r : EReal) := fun n => by
    unfold hist
    by_cases h : n < 4096
    · rw [dif_pos h]
      exact hr _ _
    · rw [dif_neg h]
      exact ⟨0, rfl⟩
  choose φ hφ using h1
  exact ⟨φ, hφ⟩

/-- Group 0's lanes. -/
theorem u_g0 (k : Fin 128) (i : Fin 16384) (hi : i.val = 4096 * b.val + s.val) (q : Fin 2048) (hq : q.val = 0 + k.val) :
    val_main_v23 (F := Ideal) x g1 w (ix3 b s k) = urow x g1 w i q := by
  rw [val_main_v23_apply, val_main_v22_apply]
  have e : idx_main_v22 (idx_main_v23 (ix3 b s k)) = ix4 b s (0 : Fin 4) k := by
    funext a
    fin_cases a <;> refine Fin.ext ?_
    · show ((b.val * 4096 + s.val) * 128 + k.val) / 524288 = b.val; omega
    · show ((b.val * 4096 + s.val) * 128 + k.val) / 128 % 4096 = s.val; omega
    · rfl
    · show ((b.val * 4096 + s.val) * 128 + k.val) % 128 = k.val; omega
  rw [e, n20 x g1 w b s 0 k i hi q (by show q.val = 128 * 0 + k.val; omega)]

/-- Group 0's lanes along a sequence. -/
theorem seq_g0 (k : Fin 128) (d : Fin 512) (hd : d.val = 0 + k.val) (n : ℕ) : seq (val_main_v23 (F := Ideal) x g1 w) b k n = hist x g1 w b d n := by
  unfold seq hist
  by_cases h : n < 4096
  · rw [dif_pos h, dif_pos h]
    exact u_g0 x g1 w b ⟨n, h⟩ k _ rfl _ hd
  · rw [dif_neg h, dif_neg h]

/-- Group 0's running sum. -/
theorem cs_g0 (k : Fin 128) (d : Fin 512) (hd : d.val = 0 + k.val) :
    val_main_v24 (F := Ideal) x g1 w (ix3 b s k) = ∑ n ∈ Finset.range (s.val + 1), hist x g1 w b d n := by
  unfold val_main_v24
  refine (cumsum_apply _ _ (fun i => ?_) _ _ b s k).trans (Finset.sum_congr rfl fun n _ => seq_g0 x g1 w b k d hd n)
  rw [val_main_call0_call0_v0_apply, val_main_call0_call0_cst_apply]
  exact Ideal.ofBits_zero_f32

/-- Group 0's running sum moved back. -/
theorem lag_g0 (k : Fin 128) (d : Fin 512) (hd : d.val = 0 + k.val) :
    val_main_v26 (F := Ideal) x g1 w (ix3 b s k) = if wlen 0 ≤ s.val then ∑ n ∈ Finset.range (s.val - wlen 0 + 1), hist x g1 w b d n else 0 := by
  rw [val_main_v26_apply]
  have e : idx_main_v26 (ix3 b s k) = ix3 b (⟨s.val, by omega⟩ : Fin 4098) k := by
    funext a
    fin_cases a <;> rfl
  rw [e]
  unfold val_main_v25
  refine (pad_lag 2 4098 _ _ (fun i => ?_) _ _ b ⟨s.val, by omega⟩ k s.isLt).trans ?_
  · rw [val_main_call1_v0_apply, val_main_c_apply]
    show (((0#32 : BitVec 32).toInt : ℝ) : EReal) = 0
    simp
  · show (if 2 ≤ s.val then _ else _) = (if 2 ≤ s.val then _ else _)
    by_cases h : 2 ≤ s.val
    · rw [if_pos h, if_pos h]
      exact cs_g0 x g1 w b ⟨s.val - 2, by omega⟩ k d hd
    · rw [if_neg h, if_neg h]

/-- Group 0's count. -/
theorem cnt_g0 (k : Fin 128) : val_main_v34 (F := Ideal) (ix3 b s k) = (((min (s.val + 1) (wlen 0) : ℕ) : ℝ) : EReal) := by
  rw [val_main_v34_apply, val_main_v32_apply, val_main_v31_apply, val_main_v30_apply, val_main_v28_apply, val_main_v29_apply, val_main_v27_apply, val_main_v21_apply, val_main_c_3_apply, val_main_c_4_apply]
  show (((IntOp.minsi (IntOp.addi (BitVec.ofNat 32 s.val) 1#32) (BitVec.ofNat 32 2)).toInt : ℝ) : EReal) = _
  rw [count_small s.val 2 s.isLt (by omega), Int.cast_natCast]
  rfl

/-- Group 0's pooled lanes. -/
theorem mean_g0 (hr : ∀ i q, ∃ r : ℝ, urow x g1 w i q = (r : EReal)) (k : Fin 128) (d : Fin 512) (hd : d.val = 0 + k.val)
    (i : Fin 16384) (hi : i.val = 4096 * b.val + s.val) (q : Fin 2048) (hq : q.val = 0 + k.val) :
    val_main_v36 (F := Ideal) x g1 w (ix3 b s k) = wmean (wlen 0) (hist x g1 w b d) s.val - urow x g1 w i q := by
  obtain ⟨φ, hφ⟩ := hist_real x g1 w b hr d
  rw [val_main_v36_apply, val_main_v35_apply, val_main_v33_apply, u_g0 x g1 w b s k i hi q hq, cs_g0 x g1 w b s k d hd, lag_g0 x g1 w b s k d hd]
  exact congrArg (· - urow x g1 w i q) (mean_steps 0 _ φ hφ s.val _ (cnt_g0 b s k))

/-- Group 1's lanes. -/
theorem u_g1 (k : Fin 128) (i : Fin 16384) (hi : i.val = 4096 * b.val + s.val) (q : Fin 2048) (hq : q.val = 128 + k.val) :
    val_main_v38 (F := Ideal) x g1 w (ix3 b s k) = urow x g1 w i q := by
  rw [val_main_v38_apply, val_main_v37_apply]
  have e : idx_main_v37 (idx_main_v38 (ix3 b s k)) = ix4 b s (1 : Fin 4) k := by
    funext a
    fin_cases a <;> refine Fin.ext ?_
    · show ((b.val * 4096 + s.val) * 128 + k.val) / 524288 = b.val; omega
    · show ((b.val * 4096 + s.val) * 128 + k.val) / 128 % 4096 = s.val; omega
    · rfl
    · show ((b.val * 4096 + s.val) * 128 + k.val) % 128 = k.val; omega
  rw [e, n20 x g1 w b s 1 k i hi q (by show q.val = 128 * 1 + k.val; omega)]

/-- Group 1's lanes along a sequence. -/
theorem seq_g1 (k : Fin 128) (d : Fin 512) (hd : d.val = 128 + k.val) (n : ℕ) : seq (val_main_v38 (F := Ideal) x g1 w) b k n = hist x g1 w b d n := by
  unfold seq hist
  by_cases h : n < 4096
  · rw [dif_pos h, dif_pos h]
    exact u_g1 x g1 w b ⟨n, h⟩ k _ rfl _ hd
  · rw [dif_neg h, dif_neg h]

/-- Group 1's running sum. -/
theorem cs_g1 (k : Fin 128) (d : Fin 512) (hd : d.val = 128 + k.val) :
    val_main_v39 (F := Ideal) x g1 w (ix3 b s k) = ∑ n ∈ Finset.range (s.val + 1), hist x g1 w b d n := by
  unfold val_main_v39
  refine (cumsum_apply _ _ (fun i => ?_) _ _ b s k).trans (Finset.sum_congr rfl fun n _ => seq_g1 x g1 w b k d hd n)
  rw [val_main_call2_call0_v0_apply, val_main_call2_call0_cst_apply]
  exact Ideal.ofBits_zero_f32

/-- Group 1's running sum moved back. -/
theorem lag_g1 (k : Fin 128) (d : Fin 512) (hd : d.val = 128 + k.val) :
    val_main_v41 (F := Ideal) x g1 w (ix3 b s k) = if wlen 1 ≤ s.val then ∑ n ∈ Finset.range (s.val - wlen 1 + 1), hist x g1 w b d n else 0 := by
  rw [val_main_v41_apply]
  have e : idx_main_v41 (ix3 b s k) = ix3 b (⟨s.val, by omega⟩ : Fin 4100) k := by
    funext a
    fin_cases a <;> rfl
  rw [e]
  unfold val_main_v40
  refine (pad_lag 4 4100 _ _ (fun i => ?_) _ _ b ⟨s.val, by omega⟩ k s.isLt).trans ?_
  · rw [val_main_call3_v0_apply, val_main_c_5_apply]
    show (((0#32 : BitVec 32).toInt : ℝ) : EReal) = 0
    simp
  · show (if 4 ≤ s.val then _ else _) = (if 4 ≤ s.val then _ else _)
    by_cases h : 4 ≤ s.val
    · rw [if_pos h, if_pos h]
      exact cs_g1 x g1 w b ⟨s.val - 4, by omega⟩ k d hd
    · rw [if_neg h, if_neg h]

/-- Group 1's count. -/
theorem cnt_g1 (k : Fin 128) : val_main_v49 (F := Ideal) (ix3 b s k) = (((min (s.val + 1) (wlen 1) : ℕ) : ℝ) : EReal) := by
  rw [val_main_v49_apply, val_main_v47_apply, val_main_v46_apply, val_main_v45_apply, val_main_v43_apply, val_main_v44_apply, val_main_v42_apply, val_main_v21_apply, val_main_c_6_apply, val_main_c_7_apply]
  show (((IntOp.minsi (IntOp.addi (BitVec.ofNat 32 s.val) 1#32) (BitVec.ofNat 32 4)).toInt : ℝ) : EReal) = _
  rw [count_small s.val 4 s.isLt (by omega), Int.cast_natCast]
  rfl

/-- Group 1's pooled lanes. -/
theorem mean_g1 (hr : ∀ i q, ∃ r : ℝ, urow x g1 w i q = (r : EReal)) (k : Fin 128) (d : Fin 512) (hd : d.val = 128 + k.val)
    (i : Fin 16384) (hi : i.val = 4096 * b.val + s.val) (q : Fin 2048) (hq : q.val = 128 + k.val) :
    val_main_v51 (F := Ideal) x g1 w (ix3 b s k) = wmean (wlen 1) (hist x g1 w b d) s.val - urow x g1 w i q := by
  obtain ⟨φ, hφ⟩ := hist_real x g1 w b hr d
  rw [val_main_v51_apply, val_main_v50_apply, val_main_v48_apply, u_g1 x g1 w b s k i hi q hq, cs_g1 x g1 w b s k d hd, lag_g1 x g1 w b s k d hd]
  exact congrArg (· - urow x g1 w i q) (mean_steps 1 _ φ hφ s.val _ (cnt_g1 b s k))

/-- Group 2's lanes. -/
theorem u_g2 (k : Fin 128) (i : Fin 16384) (hi : i.val = 4096 * b.val + s.val) (q : Fin 2048) (hq : q.val = 256 + k.val) :
    val_main_v53 (F := Ideal) x g1 w (ix3 b s k) = urow x g1 w i q := by
  rw [val_main_v53_apply, val_main_v52_apply]
  have e : idx_main_v52 (idx_main_v53 (ix3 b s k)) = ix4 b s (2 : Fin 4) k := by
    funext a
    fin_cases a <;> refine Fin.ext ?_
    · show ((b.val * 4096 + s.val) * 128 + k.val) / 524288 = b.val; omega
    · show ((b.val * 4096 + s.val) * 128 + k.val) / 128 % 4096 = s.val; omega
    · rfl
    · show ((b.val * 4096 + s.val) * 128 + k.val) % 128 = k.val; omega
  rw [e, n20 x g1 w b s 2 k i hi q (by show q.val = 128 * 2 + k.val; omega)]

/-- Group 2's lanes along a sequence. -/
theorem seq_g2 (k : Fin 128) (d : Fin 512) (hd : d.val = 256 + k.val) (n : ℕ) : seq (val_main_v53 (F := Ideal) x g1 w) b k n = hist x g1 w b d n := by
  unfold seq hist
  by_cases h : n < 4096
  · rw [dif_pos h, dif_pos h]
    exact u_g2 x g1 w b ⟨n, h⟩ k _ rfl _ hd
  · rw [dif_neg h, dif_neg h]

/-- Group 2's running sum. -/
theorem cs_g2 (k : Fin 128) (d : Fin 512) (hd : d.val = 256 + k.val) :
    val_main_v54 (F := Ideal) x g1 w (ix3 b s k) = ∑ n ∈ Finset.range (s.val + 1), hist x g1 w b d n := by
  unfold val_main_v54
  refine (cumsum_apply _ _ (fun i => ?_) _ _ b s k).trans (Finset.sum_congr rfl fun n _ => seq_g2 x g1 w b k d hd n)
  rw [val_main_call4_call0_v0_apply, val_main_call4_call0_cst_apply]
  exact Ideal.ofBits_zero_f32

/-- Group 2's running sum moved back. -/
theorem lag_g2 (k : Fin 128) (d : Fin 512) (hd : d.val = 256 + k.val) :
    val_main_v56 (F := Ideal) x g1 w (ix3 b s k) = if wlen 2 ≤ s.val then ∑ n ∈ Finset.range (s.val - wlen 2 + 1), hist x g1 w b d n else 0 := by
  rw [val_main_v56_apply]
  have e : idx_main_v56 (ix3 b s k) = ix3 b (⟨s.val, by omega⟩ : Fin 4104) k := by
    funext a
    fin_cases a <;> rfl
  rw [e]
  unfold val_main_v55
  refine (pad_lag 8 4104 _ _ (fun i => ?_) _ _ b ⟨s.val, by omega⟩ k s.isLt).trans ?_
  · rw [val_main_call5_v0_apply, val_main_c_8_apply]
    show (((0#32 : BitVec 32).toInt : ℝ) : EReal) = 0
    simp
  · show (if 8 ≤ s.val then _ else _) = (if 8 ≤ s.val then _ else _)
    by_cases h : 8 ≤ s.val
    · rw [if_pos h, if_pos h]
      exact cs_g2 x g1 w b ⟨s.val - 8, by omega⟩ k d hd
    · rw [if_neg h, if_neg h]

/-- Group 2's count. -/
theorem cnt_g2 (k : Fin 128) : val_main_v64 (F := Ideal) (ix3 b s k) = (((min (s.val + 1) (wlen 2) : ℕ) : ℝ) : EReal) := by
  rw [val_main_v64_apply, val_main_v62_apply, val_main_v61_apply, val_main_v60_apply, val_main_v58_apply, val_main_v59_apply, val_main_v57_apply, val_main_v21_apply, val_main_c_9_apply, val_main_c_10_apply]
  show (((IntOp.minsi (IntOp.addi (BitVec.ofNat 32 s.val) 1#32) (BitVec.ofNat 32 8)).toInt : ℝ) : EReal) = _
  rw [count_small s.val 8 s.isLt (by omega), Int.cast_natCast]
  rfl

/-- Group 2's pooled lanes. -/
theorem mean_g2 (hr : ∀ i q, ∃ r : ℝ, urow x g1 w i q = (r : EReal)) (k : Fin 128) (d : Fin 512) (hd : d.val = 256 + k.val)
    (i : Fin 16384) (hi : i.val = 4096 * b.val + s.val) (q : Fin 2048) (hq : q.val = 256 + k.val) :
    val_main_v66 (F := Ideal) x g1 w (ix3 b s k) = wmean (wlen 2) (hist x g1 w b d) s.val - urow x g1 w i q := by
  obtain ⟨φ, hφ⟩ := hist_real x g1 w b hr d
  rw [val_main_v66_apply, val_main_v65_apply, val_main_v63_apply, u_g2 x g1 w b s k i hi q hq, cs_g2 x g1 w b s k d hd, lag_g2 x g1 w b s k d hd]
  exact congrArg (· - urow x g1 w i q) (mean_steps 2 _ φ hφ s.val _ (cnt_g2 b s k))

/-- Group 3's lanes. -/
theorem u_g3 (k : Fin 128) (i : Fin 16384) (hi : i.val = 4096 * b.val + s.val) (q : Fin 2048) (hq : q.val = 384 + k.val) :
    val_main_v68 (F := Ideal) x g1 w (ix3 b s k) = urow x g1 w i q := by
  rw [val_main_v68_apply, val_main_v67_apply]
  have e : idx_main_v67 (idx_main_v68 (ix3 b s k)) = ix4 b s (3 : Fin 4) k := by
    funext a
    fin_cases a <;> refine Fin.ext ?_
    · show ((b.val * 4096 + s.val) * 128 + k.val) / 524288 = b.val; omega
    · show ((b.val * 4096 + s.val) * 128 + k.val) / 128 % 4096 = s.val; omega
    · rfl
    · show ((b.val * 4096 + s.val) * 128 + k.val) % 128 = k.val; omega
  rw [e, n20 x g1 w b s 3 k i hi q (by show q.val = 128 * 3 + k.val; omega)]

/-- Group 3's lanes along a sequence. -/
theorem seq_g3 (k : Fin 128) (d : Fin 512) (hd : d.val = 384 + k.val) (n : ℕ) : seq (val_main_v68 (F := Ideal) x g1 w) b k n = hist x g1 w b d n := by
  unfold seq hist
  by_cases h : n < 4096
  · rw [dif_pos h, dif_pos h]
    exact u_g3 x g1 w b ⟨n, h⟩ k _ rfl _ hd
  · rw [dif_neg h, dif_neg h]

/-- Group 3's running sum. -/
theorem cs_g3 (k : Fin 128) (d : Fin 512) (hd : d.val = 384 + k.val) :
    val_main_v69 (F := Ideal) x g1 w (ix3 b s k) = ∑ n ∈ Finset.range (s.val + 1), hist x g1 w b d n := by
  unfold val_main_v69
  refine (cumsum_apply _ _ (fun i => ?_) _ _ b s k).trans (Finset.sum_congr rfl fun n _ => seq_g3 x g1 w b k d hd n)
  rw [val_main_call6_call0_v0_apply, val_main_call6_call0_cst_apply]
  exact Ideal.ofBits_zero_f32

/-- Group 3's running sum moved back. -/
theorem lag_g3 (k : Fin 128) (d : Fin 512) (hd : d.val = 384 + k.val) :
    val_main_v71 (F := Ideal) x g1 w (ix3 b s k) = if wlen 3 ≤ s.val then ∑ n ∈ Finset.range (s.val - wlen 3 + 1), hist x g1 w b d n else 0 := by
  rw [val_main_v71_apply]
  have e : idx_main_v71 (ix3 b s k) = ix3 b (⟨s.val, by omega⟩ : Fin 4112) k := by
    funext a
    fin_cases a <;> rfl
  rw [e]
  unfold val_main_v70
  refine (pad_lag 16 4112 _ _ (fun i => ?_) _ _ b ⟨s.val, by omega⟩ k s.isLt).trans ?_
  · rw [val_main_call7_v0_apply, val_main_c_11_apply]
    show (((0#32 : BitVec 32).toInt : ℝ) : EReal) = 0
    simp
  · show (if 16 ≤ s.val then _ else _) = (if 16 ≤ s.val then _ else _)
    by_cases h : 16 ≤ s.val
    · rw [if_pos h, if_pos h]
      exact cs_g3 x g1 w b ⟨s.val - 16, by omega⟩ k d hd
    · rw [if_neg h, if_neg h]

/-- Group 3's count. -/
theorem cnt_g3 (k : Fin 128) : val_main_v79 (F := Ideal) (ix3 b s k) = (((min (s.val + 1) (wlen 3) : ℕ) : ℝ) : EReal) := by
  rw [val_main_v79_apply, val_main_v77_apply, val_main_v76_apply, val_main_v75_apply, val_main_v73_apply, val_main_v74_apply, val_main_v72_apply, val_main_v21_apply, val_main_c_12_apply, val_main_c_13_apply]
  show (((IntOp.minsi (IntOp.addi (BitVec.ofNat 32 s.val) 1#32) (BitVec.ofNat 32 16)).toInt : ℝ) : EReal) = _
  rw [count_small s.val 16 s.isLt (by omega), Int.cast_natCast]
  rfl

/-- Group 3's pooled lanes. -/
theorem mean_g3 (hr : ∀ i q, ∃ r : ℝ, urow x g1 w i q = (r : EReal)) (k : Fin 128) (d : Fin 512) (hd : d.val = 384 + k.val)
    (i : Fin 16384) (hi : i.val = 4096 * b.val + s.val) (q : Fin 2048) (hq : q.val = 384 + k.val) :
    val_main_v81 (F := Ideal) x g1 w (ix3 b s k) = wmean (wlen 3) (hist x g1 w b d) s.val - urow x g1 w i q := by
  obtain ⟨φ, hφ⟩ := hist_real x g1 w b hr d
  rw [val_main_v81_apply, val_main_v80_apply, val_main_v78_apply, u_g3 x g1 w b s k i hi q hq, cs_g3 x g1 w b s k d hd, lag_g3 x g1 w b s k d hd]
  exact congrArg (· - urow x g1 w i q) (mean_steps 3 _ φ hφ s.val _ (cnt_g3 b s k))

/-- The pooled lanes of every group. -/
theorem n86 (hr : ∀ i q, ∃ r : ℝ, urow x g1 w i q = (r : EReal)) (g : Fin 4) (k : Fin 128) (i : Fin 16384) (hi : i.val = 4096 * b.val + s.val) :
    val_main_v86 (F := Ideal) x g1 w (ix4 b s g k) = wmean (wlen g) (hist x g1 w b ⟨128 * g.val + k.val, by omega⟩) s.val - urow x g1 w i ⟨128 * g.val + k.val, by omega⟩ := by
  unfold val_main_v86
  fin_cases g
  · have e : idx_main_v82 (ix4 b s (0 : Fin 1) k) = ix3 b s k := by
      funext a
      fin_cases a <;> rfl
    refine Eq.trans ?_ (mean_g0 x g1 w b s hr k ⟨0 + k.val, by omega⟩ rfl i hi ⟨0 + k.val, by omega⟩ rfl)
    rw [← e, ← val_main_v82_apply]
    simp [pointwise]
  · have e : idx_main_v83 (ix4 b s (0 : Fin 1) k) = ix3 b s k := by
      funext a
      fin_cases a <;> rfl
    refine Eq.trans ?_ (mean_g1 x g1 w b s hr k ⟨128 + k.val, by omega⟩ rfl i hi ⟨128 + k.val, by omega⟩ rfl)
    rw [← e, ← val_main_v83_apply]
    simp [pointwise]
  · have e : idx_main_v84 (ix4 b s (0 : Fin 1) k) = ix3 b s k := by
      funext a
      fin_cases a <;> rfl
    refine Eq.trans ?_ (mean_g2 x g1 w b s hr k ⟨256 + k.val, by omega⟩ rfl i hi ⟨256 + k.val, by omega⟩ rfl)
    rw [← e, ← val_main_v84_apply]
    simp [pointwise]
  · have e : idx_main_v85 (ix4 b s (0 : Fin 1) k) = ix3 b s k := by
      funext a
      fin_cases a <;> rfl
    refine Eq.trans ?_ (mean_g3 x g1 w b s hr k ⟨384 + k.val, by omega⟩ rfl i hi ⟨384 + k.val, by omega⟩ rfl)
    rw [← e, ← val_main_v85_apply]
    simp [pointwise]

/-- The pooled row before its norm. -/
theorem n92 (hr : ∀ i q, ∃ r : ℝ, urow x g1 w i q = (r : EReal)) (d : Fin 512) (i : Fin 16384) (hi : i.val = 4096 * b.val + s.val) :
    val_main_v92 (F := Ideal) x g1 w pw sc (ix3 b s d) = yrow (fun gr k => wmean (wlen gr) (hist x g1 w b ⟨128 * gr.val + k.val, by omega⟩) s.val)
      (fun k => urow x g1 w i ⟨k.val, by omega⟩) (fun gr k e => pw (ix3 gr k e)) (fun k => sc (ix1 k)) d := by
  rw [val_main_v92_apply, val_main_v91_apply, val_main_v90_apply, val_main_v89_apply, val_main_v88_apply, val_main_v87_apply]
  have hg : idx_main_v90 (idx_main_v91 (ix3 b s d)) = ix1 d := funext fun q => by fin_cases q; rfl
  have e : idx_main_v88 (idx_main_v89 (ix3 b s d)) = ix4 (⟨d.val / 128, by omega⟩ : Fin 4) (⟨d.val % 128, by omega⟩ : Fin 128) b s := by
    funext a
    fin_cases a <;> refine Fin.ext ?_
    · show ((b.val * 4096 + s.val) * 512 + d.val) / 128 % 4 = d.val / 128; omega
    · show ((b.val * 4096 + s.val) * 512 + d.val) % 128 = d.val % 128; omega
    · show ((b.val * 4096 + s.val) * 512 + d.val) / 2097152 = b.val; omega
    · show ((b.val * 4096 + s.val) * 512 + d.val) / 512 % 4096 = s.val; omega
  rw [hg, e]
  refine congrArg (· * sc (ix1 d)) (Finset.sum_congr rfl fun k _ => (mul_comm _ _).trans (congrArg₂ (· * ·) (Eq.trans ?_ (n86 x g1 w b s hr ⟨d.val / 128, by omega⟩ k i hi)) ?_))
  all_goals (refine congrArg _ (funext fun q => ?_); fin_cases q <;> rfl)

/-- A row of width 512: the reference's steps are `rms5`. -/
theorem rms5_steps (h g : Fin 512 → EReal) (sq : Fin 512 → EReal) (hsq : ∀ k, sq k = h k * h k) (d : Fin 512) :
    FloatOps.mulf (F := Ideal) (φ := .f32) (FloatOps.mulf (F := Ideal) (φ := .f32) (h d) (FloatOps.hostUnary (F := Ideal) (φ := .f32) .rsqrt (FloatOps.addf (F := Ideal) (φ := .f32)
      (FloatOps.hostDivf (F := Ideal) (φ := .f32) (Ideal.ofBits .f32 0x00000000#32 + ∑ k, sq k) (Ideal.ofBits .f32 0x44000000#32)) (Ideal.ofBits .f32 0x358637BD#32)))) (g d)
      = rms5 h g d := by
  rw [Ideal.ofBits_zero_f32, zero_add, Finset.sum_congr rfl (fun k _ => hsq k)]
  rfl

/-- The pooled row. -/
theorem n105 (hr : ∀ i q, ∃ r : ℝ, urow x g1 w i q = (r : EReal)) (d : Fin 512) (i : Fin 16384) (hi : i.val = 4096 * b.val + s.val) :
    val_main_v105 (F := Ideal) x g1 w pw sc pg (ix3 b s d) = poolRow (fun gr k => wmean (wlen gr) (hist x g1 w b ⟨128 * gr.val + k.val, by omega⟩) s.val)
      (fun k => urow x g1 w i ⟨k.val, by omega⟩) (fun gr k e => pw (ix3 gr k e)) (fun k => sc (ix1 k)) (fun k => pg (ix1 k)) d := by
  rw [val_main_v105_apply, val_main_v102_apply, val_main_v101_apply, val_main_v100_apply, val_main_v99_apply, val_main_v97_apply,
    val_main_v95_apply, val_main_v94_apply, val_main_v104_apply, val_main_v103_apply, n92 x g1 w pw sc b s hr d i hi]
  have hg : idx_main_v103 (idx_main_v104 (ix3 b s d)) = ix1 d := funext fun q => by fin_cases q; rfl
  rw [hg]
  exact rms5_steps _ (fun k => pg (ix1 k)) (fun k => val_main_v93 (F := Ideal) x g1 w pw sc (idx_main_v94 (idx_main_v95 (idx_main_v101 (ix3 b s d))) k)) (fun k => by
    have hk : idx_main_v94 (idx_main_v95 (idx_main_v101 (ix3 b s d))) k = ix3 b s k := funext fun q => by fin_cases q <;> rfl
    rw [hk, val_main_v93_apply, n92 x g1 w pw sc b s hr k i hi]; rfl) d

/-- The reference's pooled rows. -/
theorem ref_pool (hr : ∀ i q, ∃ r : ℝ, urow x g1 w i q = (r : EReal)) : val_main_v113 (F := Ideal) x g1 w pw sc pg = Gpool x g1 w pw sc pg := by
  funext y
  have h0 : (y 0).val < 16384 := (y 0).isLt
  have h1 : (y 1).val < 512 := (y 1).isLt
  have e : idx_main_v106 y = ix3 (⟨(y 0).val / 4096, by omega⟩ : Fin 4) (⟨(y 0).val % 4096, by omega⟩ : Fin 4096) (y 1) := by
    funext a
    fin_cases a <;> refine Fin.ext ?_
    · show ((y 0).val * 512 + (y 1).val) / 2097152 = (y 0).val / 4096; omega
    · show ((y 0).val * 512 + (y 1).val) / 512 % 4096 = (y 0).val % 4096; omega
    · show ((y 0).val * 512 + (y 1).val) % 512 = (y 1).val; omega
  rw [val_main_v113_apply, val_main_v106_apply, e]
  exact n105 x g1 w pw sc pg _ _ hr (y 1) (y 0) (by show (y 0).val = 4096 * ((y 0).val / 4096) + (y 0).val % 4096; omega)

end Cert.Proof.Inp
-- ==== Proof.InpFinite.lean ====
/-
  A finite gain and finite weights give a finite projection: the entries of `urow` are reals.
-/
module

public import proofs.«01_k».proof.Proof.InpMean
public import proofs.«01_k».proof.Proof.Gen.Pre_finite

@[expose] public section

noncomputable section

namespace Cert.Proof.Inp
open Idealize.ShloMosaic Idealize.ShloMosaic.TcCoe Cert.Kernel3Ideal
open scoped BigOperators

/-- An entry below infinity in absolute value is a real. -/
theorem real_of_lt (a : EReal) (h : Ideal.cmp .olt (max a (-a)) (Ideal.ofBits .f32 0x7F800000#32) = 1#1) : ∃ r : ℝ, a = (r : EReal) := by
  have e : Ideal.ofBits .f32 0x7F800000#32 = ⊤ := by simp [Ideal.ofBits, Ideal.ieee]
  rw [e] at h
  induction a with
  | bot => simp [Ideal.cmp] at h
  | coe r => exact ⟨r, rfl⟩
  | top => simp [Ideal.cmp] at h

/-- A finite sum of reals is a real. -/
theorem coe_sum {n : ℕ} (φ : Fin n → ℝ) : (∑ k, (φ k : EReal)) = ((∑ k, φ k : ℝ) : EReal) := by
  induction n with
  | zero => simp
  | succ n ih => rw [Fin.sum_univ_castSucc, Fin.sum_univ_castSucc, ih, EReal.coe_add]

/-- The row's width. -/
theorem c1024 : Ideal.ofBits .f32 0x44800000#32 = ((1024 : ℝ) : EReal) := by
  simp [Ideal.ofBits, Ideal.ieee, -EReal.coe_mul]; norm_num

/-- The norm's small addend is a positive real. -/
theorem eps_pos : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]
  try norm_num

/-- The root's inverse of a positive real is a real. -/
theorem rsqrt_real (r : ℝ) (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg h.not_gt, if_neg h.ne']

/-- The norm of a real row is real. -/
theorem rms_real' (h g : Fin 1024 → EReal) (a c : Fin 1024 → ℝ) (ha : ∀ k, h k = (a k : EReal)) (hc : ∀ k, g k = (c k : EReal)) (d : Fin 1024) :
    ∃ r : ℝ, Mlp.rms h g d = (r : EReal) := by
  obtain ⟨e, he, hE⟩ := eps_pos
  have hs : (∑ k, h k * h k) = ((∑ k, a k * a k : ℝ) : EReal) := by
    rw [← coe_sum]
    exact Finset.sum_congr rfl fun k _ => by rw [ha, EReal.coe_mul]
  have hp : 0 < (∑ k, a k * a k) * (1 / 1024) + e := by
    have : 0 ≤ ∑ k, a k * a k := Finset.sum_nonneg fun k _ => mul_self_nonneg (a k)
    positivity
  refine ⟨a d * (Real.sqrt ((∑ k, a k * a k) * (1 / 1024) + e))⁻¹ * c d, ?_⟩
  unfold Mlp.rms
  rw [hs, c1024, hE, Ideal.div_coe (by norm_num), ← EReal.coe_mul, ← EReal.coe_add, rsqrt_real _ hp, ha, hc, ← EReal.coe_mul, ← EReal.coe_mul]

/-- A square is not negative. -/
theorem sq_nonneg (z : EReal) : 0 ≤ z * z := by
  induction z with
  | bot => simp
  | coe r => rw [← EReal.coe_mul]; exact_mod_cast mul_self_nonneg r
  | top => simp

/-- A row with an infinite entry has an infinite sum of squares, so its norm is zero. -/
theorem rms_zero (h g : Fin 1024 → EReal) (k : Fin 1024) (hk : h k * h k = ⊤) (d : Fin 1024) : Mlp.rms h g d = 0 := by
  obtain ⟨e, _, hE⟩ := eps_pos
  have hs : (∑ k, h k * h k) = ⊤ := top_le_iff.mp (by
    rw [← hk]
    exact Finset.single_le_sum (f := fun k => h k * h k) (fun i _ => sq_nonneg (h i)) (Finset.mem_univ k))
  unfold Mlp.rms
  rw [hs, c1024, hE, Ideal.div_coe (by norm_num), EReal.top_mul_coe_of_pos (by norm_num), EReal.top_add_coe]
  show h d * 0 * g d = 0
  rw [mul_zero, zero_mul]

/-- The norm of any row is real when the gain is. -/
theorem rms_real (h g : Fin 1024 → EReal) (hc : ∀ k, ∃ r : ℝ, g k = (r : EReal)) (d : Fin 1024) : ∃ r : ℝ, Mlp.rms h g d = (r : EReal) := by
  by_cases hh : ∃ k, h k * h k = ⊤
  · obtain ⟨k, hk⟩ := hh
    exact ⟨0, rms_zero h g k hk d⟩
  · have hr : ∀ k, ∃ r : ℝ, h k = (r : EReal) := fun k => by
      have hk : ¬ h k * h k = ⊤ := fun e => hh ⟨k, e⟩
      generalize h k = z at hk
      induction z with
      | bot => exact absurd (by simp) hk
      | coe r => exact ⟨r, rfl⟩
      | top => exact absurd (by simp) hk
    choose a ha using hr
    choose c hc using hc
    exact rms_real' h g a c ha hc d

/-- The projection of any rows is real when the gain and the weights are. -/
theorem urow_real (x : S4x4096x1024.Idx → EReal) (g1 : S1024.Idx → EReal) (w : S1024x2048.Idx → EReal)
    (hg : ∀ i, ∃ r : ℝ, g1 i = (r : EReal)) (hw : ∀ i, ∃ r : ℝ, w i = (r : EReal)) (i : Fin 16384) (q : Fin 2048) :
    ∃ r : ℝ, urow x g1 w i q = (r : EReal) := by
  choose fw hw using hw
  have hr := rms_real (fun k => x (ix3 (⟨i.val / 4096, Nat.div_lt_of_lt_mul i.isLt⟩ : Fin 4) (⟨i.val % 4096, Nat.mod_lt _ (by decide)⟩ : Fin 4096) k)) (fun k => g1 (ix1 k)) (fun k => hg _)
  choose fr hr using hr
  refine ⟨∑ k : Fin 1024, fr k * fw (ix2 k q), ?_⟩
  unfold urow proj
  rw [← coe_sum]
  exact Finset.sum_congr rfl fun k _ => by rw [hr, EReal.coe_mul]; exact congrArg _ (hw (ix2 k q))

/-- Under the precondition the gain and the projection's weights are reals. -/
theorem pre_real (a0 : FVec Ideal Cert.Pre_finite.S4x4096x1024 .f32) (a1 : FVec Ideal Cert.Pre_finite.S1024 .f32) (a2 : FVec Ideal Cert.Pre_finite.S1024x2048 .f32)
    (a3 : FVec Ideal Cert.Pre_finite.S4x128x128 .f32) (a4 a5 : FVec Ideal Cert.Pre_finite.S512 .f32) (a6 : FVec Ideal Cert.Pre_finite.S1024x1024 .f32)
    (a7 : FVec Ideal Cert.Pre_finite.S1024x4096 .f32) (a8 : FVec Ideal Cert.Pre_finite.S4096x1024 .f32)
    (h : (Cert.Pre_finite.fn (F := Ideal) a0 a1 a2 a3 a4 a5 a6 a7 a8).1 = (fun _ => 1#1) ∧ (Cert.Pre_finite.fn (F := Ideal) a0 a1 a2 a3 a4 a5 a6 a7 a8).2 = (fun _ => 1#1)) :
    (∀ i, ∃ r : ℝ, a1 i = (r : EReal)) ∧ (∀ i, ∃ r : ℝ, a2 i = (r : EReal)) :=
  ⟨fun i => real_of_lt _ (congrFun h.1 i), fun i => real_of_lt _ (congrFun h.2 i)⟩

end Cert.Proof.Inp
-- ==== Proof.AttnSpec.lean ====
/-
  Stick-breaking attention of one query row: the weights over all earlier keys, and the same sum taken block by block
  from the query's own block backwards.
-/
module

public import Idealize.ShloMosaic.PureOps.Ideal
public import Idealize.ShloMosaic.PureOps.Ideal.Laws

@[expose] public section

noncomputable section

namespace Cert.Proof.Attn
open Idealize.ShloMosaic
open scoped BigOperators

/-- The part both log-sigmoids share. -/
def lse (z : ℝ) : ℝ := Real.log (1 + Real.exp (-|z|))
/-- The logarithm of one minus the sigmoid. -/
def lm (z : ℝ) : ℝ := min (-z) 0 - lse z
/-- The logarithm of the sigmoid. -/
def lb (z : ℝ) : ℝ := min z 0 - lse z

/-- What the keys from `a` up to the query take off the stick, in logarithms. -/
def tail (z : ℕ → ℝ) (T a : ℕ) : ℝ := ∑ u ∈ Finset.Ico a T, lm (z u)
/-- The weight of key `s` for the query at `T`. -/
def wt (z : ℕ → ℝ) (T s : ℕ) : ℝ := Real.exp (lb (z s) + tail z T (s + 1))
/-- The weighted values of the keys from `a` up to the query. -/
def part (z : ℕ → ℝ) (v : ℕ → EReal) (T a : ℕ) : EReal := ∑ s ∈ Finset.Ico a T, (wt z T s : EReal) * v s

/-- A finite sum of reals is a real. -/
theorem coe_fsum {ι : Type} (s : Finset ι) (φ : ι → ℝ) : (∑ k ∈ s, (φ k : EReal)) = ((∑ k ∈ s, φ k : ℝ) : EReal) := by
  classical
  induction s using Finset.induction_on with
  | empty => simp
  | insert a s ha ih => rw [Finset.sum_insert ha, Finset.sum_insert ha, ih, EReal.coe_add]

/-- A nonnegative real times a sum is the sum of the products. -/
theorem mul_fsum {ι : Type} (s : Finset ι) (c : ℝ) (hc : 0 ≤ c) (f : ι → EReal) : (c : EReal) * ∑ k ∈ s, f k = ∑ k ∈ s, (c : EReal) * f k := by
  classical
  induction s using Finset.induction_on with
  | empty => simp
  | insert a s ha ih =>
    rw [Finset.sum_insert ha, Finset.sum_insert ha, ← ih, EReal.left_distrib_of_nonneg_of_ne_top (by exact_mod_cast hc) (EReal.coe_ne_top c)]

/-- The embedding of the reals commutes with the maximum. -/
theorem coe_max' (a b : ℝ) : ((max a b : ℝ) : EReal) = max (a : EReal) b := EReal.coe_strictMono.monotone.map_max
/-- The embedding of the reals commutes with the minimum. -/
theorem coe_min' (a b : ℝ) : ((min a b : ℝ) : EReal) = min (a : EReal) b := EReal.coe_strictMono.monotone.map_min

/-- The kernel's shared part at a real score. -/
theorem lse_coe (z : ℝ) : Ideal.log (1 + Ideal.exp (0 - max (z : EReal) (-(z : EReal)))) = (lse z : EReal) := by
  have h : (0 : EReal) - max (z : EReal) (-(z : EReal)) = ((-|z| : ℝ) : EReal) := by
    rw [abs_eq_max_neg, EReal.coe_neg, coe_max', EReal.coe_neg, zero_sub]
  rw [h, Ideal.exp_coe, ← EReal.coe_one, ← EReal.coe_add]
  show (if 1 + Real.exp (-|z|) ≤ 0 then ⊥ else ((Real.log (1 + Real.exp (-|z|)) : ℝ) : EReal)) = _
  rw [if_neg (by have := Real.exp_pos (-|z|); linarith)]
  rfl

/-- The kernel's logarithm of one minus the sigmoid at a real score. -/
theorem lm_coe (z : ℝ) : min (0 - (z : EReal)) 0 - (lse z : EReal) = (lm z : EReal) := by
  rw [zero_sub, ← EReal.coe_neg, ← EReal.coe_zero, ← coe_min', ← EReal.coe_sub]; rfl

/-- The kernel's logarithm of the sigmoid at a real score. -/
theorem lb_coe (z : ℝ) : min (z : EReal) 0 - (lse z : EReal) = (lb z : EReal) := by
  rw [← EReal.coe_zero, ← coe_min', ← EReal.coe_sub]; rfl

/-- A sum over the 256 places of a block, as a sum over a run of keys. -/
theorem sum_block {M : Type} [AddCommMonoid M] (o : ℕ) (f : ℕ → M) : ∑ c : Fin 256, f (o + c.val) = ∑ u ∈ Finset.Ico o (o + 256), f u := by
  rw [Fin.sum_univ_eq_sum_range (fun c => f (o + c)) 256, Finset.sum_Ico_eq_sum_range]
  congr 1
  simp

/-- The part of a block after place `c`. -/
theorem sum_after {M : Type} [AddCommMonoid M] (o : ℕ) (f : ℕ → M) (c : Fin 256) :
    (∑ d : Fin 256, if c.val < d.val then f (o + d.val) else 0) = ∑ u ∈ Finset.Ico (o + c.val + 1) (o + 256), f u := by
  have h := sum_block o (fun u => if o + c.val < u then f u else 0)
  refine (Finset.sum_congr rfl fun d _ => ?_).trans (h.trans ?_)
  · by_cases hd : c.val < d.val
    · rw [if_pos hd, if_pos (by omega)]
    · rw [if_neg hd, if_neg (by omega)]
  · rw [← Finset.sum_filter]
    refine Finset.sum_congr (Finset.ext fun u => ?_) fun _ _ => rfl
    simp only [Finset.mem_filter, Finset.mem_Ico]; omega

/-- The part of a block after place `c` and before place `r`. -/
theorem sum_between {M : Type} [AddCommMonoid M] (o : ℕ) (f : ℕ → M) (c r : Fin 256) :
    (∑ d : Fin 256, if c.val < d.val then (if d.val < r.val then f (o + d.val) else 0) else 0) = ∑ u ∈ Finset.Ico (o + c.val + 1) (o + r.val), f u := by
  have h := sum_after o (fun u => if u < o + r.val then f u else 0) c
  refine (Finset.sum_congr rfl fun d _ => ?_).trans (h.trans ?_)
  · by_cases hd : c.val < d.val
    · rw [if_pos hd, if_pos hd]
      by_cases hr : d.val < r.val
      · rw [if_pos hr, if_pos (by omega)]
      · rw [if_neg hr, if_neg (by omega)]
    · rw [if_neg hd, if_neg hd]
  · rw [← Finset.sum_filter]
    refine Finset.sum_congr (Finset.ext fun u => ?_) fun _ _ => rfl
    simp only [Finset.mem_filter, Finset.mem_Ico]; omega

/-- The part of a block before place `r`. -/
theorem sum_before {M : Type} [AddCommMonoid M] (o : ℕ) (f : ℕ → M) (r : Fin 256) :
    (∑ d : Fin 256, if d.val < r.val then f (o + d.val) else 0) = ∑ u ∈ Finset.Ico o (o + r.val), f u := by
  have h := sum_block o (fun u => if u < o + r.val then f u else 0)
  refine (Finset.sum_congr rfl fun d _ => ?_).trans (h.trans ?_)
  · by_cases hd : d.val < r.val
    · rw [if_pos hd, if_pos (by omega)]
    · rw [if_neg hd, if_neg (by omega)]
  · rw [← Finset.sum_filter]
    refine Finset.sum_congr (Finset.ext fun u => ?_) fun _ _ => rfl
    simp only [Finset.mem_filter, Finset.mem_Ico]; omega

variable (z : ℕ → ℝ) (v : ℕ → EReal)

/-- The carried logarithm after a whole block. -/
theorem carry_step (T o : ℕ) (h : o + 256 ≤ T) :
    (tail z T (o + 256) : EReal) + (∑ d : Fin 256, if 0 < d.val then (lm (z (o + d.val)) : EReal) else 0) + (lm (z o) : EReal) = (tail z T o : EReal) := by
  have h1 := sum_after o (fun u => (lm (z u) : EReal)) 0
  rw [show (0 : Fin 256).val = 0 from rfl, coe_fsum] at h1
  rw [h1, ← EReal.coe_add, ← EReal.coe_add]
  refine congrArg _ ?_
  unfold tail
  rw [add_zero, add_assoc, add_comm _ (lm (z o)), ← Finset.sum_eq_sum_Ico_succ_bot (by omega : o < o + 256) (fun u => lm (z u)), add_comm,
    Finset.sum_Ico_consecutive _ (by omega) h]

/-- The accumulated values after a whole block. -/
theorem acc_step (T o : ℕ) (h : o + 256 ≤ T) :
    part z v T (o + 256) + Ideal.exp (tail z T (o + 256) : EReal) *
      (∑ c : Fin 256, Ideal.exp ((lb (z (o + c.val)) : EReal) + (∑ d : Fin 256, if c.val < d.val then (lm (z (o + d.val)) : EReal) else 0)) * v (o + c.val))
      = part z v T o := by
  rw [Ideal.exp_coe, mul_fsum _ _ (Real.exp_nonneg _)]
  have e : ∀ c : Fin 256, (Real.exp (tail z T (o + 256)) : EReal) * (Ideal.exp ((lb (z (o + c.val)) : EReal) + (∑ d : Fin 256, if c.val < d.val then (lm (z (o + d.val)) : EReal) else 0)) * v (o + c.val))
      = (wt z T (o + c.val) : EReal) * v (o + c.val) := fun c => by
    rw [sum_after o (fun u => (lm (z u) : EReal)) c, coe_fsum, ← EReal.coe_add, Ideal.exp_coe, ← mul_assoc, ← EReal.coe_mul, ← Real.exp_add]
    refine congrArg (fun y => ((Real.exp y : ℝ) : EReal) * v (o + c.val)) ?_
    unfold tail
    rw [← Finset.sum_Ico_consecutive (fun u => lm (z u)) (by omega : o + c.val + 1 ≤ o + 256) h]
    ring
  rw [Finset.sum_congr rfl fun c _ => e c, sum_block o (fun u => (wt z T u : EReal) * v u)]
  unfold part
  rw [add_comm, Finset.sum_Ico_consecutive _ (by omega) h]

/-- The carried logarithm after the query's own block. -/
theorem carry_diag (o : ℕ) (r : Fin 256) :
    (0 : EReal) + (∑ d : Fin 256, if 0 < d.val then (if d.val < r.val then (lm (z (o + d.val)) : EReal) else 0) else 0)
      + (if 0 < r.val then (lm (z o) : EReal) else 0) = (tail z (o + r.val) o : EReal) := by
  have h1 := sum_between o (fun u => (lm (z u) : EReal)) 0 r
  rw [show (0 : Fin 256).val = 0 from rfl, coe_fsum] at h1
  rw [h1, zero_add]
  by_cases hr : 0 < r.val
  · rw [if_pos hr, ← EReal.coe_add]
    refine congrArg _ ?_
    unfold tail
    rw [add_zero, add_comm, ← Finset.sum_eq_sum_Ico_succ_bot (by omega : o < o + r.val) (fun u => lm (z u))]
  · rw [if_neg hr, add_zero]
    unfold tail
    rw [Finset.Ico_eq_empty (by omega), Finset.Ico_eq_empty (by omega)]

/-- The accumulated values after the query's own block. -/
theorem acc_diag (o : ℕ) (r : Fin 256) :
    (0 : EReal) + Ideal.exp 0 * (∑ c : Fin 256, (if c.val < r.val then
        Ideal.exp ((lb (z (o + c.val)) : EReal) + (∑ d : Fin 256, if c.val < d.val then (if d.val < r.val then (lm (z (o + d.val)) : EReal) else 0) else 0)) else 0) * v (o + c.val))
      = part z v (o + r.val) o := by
  have e0 : Ideal.exp 0 = 1 := by rw [← EReal.coe_zero, Ideal.exp_coe, Real.exp_zero, EReal.coe_one]
  rw [e0, one_mul, zero_add]
  unfold part
  rw [← sum_before o (fun s => (wt z (o + r.val) s : EReal) * v s) r]
  refine Finset.sum_congr rfl fun c _ => ?_
  by_cases hc : c.val < r.val
  · rw [if_pos hc, if_pos hc, sum_between o (fun u => (lm (z u) : EReal)) c r, coe_fsum, ← EReal.coe_add, Ideal.exp_coe]
    rfl
  · rw [if_neg hc, if_neg hc, zero_mul]

end Cert.Proof.Attn
-- ==== Proof.AttnKernel.lean ====
/-
  What the attention kernel's payloads compute, element by element.
-/
module

public import proofs.«01_k».proof.Proof.AttnSpec
public import proofs.«01_k».proof.Proof.Gen.KernelIdeal.Value
public import Idealize.ShloMosaic.Lib.Pointwise
public import Idealize.ShloMosaic.Lib.Pipeline.ValueKit
public import Idealize.ShloMosaic.PureOps.Ideal.Laws

@[expose] public section

noncomputable section

namespace Cert.Proof.Attn
open Idealize.ShloMosaic Idealize.ShloMosaic.TcCoe Cert.KernelIdeal Cert.KernelIdeal.Gen
open scoped BigOperators

/-- A block's scores. -/
theorem pay1_apply (q : FVec Ideal S256x128 .bf16) (k : Vec Ideal S1x256x128 .bf16) (r c : Fin 256) :
    k0_pay1 (F := Ideal) q k (ix2 r c) = ∑ e : Fin 128, q (ix2 r e) * k (ix3 0 c e) := by
  unfold k0_pay1
  simp only [pointwise]
  rw [zero_add]

/-- A small word read as a number. -/
theorem toInt_small (a : ℕ) (h : a < 2 ^ 31) : (BitVec.ofNat 32 a).toInt = (a : ℤ) := by
  have e : (BitVec.ofNat 32 a).toNat = a := by rw [BitVec.toNat_ofNat]; exact Nat.mod_eq_of_lt (by omega)
  rw [BitVec.toInt_eq_toNat_of_lt (by rw [e]; omega), e]

/-- Small words compare as numbers do. -/
theorem slt_small (a b : ℕ) (ha : a < 2 ^ 31) (hb : b < 2 ^ 31) : IntOp.cmpi .slt (BitVec.ofNat 32 a) (BitVec.ofNat 32 b) = if a < b then 1#1 else 0#1 := by
  show BitVec.ofBool ((BitVec.ofNat 32 a).slt (BitVec.ofNat 32 b)) = _
  by_cases h : a < b
  · rw [if_pos h, (BitVec.slt_iff_toInt_lt).mpr (by rw [toInt_small a ha, toInt_small b hb]; exact_mod_cast h)]; rfl
  · have hn : (BitVec.ofNat 32 a).slt (BitVec.ofNat 32 b) = false := Bool.eq_false_iff.mpr (fun h' => h (by
      have h2 := (BitVec.slt_iff_toInt_lt).mp h'
      rw [toInt_small a ha, toInt_small b hb] at h2
      exact_mod_cast h2))
    rw [if_neg h, hn]; rfl

/-- Small words compare as numbers do. -/
theorem sgt_small (a b : ℕ) (ha : a < 2 ^ 31) (hb : b < 2 ^ 31) : IntOp.cmpi .sgt (BitVec.ofNat 32 a) (BitVec.ofNat 32 b) = if b < a then 1#1 else 0#1 :=
  slt_small b a hb ha

/-- The lane masks of the two heads. -/
theorem lanes : ∀ e : Fin 128, IntOp.andi (IntOp.cmpi .sge (BitVec.ofNat 32 (0 * 128 + e.val)) 0#32) (IntOp.cmpi .slt (BitVec.ofNat 32 (0 * 128 + e.val)) 64#32) = (if e.val < 64 then 1#1 else 0#1)
    ∧ IntOp.andi (IntOp.cmpi .sge (BitVec.ofNat 32 (0 * 128 + e.val)) 64#32) (IntOp.cmpi .slt (BitVec.ofNat 32 (0 * 128 + e.val)) 128#32) = (if e.val < 64 then 0#1 else 1#1)
    ∧ IntOp.cmpi .slt (BitVec.ofNat 32 (0 * 128 + e.val)) 64#32 = (if e.val < 64 then 1#1 else 0#1) := by decide +kernel

/-- The matrix that adds up the later places of a block. -/
theorem pay8_apply (d c : Fin 256) : k0_pay8 (F := Ideal) (ix2 d c) = if c.val < d.val then 1 else 0 := by
  unfold k0_pay8
  simp only [pointwise]
  have e := sgt_small (0 * 256 + d.val) (0 * 256 + c.val) (by omega) (by omega)
  refine (congrArg (fun w : BitVec 1 => ((((BitVec.setWidth 32 w).toInt : ℤ) : ℝ) : EReal)) e).trans ?_
  by_cases h : c.val < d.val
  · rw [if_pos h, if_pos (by omega)]; simp
  · rw [if_neg h, if_neg (by omega)]; simp

/-- The mask of the query's own block. -/
theorem pay9_apply (r c : Fin 256) : k0_pay9 (ix2 r c) = if c.val < r.val then 1#1 else 0#1 := by
  unfold k0_pay9
  simp only [pointwise]
  refine (slt_small (0 * 256 + c.val) (0 * 256 + r.val) (by omega) (by omega)).trans ?_
  simp only [zero_mul, zero_add]

variable (q : FVec Ideal S256x128 .bf16) (k v : Vec Ideal S1x256x128 .bf16) (ζ : Fin 256 → Fin 256 → ℝ)

/-- The shared part of a block's log-sigmoids. -/
theorem pay2_apply (h : ∀ r c, k0_pay1 (F := Ideal) q k (ix2 r c) = (ζ r c : EReal)) (r c : Fin 256) :
    k0_pay2 (F := Ideal) q k (ix2 r c) = (lse (ζ r c) : EReal) := by
  unfold k0_pay2
  generalize k0_pay1 (F := Ideal) q k = y at h
  simp only [pointwise]
  show Ideal.log (1 + Ideal.exp (0 - max (y (ix2 r c)) (-(y (ix2 r c))))) = _
  rw [h]
  exact lse_coe _

/-- The logarithms of one minus the sigmoids of a block. -/
theorem pay3_apply (h : ∀ r c, k0_pay1 (F := Ideal) q k (ix2 r c) = (ζ r c : EReal)) (r c : Fin 256) :
    k0_pay3 (F := Ideal) q k (ix2 r c) = (lm (ζ r c) : EReal) := by
  have h2 := pay2_apply q k ζ h r c
  unfold k0_pay3
  generalize k0_pay1 (F := Ideal) q k = y at h
  generalize k0_pay2 (F := Ideal) q k = y2 at h2
  simp only [pointwise]
  rw [h, h2]
  exact lm_coe _

/-- The later places of a block, added. -/
theorem pay4_apply (h : ∀ r c, k0_pay1 (F := Ideal) q k (ix2 r c) = (ζ r c : EReal)) (r c : Fin 256) :
    k0_pay4 (F := Ideal) (k0_pay8 (F := Ideal)) q k (ix2 r c) = ∑ d : Fin 256, if c.val < d.val then (lm (ζ r d) : EReal) else 0 := by
  have h3 := pay3_apply q k ζ h r
  unfold k0_pay4
  generalize k0_pay3 (F := Ideal) q k = y at h3
  have h8 := fun d => pay8_apply d c
  generalize k0_pay8 (F := Ideal) = y8 at h8
  simp only [pointwise]
  rw [zero_add]
  refine Finset.sum_congr rfl fun d _ => ?_
  rw [h3, h8]
  by_cases hd : c.val < d.val
  · rw [if_pos hd, if_pos hd, mul_one]
  · rw [if_neg hd, if_neg hd, mul_zero]

/-- The accumulated values after a whole block. -/
theorem pay5_apply (h : ∀ r c, k0_pay1 (F := Ideal) q k (ix2 r c) = (ζ r c : EReal)) (C : FVec Ideal S256x1 .f32) (A : FVec Ideal S256x128 .f32) (r : Fin 256) (e : Fin 128) :
    k0_pay5 (F := Ideal) (k0_pay8 (F := Ideal)) q C A k v (ix2 r e) = A (ix2 r e) + Ideal.exp (C (ix2 r 0)) *
      ∑ c : Fin 256, Ideal.exp ((lb (ζ r c) : EReal) + ∑ d : Fin 256, if c.val < d.val then (lm (ζ r d) : EReal) else 0) * v (ix3 0 c e) := by
  have h2 := pay2_apply q k ζ h r
  have h4 := pay4_apply q k ζ h r
  unfold k0_pay5
  generalize k0_pay1 (F := Ideal) q k = y at h
  generalize k0_pay2 (F := Ideal) q k = y2 at h2
  generalize k0_pay4 (F := Ideal) (k0_pay8 (F := Ideal)) q k = y4 at h4
  simp only [pointwise]
  rw [zero_add]
  refine congrArg₂ (fun (a b : EReal) => A (ix2 r e) + Ideal.exp a * b) rfl (Finset.sum_congr rfl fun c _ => ?_)
  rw [h, h2, h4, lb_coe]

/-- The carried logarithm after a whole block. -/
theorem pay6_apply (h : ∀ r c, k0_pay1 (F := Ideal) q k (ix2 r c) = (ζ r c : EReal)) (C : FVec Ideal S256x1 .f32) (r : Fin 256) :
    k0_pay6 (F := Ideal) (k0_pay8 (F := Ideal)) q C k (ix2 r 0) = C (ix2 r 0) + (∑ d : Fin 256, if 0 < d.val then (lm (ζ r d) : EReal) else 0) + (lm (ζ r 0) : EReal) := by
  have h3 := pay3_apply q k ζ h r
  have h4 := pay4_apply q k ζ h r
  unfold k0_pay6
  generalize k0_pay3 (F := Ideal) q k = y at h3
  generalize k0_pay4 (F := Ideal) (k0_pay8 (F := Ideal)) q k = y4 at h4
  simp only [pointwise]
  have e0 : ∀ h, (ix2 (⟨0 + r.val, h⟩ : Fin 256) (0 : Fin 256) : S256x256.Idx) = ix2 r 0 := fun h => congrArg (ix2 · (0 : Fin 256)) (Fin.ext (Nat.zero_add _))
  refine (congrArg₂ (fun i j => C (ix2 r 0) + y4 i + y j) (e0 _) (e0 _)).trans ?_
  rw [h3, h4]
  rfl

/-- The scores of the query's own block. -/
theorem pay39_eq : k0_pay39 (F := Ideal) q (k0_pay38 k) = k0_pay1 q k := rfl
/-- The shared part in the query's own block. -/
theorem pay40_eq : k0_pay40 (F := Ideal) q (k0_pay38 k) = k0_pay2 q k := rfl

/-- The masked logarithms of the query's own block. -/
theorem pay41_apply (h : ∀ r c, k0_pay1 (F := Ideal) q k (ix2 r c) = (ζ r c : EReal)) (r c : Fin 256) :
    k0_pay41 (F := Ideal) k0_pay9 q (k0_pay38 k) (ix2 r c) = if c.val < r.val then (lm (ζ r c) : EReal) else 0 := by
  have h2 := pay2_apply q k ζ h r c
  have h9 := pay9_apply r c
  unfold k0_pay41
  rw [pay39_eq, pay40_eq]
  generalize k0_pay1 (F := Ideal) q k = y at h
  generalize k0_pay2 (F := Ideal) q k = y2 at h2
  generalize k0_pay9 = y9 at h9
  simp only [pointwise]
  rw [h, h2, h9, lm_coe]
  split <;> rfl

/-- The later places of the query's own block, added. -/
theorem pay42_apply (h : ∀ r c, k0_pay1 (F := Ideal) q k (ix2 r c) = (ζ r c : EReal)) (r c : Fin 256) :
    k0_pay42 (F := Ideal) (k0_pay8 (F := Ideal)) k0_pay9 q (k0_pay38 k) (ix2 r c) = ∑ d : Fin 256, if c.val < d.val then (if d.val < r.val then (lm (ζ r d) : EReal) else 0) else 0 := by
  have h3 := pay41_apply q k ζ h r
  unfold k0_pay42
  generalize k0_pay41 (F := Ideal) k0_pay9 q (k0_pay38 k) = y at h3
  have h8 := fun d => pay8_apply d c
  generalize k0_pay8 (F := Ideal) = y8 at h8
  simp only [pointwise]
  rw [zero_add]
  refine Finset.sum_congr rfl fun d _ => ?_
  rw [h3, h8]
  by_cases hd : c.val < d.val
  · rw [if_pos hd, if_pos hd, mul_one]
  · rw [if_neg hd, if_neg hd, mul_zero]

/-- The accumulated values after the query's own block. -/
theorem pay43_apply (h : ∀ r c, k0_pay1 (F := Ideal) q k (ix2 r c) = (ζ r c : EReal)) (r : Fin 256) (e : Fin 128) :
    k0_pay43 (F := Ideal) (k0_pay8 (F := Ideal)) k0_pay9 q (k0_pay36 (F := Ideal)) (k0_pay37 (F := Ideal)) (k0_pay38 k) v (ix2 r e) = 0 + Ideal.exp 0 *
      ∑ c : Fin 256, (if c.val < r.val then Ideal.exp ((lb (ζ r c) : EReal) + ∑ d : Fin 256, if c.val < d.val then (if d.val < r.val then (lm (ζ r d) : EReal) else 0) else 0) else 0) * v (ix3 0 c e) := by
  have h2 := pay2_apply q k ζ h r
  have h4 := pay42_apply q k ζ h r
  have h9 := pay9_apply r
  unfold k0_pay43 k0_pay36 k0_pay37
  rw [pay39_eq, pay40_eq]
  generalize k0_pay1 (F := Ideal) q k = y at h
  generalize k0_pay2 (F := Ideal) q k = y2 at h2
  generalize k0_pay42 (F := Ideal) (k0_pay8 (F := Ideal)) k0_pay9 q (k0_pay38 k) = y4 at h4
  generalize k0_pay9 = y9 at h9
  simp only [pointwise]
  rw [zero_add (∑ c : Fin 256, _)]
  refine congrArg (fun b : EReal => 0 + Ideal.exp 0 * b) (Finset.sum_congr rfl fun c _ => ?_)
  rw [h, h2, h4, h9, lb_coe]
  split
  · rfl
  · rw [zero_mul]; rfl

/-- The carried logarithm after the query's own block. -/
theorem pay44_apply (h : ∀ r c, k0_pay1 (F := Ideal) q k (ix2 r c) = (ζ r c : EReal)) (r : Fin 256) :
    k0_pay44 (F := Ideal) (k0_pay8 (F := Ideal)) k0_pay9 q (k0_pay36 (F := Ideal)) (k0_pay38 k) (ix2 r 0) = 0 +
      (∑ d : Fin 256, if 0 < d.val then (if d.val < r.val then (lm (ζ r d) : EReal) else 0) else 0) + (if 0 < r.val then (lm (ζ r 0) : EReal) else 0) := by
  have h3 := pay41_apply q k ζ h r
  have h4 := pay42_apply q k ζ h r
  unfold k0_pay44 k0_pay36
  generalize k0_pay41 (F := Ideal) k0_pay9 q (k0_pay38 k) = y at h3
  generalize k0_pay42 (F := Ideal) (k0_pay8 (F := Ideal)) k0_pay9 q (k0_pay38 k) = y4 at h4
  simp only [pointwise]
  have e0 : ∀ h, (ix2 (⟨0 + r.val, h⟩ : Fin 256) (0 : Fin 256) : S256x256.Idx) = ix2 r 0 := fun h => congrArg (ix2 · (0 : Fin 256)) (Fin.ext (Nat.zero_add _))
  refine (congrArg₂ (fun i j => 0 + y4 i + y j) (e0 _) (e0 _)).trans ?_
  rw [h3, h4]
  rfl

/-- The first head's start is the second head's at the first head's lanes. -/
theorem first_C (v8 v21 : Vec Ideal S1x256x128 .bf16) :
    k0_pay22 (F := Ideal) k0_pay8 k0_pay9 k0_pay12 (k0_pay16 v8 v21) (k0_pay17 v8 v21) k0_pay18
      = k0_pay44 (F := Ideal) k0_pay8 k0_pay9 (k0_pay11 v8) k0_pay36 (k0_pay38 v21) := rfl
/-- The first head's start is the second head's at the first head's lanes. -/
theorem first_A (v8 v21 v25 : Vec Ideal S1x256x128 .bf16) :
    k0_pay21 (F := Ideal) k0_pay8 k0_pay9 k0_pay12 k0_pay13 (k0_pay14 v25) (k0_pay15 v8 v21) (k0_pay16 v8 v21) (k0_pay17 v8 v21) k0_pay18
      = k0_pay43 (F := Ideal) k0_pay8 k0_pay9 (k0_pay11 v8) k0_pay36 k0_pay37 (k0_pay38 v21) v25 := rfl

/-- The two heads' halves side by side. -/
theorem pay7_apply (A B : FVec Ideal S256x128 .f32) (r : Fin 256) (e : Fin 128) :
    k0_pay7 (F := Ideal) (iota .tc S256x128 32 [1] iota_S256x128_d1_w32) A B (ix3 0 r e) = if e.val < 64 then A (ix2 r e) else B (ix2 r e) := by
  unfold k0_pay7
  simp only [pointwise]
  refine (congrArg (Scalar.select · (A (ix2 r e)) (B (ix2 r e))) (lanes e).2.2).trans ?_
  split <;> rfl

/-- The first head's lanes of the queries. -/
theorem pay11_apply (v8 : Vec Ideal S1x256x128 .bf16) (r : Fin 256) (e : Fin 128) :
    k0_pay11 (F := Ideal) v8 (ix2 r e) = if e.val < 64 then v8 (ix3 0 r e) else 0 := by
  unfold k0_pay11 k0_pay10
  simp only [pointwise]
  refine (congrArg (Scalar.select · (v8 (ix3 0 r e)) (0 : EReal)) (lanes e).1).trans ?_
  split <;> rfl

/-- The second head's lanes of the queries. -/
theorem pay35_apply (v8 : Vec Ideal S1x256x128 .bf16) (r : Fin 256) (e : Fin 128) :
    k0_pay35 (F := Ideal) (iota .tc S256x128 32 [1] iota_S256x128_d1_w32) (k0_pay10 v8) (ix2 r e) = if e.val < 64 then 0 else v8 (ix3 0 r e) := by
  unfold k0_pay35 k0_pay10
  simp only [pointwise]
  refine (congrArg (Scalar.select · (v8 (ix3 0 r e)) (0 : EReal)) (lanes e).2.1).trans ?_
  split <;> rfl

end Cert.Proof.Attn
-- ==== Proof.AttnPoint.lean ====
/-
  What a grid point of the attention leaves in its output block.
-/
module

public import proofs.«01_k».proof.Proof.AttnKernel

@[expose] public section

noncomputable section

namespace Cert.Proof.Attn
open Idealize.ShloMosaic Idealize.ShloMosaic.TcCoe Cert.KernelIdeal Cert.KernelIdeal.Gen

/-- The first head's loop runs over the blocks before the query's own. -/
theorem trips1 : ∀ i : grid0.Coords, (k0_t1_loop i).trips = (i 2).val := by decide +kernel
/-- The second head's loop runs over the blocks before the query's own. -/
theorem trips3 : ∀ i : grid0.Coords, (k0_t3_loop i).trips = (i 2).val := by decide +kernel
/-- The block a trip of the first head's loop reads. -/
theorem off2 : ∀ (i : grid0.Coords) (k : Fin (k0_t1_loop i).trips), k0_off2 i k = ![0, 256 * ((i 2).val - 1 - k.val), 0] := by decide +kernel
/-- The block a trip of the second head's loop reads. -/
theorem off4 : ∀ (i : grid0.Coords) (k : Fin (k0_t3_loop i).trips), k0_off4 i k = ![0, 256 * ((i 2).val - 1 - k.val), 0] := by decide +kernel

/-- A block of 256 rows of a whole array, read at an element. -/
theorem rd (arg : Memref sig .tc .vmem S1x4096x128 .bf16) (harg : arg.IsWhole) (x : Vec Ideal S1x4096x128 .bf16) (off : Fin 3 → ℕ) (h : ∀ a, off a + S1x256x128.size a ≤ S1x4096x128.size a)
    (o : ℕ) (ho : off = ![0, o, 0]) (hb : o + 256 ≤ 4096) (r : Fin 256) (e : Fin 128) :
    View.readAt (Elt Ideal) arg.view (Rect.unit off S1x256x128.size h : Rect S1x4096x128).toLoadRect (harg.unread x) (ix3 0 r e) = x (ix3 0 ⟨o + r.val, by omega⟩ e) := by
  subst ho
  rw [View.readAt_eq_ld, harg.read_unread]
  refine congrArg x (funext fun a => Fin.ext ?_)
  match a with
  | ⟨0, _⟩ => rfl
  | ⟨1, _⟩ => show o + 1 * r.val = o + r.val; omega
  | ⟨2, _⟩ => show 0 + 1 * e.val = e.val; omega

/-- The values' rows as a sequence. -/
def rows (x : Vec Ideal S1x4096x128 .bf16) (e : Fin 128) (u : ℕ) : EReal := if h : u < 4096 then x (ix3 0 ⟨u, h⟩ e) else 0

section step
variable (x1 x2 : Vec Ideal S1x4096x128 .bf16) (Q : FVec Ideal S256x128 .bf16) (z : Fin 256 → ℕ → ℝ)

/-- The scores of a block of keys. -/
theorem score (hz : ∀ (r : Fin 256) (u : Fin 4096), ∑ e : Fin 128, Q (ix2 r e) * x1 (ix3 0 u e) = (z r u.val : EReal))
    (o : ℕ) (hb : o + 256 ≤ 4096) (kb : Vec Ideal S1x256x128 .bf16) (hk : ∀ r e, kb (ix3 0 r e) = x1 (ix3 0 ⟨o + r.val, by omega⟩ e)) (r c : Fin 256) :
    k0_pay1 (F := Ideal) Q kb (ix2 r c) = (z r (o + c.val) : EReal) := by
  have hc : o + c.val < 4096 := by omega
  rw [pay1_apply]
  exact (Finset.sum_congr rfl fun e _ => by rw [hk]).trans (hz r ⟨o + c.val, hc⟩)

/-- One trip carries the state one block back. -/
theorem trip_step (hz : ∀ (r : Fin 256) (u : Fin 4096), ∑ e : Fin 128, Q (ix2 r e) * x1 (ix3 0 u e) = (z r u.val : EReal))
    (o p : ℕ) (hp : p + 256 ≤ 4096) (ho : o + 256 ≤ p) (kb vb : Vec Ideal S1x256x128 .bf16) (hk : ∀ r e, kb (ix3 0 r e) = x1 (ix3 0 ⟨o + r.val, by omega⟩ e))
    (hv : ∀ r e, vb (ix3 0 r e) = x2 (ix3 0 ⟨o + r.val, by omega⟩ e)) (C : FVec Ideal S256x1 .f32) (A : FVec Ideal S256x128 .f32)
    (hC : ∀ r, C (ix2 r 0) = (tail (z r) (p + r.val) (o + 256) : EReal)) (hA : ∀ r e, A (ix2 r e) = part (z r) (rows x2 e) (p + r.val) (o + 256)) :
    (∀ r, k0_pay6 (F := Ideal) k0_pay8 Q C kb (ix2 r 0) = (tail (z r) (p + r.val) o : EReal))
      ∧ ∀ r e, k0_pay5 (F := Ideal) k0_pay8 Q C A kb vb (ix2 r e) = part (z r) (rows x2 e) (p + r.val) o := by
  have hs := score x1 Q z hz o (by omega) kb hk
  refine ⟨fun r => ?_, fun r e => ?_⟩
  · rw [pay6_apply Q kb (fun r c => z r (o + c.val)) hs, hC]
    exact carry_step (z r) (p + r.val) o (by omega)
  · rw [pay5_apply Q kb vb (fun r c => z r (o + c.val)) hs, hC, hA, ← acc_step (z r) (rows x2 e) (p + r.val) o (by omega)]
    refine congrArg (fun b : EReal => part (z r) (rows x2 e) (p + r.val) (o + 256) + Ideal.exp (tail (z r) (p + r.val) (o + 256) : EReal) * b) (Finset.sum_congr rfl fun c _ => ?_)
    rw [hv, rows, dif_pos (show o + c.val < 4096 by omega)]

/-- The query's own block starts the state. -/
theorem start (hz : ∀ (r : Fin 256) (u : Fin 4096), ∑ e : Fin 128, Q (ix2 r e) * x1 (ix3 0 u e) = (z r u.val : EReal))
    (o : ℕ) (hb : o + 256 ≤ 4096) (kb vb : Vec Ideal S1x256x128 .bf16) (hk : ∀ r e, kb (ix3 0 r e) = x1 (ix3 0 ⟨o + r.val, by omega⟩ e))
    (hv : ∀ r e, vb (ix3 0 r e) = x2 (ix3 0 ⟨o + r.val, by omega⟩ e)) :
    (∀ r, k0_pay44 (F := Ideal) k0_pay8 k0_pay9 Q k0_pay36 (k0_pay38 kb) (ix2 r 0) = (tail (z r) (o + r.val) o : EReal))
      ∧ ∀ r e, k0_pay43 (F := Ideal) k0_pay8 k0_pay9 Q k0_pay36 k0_pay37 (k0_pay38 kb) vb (ix2 r e) = part (z r) (rows x2 e) (o + r.val) o := by
  have hs := score x1 Q z hz o (by omega) kb hk
  refine ⟨fun r => ?_, fun r e => ?_⟩
  · rw [pay44_apply Q kb (fun r c => z r (o + c.val)) hs]
    exact carry_diag (z r) o r
  · rw [pay43_apply Q kb vb (fun r c => z r (o + c.val)) hs, ← acc_diag (z r) (rows x2 e) o r]
    refine congrArg (fun b : EReal => 0 + Ideal.exp 0 * b) (Finset.sum_congr rfl fun c _ => ?_)
    rw [hv, rows, dif_pos (show o + c.val < 4096 by omega)]

/-- The state before a trip of the first head's loop. -/
theorem loop1 (hz : ∀ (r : Fin 256) (u : Fin 4096), ∑ e : Fin 128, Q (ix2 r e) * x1 (ix3 0 u e) = (z r u.val : EReal)) (𝒱 : Variants) (c : Dev nD) (bd : Option 𝒱.V) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .f32) (harg6 : arg6.IsWhole) (arg2 : BitVec 32)
    (v0 : IVec S256x128 32) (v7 : IVec S256x256 1) (v9 : FVec Ideal S256x128 .bf16) (v17 : FVec Ideal S256x1 .f32) (v18 : FVec Ideal S256x128 .f32) (v26 : FVec Ideal S256x128 .bf16) (v27 : FVec Ideal S256x256 .f32) (v34 : FVec Ideal S256x256 .f32) (v36 : FVec Ideal S256x256 .f32) (v37 : FVec Ideal S256x256 .f32) (init : FVec Ideal S256x1 .f32 × FVec Ideal S256x128 .f32)
    (hC : ∀ r, init.1 (ix2 r 0) = (tail (z r) (256 * (i 2).val + r.val) (256 * (i 2).val) : EReal)) (hA : ∀ r e, init.2 (ix2 r e) = part (z r) (rows x2 e) (256 * (i 2).val + r.val) (256 * (i 2).val)) :
    ∀ n, n ≤ (i 2).val →
      (∀ r, (st_k0_t1 (F := Ideal) 𝒱 c bd i arg3 harg3 arg4 harg4 arg5 harg5 arg6 harg6 arg2 v0 k0_pay8 v7 v9 Q v17 v18 v26 v27 v34 v36 v37 (harg4.unread x1) (harg5.unread x2) init n).1 (ix2 r 0) = (tail (z r) (256 * (i 2).val + r.val) (256 * ((i 2).val - n)) : EReal))
      ∧ ∀ r e, (st_k0_t1 (F := Ideal) 𝒱 c bd i arg3 harg3 arg4 harg4 arg5 harg5 arg6 harg6 arg2 v0 k0_pay8 v7 v9 Q v17 v18 v26 v27 v34 v36 v37 (harg4.unread x1) (harg5.unread x2) init n).2 (ix2 r e) = part (z r) (rows x2 e) (256 * (i 2).val + r.val) (256 * ((i 2).val - n))
  | 0, _ => ⟨hC, hA⟩
  | n + 1, hn => by
    have ih := loop1 hz 𝒱 c bd i arg3 harg3 arg4 harg4 arg5 harg5 arg6 harg6 arg2 v0 v7 v9 v17 v18 v26 v27 v34 v36 v37 init hC hA n (by omega)
    have hi : (i 2).val < 16 := (i 2).isLt
    have hk : n < (k0_t1_loop i).trips := by rw [trips1]; omega
    have hs := st_k0_t1_succ (F := Ideal) 𝒱 c bd i arg3 harg3 arg4 harg4 arg5 harg5 arg6 harg6 arg2 v0 k0_pay8 v7 v9 Q v17 v18 v26 v27 v34 v36 v37 (harg4.unread x1) (harg5.unread x2) init ⟨n, hk⟩
    dsimp only at hs
    rw [hs]
    generalize st_k0_t1 (F := Ideal) 𝒱 c bd i arg3 harg3 arg4 harg4 arg5 harg5 arg6 harg6 arg2 v0 k0_pay8 v7 v9 Q v17 v18 v26 v27 v34 v36 v37 (harg4.unread x1) (harg5.unread x2) init n = acc at ih
    unfold tripR_k0_t1 trip_k0_t1
    dsimp only
    sl_unfold_words
    rw [show (i 2).val - n = (i 2).val - 1 - n + 1 by omega, Nat.mul_add, Nat.mul_one] at ih
    have he := off2 i ⟨n, hk⟩
    have hb : 256 * ((i 2).val - 1 - n) + 256 ≤ 4096 := by omega
    rw [show (i 2).val - (n + 1) = (i 2).val - 1 - n by omega]
    exact trip_step x1 x2 Q z hz (256 * ((i 2).val - 1 - n)) (256 * (i 2).val) (by omega) (by omega) _ _
      (rd arg4 harg4 x1 _ _ _ he hb) (rd arg5 harg5 x2 _ _ _ he hb) acc.1 acc.2 ih.1 ih.2

/-- The state before a trip of the second head's loop. -/
theorem loop3 (hz : ∀ (r : Fin 256) (u : Fin 4096), ∑ e : Fin 128, Q (ix2 r e) * x1 (ix3 0 u e) = (z r u.val : EReal)) (𝒱 : Variants) (c : Dev nD) (bd : Option 𝒱.V) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .f32) (harg6 : arg6.IsWhole) (arg2 : BitVec 32)
    (v7 : IVec S256x256 1) (v75 : FVec Ideal S256x1 .f32) (v76 : FVec Ideal S256x128 .f32) (v80 : FVec Ideal S256x128 .bf16) (init : FVec Ideal S256x1 .f32 × FVec Ideal S256x128 .f32)
    (hC : ∀ r, init.1 (ix2 r 0) = (tail (z r) (256 * (i 2).val + r.val) (256 * (i 2).val) : EReal)) (hA : ∀ r e, init.2 (ix2 r e) = part (z r) (rows x2 e) (256 * (i 2).val + r.val) (256 * (i 2).val)) :
    ∀ n, n ≤ (i 2).val →
      (∀ r, (st_k0_t3 (F := Ideal) 𝒱 c bd i arg3 harg3 arg4 harg4 arg5 harg5 arg6 harg6 arg2 k0_pay8 v7 Q v75 v76 v80 (harg4.unread x1) (harg5.unread x2) init n).1 (ix2 r 0) = (tail (z r) (256 * (i 2).val + r.val) (256 * ((i 2).val - n)) : EReal))
      ∧ ∀ r e, (st_k0_t3 (F := Ideal) 𝒱 c bd i arg3 harg3 arg4 harg4 arg5 harg5 arg6 harg6 arg2 k0_pay8 v7 Q v75 v76 v80 (harg4.unread x1) (harg5.unread x2) init n).2 (ix2 r e) = part (z r) (rows x2 e) (256 * (i 2).val + r.val) (256 * ((i 2).val - n))
  | 0, _ => ⟨hC, hA⟩
  | n + 1, hn => by
    have ih := loop3 hz 𝒱 c bd i arg3 harg3 arg4 harg4 arg5 harg5 arg6 harg6 arg2 v7 v75 v76 v80 init hC hA n (by omega)
    have hi : (i 2).val < 16 := (i 2).isLt
    have hk : n < (k0_t3_loop i).trips := by rw [trips3]; omega
    have hs := st_k0_t3_succ (F := Ideal) 𝒱 c bd i arg3 harg3 arg4 harg4 arg5 harg5 arg6 harg6 arg2 k0_pay8 v7 Q v75 v76 v80 (harg4.unread x1) (harg5.unread x2) init ⟨n, hk⟩
    dsimp only at hs
    rw [hs]
    generalize st_k0_t3 (F := Ideal) 𝒱 c bd i arg3 harg3 arg4 harg4 arg5 harg5 arg6 harg6 arg2 k0_pay8 v7 Q v75 v76 v80 (harg4.unread x1) (harg5.unread x2) init n = acc at ih
    unfold tripR_k0_t3 trip_k0_t3
    dsimp only
    sl_unfold_words
    rw [show (i 2).val - n = (i 2).val - 1 - n + 1 by omega, Nat.mul_add, Nat.mul_one] at ih
    have he := off4 i ⟨n, hk⟩
    have hb : 256 * ((i 2).val - 1 - n) + 256 ≤ 4096 := by omega
    rw [show (i 2).val - (n + 1) = (i 2).val - 1 - n by omega]
    exact trip_step x1 x2 Q z hz (256 * ((i 2).val - 1 - n)) (256 * (i 2).val) (by omega) (by omega) _ _
      (rd arg4 harg4 x1 _ _ _ he hb) (rd arg5 harg5 x2 _ _ _ he hb) acc.1 acc.2 ih.1 ih.2

/-- What a point leaves in its output block: each lane's head by its own scores. -/
theorem out_apply (c : Dev nD) (i : grid0.Coords) (arg3 : Memref sig .tc .vmem S1x256x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x256x128 .f32) (harg6 : arg6.IsWhole)
    (x0 : Vec Ideal S1x256x128 .bf16) (zA zB : Fin 256 → ℕ → ℝ)
    (hzA : ∀ (r : Fin 256) (u : Fin 4096), ∑ e : Fin 128, k0_pay11 (F := Ideal) x0 (ix2 r e) * x1 (ix3 0 u e) = (zA r u.val : EReal))
    (hzB : ∀ (r : Fin 256) (u : Fin 4096), ∑ e : Fin 128, k0_pay35 (F := Ideal) (iota .tc S256x128 32 [1] iota_S256x128_d1_w32) (k0_pay10 x0) (ix2 r e) * x1 (ix3 0 u e) = (zB r u.val : EReal))
    (r : Fin 256) (e : Fin 128) :
    out0_A_3 (F := Ideal) c i arg3 harg3 arg4 harg4 arg5 harg5 arg6 harg6 x0 x1 x2 (ix3 0 r e)
      = if e.val < 64 then part (zA r) (rows x2 e) (256 * (i 2).val + r.val) 0 else part (zB r) (rows x2 e) (256 * (i 2).val + r.val) 0 := by
  have hi : (i 2).val < 16 := (i 2).isLt
  have hb : 256 * (i 2).val + 256 ≤ 4096 := by omega
  unfold out0_A_3
  rw [View.read_writes_eq_canon _ _ _ (cover0_A_3 c i arg3 harg3 arg4 harg4 arg5 harg5 arg6 harg6 x0 x1 x2)]
  unfold kernelRun0_A
  dsimp only
  sl_unfold_words
  have hz3 : (![0, 0, 0] : Fin 3 → Nat) = fun _ => 0 := funext fun a => by fin_cases a <;> rfl
  have hq : View.readAt (Elt Ideal) arg3.view (Rect.unit ![0, 0, 0] S1x256x128.size inb_S1x256x128_S1x256x128_0_0_0 : Rect S1x256x128).toLoadRect (harg3.unread x0) = x0 := by
    rw [View.readAt_eq_ld, harg3.read_unread, View.ld_unit_zero hz3]
  rw [View.canon_unit_zero hz3]
  have h2 : Scf.trips (k0_t2_loop i).lb (k0_t2_loop i).ub (k0_t2_loop i).st = 0 := Nat.le_zero.mp (k0_t2_abs i).2.1
  have h4 : Scf.trips (k0_t4_loop i).lb (k0_t4_loop i).ub (k0_t4_loop i).st = 0 := Nat.le_zero.mp (k0_t4_abs i).2.1
  have h1 : Scf.trips (k0_t1_loop i).lb (k0_t1_loop i).ub (k0_t1_loop i).st = (i 2).val := trips1 i
  have h3 : Scf.trips (k0_t3_loop i).lb (k0_t3_loop i).ub (k0_t3_loop i).st = (i 2).val := trips3 i
  rw [hq]
  refine (pay7_apply _ _ r e).trans ?_
  split
  · refine (congrFun (congrArg Prod.snd ((congrArg _ h2).trans (st_k0_t2_zero ..))) _).trans ?_
    dsimp only
    refine (congrFun (congrArg (fun n => Prod.snd (st_k0_t1 (F := Ideal) _ c _ i arg3 harg3 arg4 harg4 arg5 harg5 arg6 harg6 _ _ _ _ _ _ _ _ _ _ _ _ _ _ _ _ n)) h1) _).trans ?_
    have hs := start x1 x2 (k0_pay11 x0) zA hzA (256 * (i 2).val) hb _ _ (rd arg4 harg4 x1 (k0_off1 i) (k0_off1_inb i) _ (k0_off1_eq i) hb) (rd arg5 harg5 x2 (k0_off1 i) (k0_off1_inb i) _ (k0_off1_eq i) hb)
    refine ((loop1 x1 x2 (k0_pay11 x0) zA hzA _ c _ i arg3 harg3 arg4 harg4 arg5 harg5 arg6 harg6 _ _ _ _ _ _ _ _ _ _ _ _ ?_ ?_ (i 2).val le_rfl).2 r e).trans ?_
    · exact hs.1
    · exact hs.2
    · rw [Nat.sub_self]
  · refine (congrFun (congrArg Prod.snd ((congrArg _ h4).trans (st_k0_t4_zero ..))) _).trans ?_
    dsimp only
    refine (congrFun (congrArg (fun n => Prod.snd (st_k0_t3 (F := Ideal) _ c _ i arg3 harg3 arg4 harg4 arg5 harg5 arg6 harg6 _ _ _ _ _ _ _ _ _ _ n)) h3) _).trans ?_
    have hs := start x1 x2 (k0_pay35 (F := Ideal) (iota .tc S256x128 32 [1] iota_S256x128_d1_w32) (k0_pay10 x0)) zB hzB (256 * (i 2).val) hb _ _ (rd arg4 harg4 x1 (k0_off1 i) (k0_off1_inb i) _ (k0_off1_eq i) hb) (rd arg5 harg5 x2 (k0_off1 i) (k0_off1_inb i) _ (k0_off1_eq i) hb)
    refine ((loop3 x1 x2 (k0_pay35 (F := Ideal) (iota .tc S256x128 32 [1] iota_S256x128_d1_w32) (k0_pay10 x0)) zB hzB _ c _ i arg3 harg3 arg4 harg4 arg5 harg5 arg6 harg6 _ _ _ _ _ _ ?_ ?_ (i 2).val le_rfl).2 r e).trans ?_
    · exact hs.1
    · exact hs.2
    · rw [Nat.sub_self]

end step

end Cert.Proof.Attn
-- ==== Proof.AttnValue.lean ====
/-
  From blocks to the array: the attention's output array is one function of its arguments.
-/
module

public import proofs.«01_k».proof.Proof.AttnPoint
public import proofs.«01_k».proof.Proof.InpFinite

@[expose] public section

noncomputable section

namespace Cert.Proof.Attn
open Idealize.ShloMosaic Idealize.ShloMosaic.TcCoe Cert.KernelIdeal Cert.KernelIdeal.Gen
open scoped BigOperators

/-- The scores' scale. -/
theorem c125 : Ideal.ofBits .f32 0x3E000000#32 = ((1 / 8 : ℝ) : EReal) := by
  simp [Ideal.ofBits, Ideal.ieee, -EReal.coe_mul]; norm_num

/-- A query's entry under the scale. -/
abbrev scaled (a : EReal) : EReal := a * Ideal.ofBits .f32 0x3E000000#32

/-- A head's lane in the row. -/
def lane (h : Fin 8) (j : Fin 64) : Fin 512 := ⟨64 * h.val + j.val, by omega⟩

/-- A query's score of a key: the head's lanes, multiplied and added, the query scaled. -/
def sc (q k : S4x4096x512.Idx → EReal) (b : Fin 4) (h : Fin 8) (T : Fin 4096) (u : ℕ) : EReal :=
  if hu : u < 4096 then ∑ j : Fin 64, (q (ix3 b T (lane h j)) * Ideal.ofBits .f32 0x3E000000#32) * k (ix3 b ⟨u, hu⟩ (lane h j)) else 0

/-- The keys' values at one lane, as a sequence. -/
def vs (v : S4x4096x512.Idx → EReal) (b : Fin 4) (d : Fin 512) (u : ℕ) : EReal := if hu : u < 4096 then v (ix3 b ⟨u, hu⟩ d) else 0

/-- The output array as one function of the arguments: stick-breaking weights of the keys before the query. -/
def Gf (q k v : S4x4096x512.Idx → EReal) (b : Fin 4) (T : Fin 4096) (d : Fin 512) : EReal :=
  part (fun u => (sc q k b ⟨d.val / 64, by omega⟩ T u).toReal) (vs v b d) T.val 0
/-- The output array as one function of the arguments. -/
def G (q k v : S4x4096x512.Idx → EReal) : S4x4096x512.Idx → EReal := fun i => Gf q k v (i 0) (i 1) (i 2)

/-- Of finite queries and keys every score is a real. -/
theorem sc_real (q k : S4x4096x512.Idx → EReal) (hq : ∀ i, ∃ r : ℝ, q i = (r : EReal)) (hk : ∀ i, ∃ r : ℝ, k i = (r : EReal))
    (b : Fin 4) (h : Fin 8) (T : Fin 4096) (u : ℕ) : ((sc q k b h T u).toReal : EReal) = sc q k b h T u := by
  choose a ha using hq
  choose d hd using hk
  unfold sc
  split
  · rw [c125]
    have e : ∀ hu : u < 4096, (∑ j : Fin 64, (q (ix3 b T (lane h j)) * ((1 / 8 : ℝ) : EReal)) * k (ix3 b ⟨u, hu⟩ (lane h j)))
        = ((∑ j : Fin 64, (a (ix3 b T (lane h j)) * (1 / 8)) * d (ix3 b ⟨u, hu⟩ (lane h j)) : ℝ) : EReal) := fun hu => by
      rw [← Inp.coe_sum]
      exact Finset.sum_congr rfl fun j _ => by rw [ha, hd, EReal.coe_mul, EReal.coe_mul]
    rw [e, EReal.toReal_coe]
  · rw [EReal.toReal_zero, EReal.coe_zero]

/-- A sum over a block's lanes of which only the first half counts. -/
theorem sum_lo (f : Fin 128 → EReal) (h : ∀ e : Fin 128, ¬ e.val < 64 → f e = 0) : ∑ e, f e = ∑ j : Fin 64, f ⟨j.val, by omega⟩ := by
  rw [Fin.sum_univ_add (a := 64) (b := 64) f]
  rw [Finset.sum_eq_zero (s := Finset.univ) (f := fun i : Fin 64 => f (Fin.natAdd 64 i)) fun i _ => h _ (by simp), add_zero]
  rfl
/-- A sum over a block's lanes of which only the second half counts. -/
theorem sum_hi (f : Fin 128 → EReal) (h : ∀ e : Fin 128, e.val < 64 → f e = 0) : ∑ e, f e = ∑ j : Fin 64, f ⟨64 + j.val, by omega⟩ := by
  rw [Fin.sum_univ_add (a := 64) (b := 64) f]
  rw [Finset.sum_eq_zero (s := Finset.univ) (f := fun i : Fin 64 => f (Fin.castAdd 64 i)) fun i _ => h _ (by simp), zero_add]
  rfl

variable (m : (ℓ : Loc nD τ sig) → Buf (Elt Ideal) ℓ)

/-- What the host part hands the call here. -/
theorem V2 (c : Dev nD) (i : S4x4096x512.Idx) : V m c main_v2 i = scaled (m ((c : Thread nD τ).loc main_arg0) i) := by
  have e : V m c main_v2 = truncf .bf16 (mulf (m ((c : Thread nD τ).loc main_arg0)) (broadcastInDim S4x4096x512 ![] bcast_S_S4x4096x512 (constant (F := Ideal) S_ .f32 0x3E000000#32))) bitsLt_bf16_f32 := by
    dsimp only [V]; simp only [hostOps0]; after_results_simp <;> rfl
  rw [e]; rfl
/-- What the host part hands the call here. -/
theorem V3 (c : Dev nD) : V m c main_v3 = m ((c : Thread nD τ).loc main_arg1) := by
  dsimp only [V]; simp only [hostOps0]; after_results_simp <;> rfl
/-- What the host part hands the call here. -/
theorem V4 (c : Dev nD) : V m c main_v4 = m ((c : Thread nD τ).loc main_arg2) := by
  dsimp only [V]; simp only [hostOps0]; after_results_simp <;> rfl

/-- The query block of each point. -/
theorem qi : ∀ t : Fin cfg0.N, (grid0.coords t 2).val = t.val % 16 := (by decide +kernel : ∀ t : Fin grid0.N, (grid0.coords t 2).val = t.val % 16)
/-- Where window 0's block starts at each point. -/
theorem e0 : ∀ t : Fin cfg0.N, win0_0.index t = ![t.val / 64, t.val % 16, t.val / 16 % 4] := (by decide +kernel : ∀ t : Fin grid0.N, win0_0.index t = ![t.val / 64, t.val % 16, t.val / 16 % 4])
/-- Where window 1's block starts at each point. -/
theorem e1 : ∀ t : Fin cfg0.N, win0_1.index t = ![t.val / 64, 0, t.val / 16 % 4] := (by decide +kernel : ∀ t : Fin grid0.N, win0_1.index t = ![t.val / 64, 0, t.val / 16 % 4])
/-- Where window 2's block starts at each point. -/
theorem e2 : ∀ t : Fin cfg0.N, win0_2.index t = ![t.val / 64, 0, t.val / 16 % 4] := (by decide +kernel : ∀ t : Fin grid0.N, win0_2.index t = ![t.val / 64, 0, t.val / 16 % 4])
/-- Where window 3's block starts at each point. -/
theorem e3 : ∀ t : Fin cfg0.N, win0_3.index t = ![t.val / 64, t.val % 16, t.val / 16 % 4] := (by decide +kernel : ∀ t : Fin grid0.N, win0_3.index t = ![t.val / 64, t.val % 16, t.val / 16 % 4])

/-- The queries' block. -/
theorem b0 (c : Dev nD) (t : Fin cfg0.N) (r : Fin 256) (e : Fin 128) (b : Fin 4) (T : Fin 4096) (d : Fin 512) (hb : b.val = t.val / 64) (hT : T.val = 256 * (t.val % 16) + r.val) (hd : d.val = 128 * (t.val / 16 % 4) + e.val) :
    iblk m c 0 t (ix3 0 r e) = scaled (m ((c : Thread nD τ).loc main_arg0) (ix3 b T d)) := by
  rw [← V2 m c]
  blk_simp [iblk]
  exact congrArg (V m c main_v2) (by blk_ext [e0 t]; all_goals simp [ix3]; try omega)
/-- The keys' block. -/
theorem b1 (c : Dev nD) (t : Fin cfg0.N) (u : Fin 4096) (e : Fin 128) (b : Fin 4) (d : Fin 512) (hb : b.val = t.val / 64) (hd : d.val = 128 * (t.val / 16 % 4) + e.val) :
    iblk m c 1 t (ix3 0 u e) = m ((c : Thread nD τ).loc main_arg1) (ix3 b u d) := by
  rw [← V3 m c]
  blk_simp [iblk]
  exact congrArg (V m c main_v3) (by blk_ext [e1 t]; all_goals simp [ix3]; try omega)
/-- The values' block. -/
theorem b2 (c : Dev nD) (t : Fin cfg0.N) (u : Fin 4096) (e : Fin 128) (b : Fin 4) (d : Fin 512) (hb : b.val = t.val / 64) (hd : d.val = 128 * (t.val / 16 % 4) + e.val) :
    iblk m c 2 t (ix3 0 u e) = m ((c : Thread nD τ).loc main_arg2) (ix3 b u d) := by
  rw [← V4 m c]
  blk_simp [iblk]
  exact congrArg (V m c main_v4) (by blk_ext [e2 t]; all_goals simp [ix3]; try omega)

/-- The output array is `G` of the arguments. -/
theorem final (c : Dev nD) (hq : ∀ i, ∃ r : ℝ, m ((c : Thread nD τ).loc main_arg0) i = (r : EReal)) (hk : ∀ i, ∃ r : ℝ, m ((c : Thread nD τ).loc main_arg1) i = (r : EReal)) :
    (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have ht : t.val < 256 := t.isLt
  have hy : ∃ (r : Fin 256) (e : Fin 128), y = ix3 0 r e := ⟨y 1, y 2, by
    funext a
    match a with
    | ⟨0, _⟩ => exact Subsingleton.elim (α := Fin 1) _ _
    | ⟨1, _⟩ => rfl
    | ⟨2, _⟩ => rfl⟩
  obtain ⟨r, e, rfl⟩ := hy
  have he : (win0_3.blk t).view.emb (ix3 0 r e) = ix3 (⟨t.val / 64, by omega⟩ : Fin 4) (⟨256 * (t.val % 16) + r.val, by omega⟩ : Fin 4096) (⟨128 * (t.val / 16 % 4) + e.val, by omega⟩ : Fin 512) := by
    blk_ext [e3 t]; all_goals simp [ix3]; try omega
  rw [he]
  unfold outsAt0
  refine (out_apply (iblk m c 1 t) (iblk m c 2 t) c (grid0.coords t) _ _ _ _ _ _ _ _ (iblk m c 0 t)
    (fun r u => (sc (m ((c : Thread nD τ).loc main_arg0)) (m ((c : Thread nD τ).loc main_arg1)) ⟨t.val / 64, by omega⟩ ⟨2 * (t.val / 16 % 4), by omega⟩ ⟨256 * (t.val % 16) + r.val, by omega⟩ u).toReal)
    (fun r u => (sc (m ((c : Thread nD τ).loc main_arg0)) (m ((c : Thread nD τ).loc main_arg1)) ⟨t.val / 64, by omega⟩ ⟨2 * (t.val / 16 % 4) + 1, by omega⟩ ⟨256 * (t.val % 16) + r.val, by omega⟩ u).toReal)
    (fun r u => ?_) (fun r u => ?_) r e).trans ?_
  · rw [sc_real _ _ hq hk, sc, dif_pos u.isLt, sum_lo]
    · refine Finset.sum_congr rfl fun j _ => ?_
      rw [pay11_apply, if_pos j.isLt]
      exact congrArg₂ (· * ·) (b0 m c t r _ _ _ _ rfl rfl (by simp [lane]; omega)) (b1 m c t u _ _ _ rfl (by simp [lane]; omega))
    · intro e he
      rw [pay11_apply, if_neg he, zero_mul]
  · rw [sc_real _ _ hq hk, sc, dif_pos u.isLt, sum_hi]
    · refine Finset.sum_congr rfl fun j _ => ?_
      rw [pay35_apply, if_neg (by simp)]
      exact congrArg₂ (· * ·) (b0 m c t r _ _ _ _ rfl rfl (by simp [lane]; omega)) (b1 m c t u _ _ _ rfl (by simp [lane]; omega))
    · intro e he
      rw [pay35_apply, if_pos he, zero_mul]
  · have hv : rows (iblk m c 2 t) e = vs (m ((c : Thread nD τ).loc main_arg2)) ⟨t.val / 64, by omega⟩ ⟨128 * (t.val / 16 % 4) + e.val, by omega⟩ := by
      funext u
      unfold rows vs
      split
      · exact b2 m c t _ e _ _ rfl rfl
      · rfl
    rw [hv, qi t]
    have hG : ∀ (b : Fin 4) (T : Fin 4096) (d : Fin 512) (q k v : S4x4096x512.Idx → EReal), G q k v (ix3 b T d) = Gf q k v b T d := fun _ _ _ _ _ _ => rfl
    rw [hG]
    unfold Gf
    by_cases h64 : e.val < 64
    · rw [if_pos h64]
      have hd : (⟨(128 * (t.val / 16 % 4) + e.val) / 64, by omega⟩ : Fin 8) = ⟨2 * (t.val / 16 % 4), by omega⟩ := Fin.ext (by dsimp only; omega)
      dsimp only
      rw [hd]
    · rw [if_neg h64]
      have hd : (⟨(128 * (t.val / 16 % 4) + e.val) / 64, by omega⟩ : Fin 8) = ⟨2 * (t.val / 16 % 4) + 1, by omega⟩ := Fin.ext (by dsimp only; omega)
      dsimp only
      rw [hd]

end Cert.Proof.Attn
-- ==== Proof.AttnRef.lean ====
/-
  The attention reference's value: under finite queries and keys the host array is `G` of the arguments.
-/
module

public import proofs.«01_k».proof.Proof.AttnValue
public import proofs.«01_k».proof.Proof.InpCumsum
public import proofs.«01_k».proof.Proof.Gen.ReferenceIdeal.Read
public import proofs.«01_k».proof.Proof.Gen.Pre_finite_qk

@[expose] public section

noncomputable section

namespace Cert.Proof.Attn
open Idealize.ShloMosaic Idealize.ShloMosaic.TcCoe Cert.ReferenceIdeal Cert.ReferenceIdeal.Read
open scoped BigOperators

/-- The places of the reversed running sum's window. -/
def wEquiv : Fin 4096 ≃ (⟨4, ![1, 1, 1, 4096]⟩ : Shape).Idx where
  toFun n := ix4 0 0 0 n
  invFun w := w 3
  left_inv _ := rfl
  right_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- The window's places in turn are the entries from `s` on. -/
theorem sum_on (f : ℕ → EReal) (s : ℕ) (hs : s < 4096) : (∑ n : Fin 4096, if s + n.val < 4096 then f (s + n.val) else 0) = ∑ n ∈ Finset.Ico s 4096, f n := by
  rw [Fin.sum_univ_eq_sum_range (fun n => if s + n < 4096 then f (s + n) else 0) 4096, Finset.sum_Ico_eq_sum_range]
  have h : Finset.range (4096 - s) ⊆ Finset.range 4096 := Finset.range_subset_range.mpr (by omega)
  rw [← Finset.sum_subset h (fun j hj hj' => ?_)]
  · refine Finset.sum_congr rfl fun j hj => ?_
    have : j < 4096 - s := Finset.mem_range.mp hj
    rw [if_pos (by omega)]
  · have h2 : ¬ j < 4096 - s := fun h => hj' (Finset.mem_range.mpr h)
    exact if_neg (by omega)

/-- The reversed running sum at a key is the sum of the entries from it on. -/
theorem cumsum_apply (x : S4x8x4096x4096.Idx → EReal) (init : S_.Idx → EReal) (hz : ∀ i, init i = 0)
    (hw : S4x8x4096x4096.ReduceWindows ![1, 1, 1, 4096] ![1, 1, 1, 1] ![0, 0, 0, 0] ![0, 0, 0, 4095] S4x8x4096x4096) (hu : 0 < S_.numel)
    (b : Fin 4) (h : Fin 8) (T s : Fin 4096) (f : ℕ → EReal) (hf : ∀ u : Fin 4096, x (ix4 b h T u) = f u.val) :
    Host.reduceWindowAdd (F := Ideal) (φ := .f32) ![1, 1, 1, 4096] ![1, 1, 1, 1] ![0, 0, 0, 0] ![0, 0, 0, 4095] x init hw hu (ix4 b h T s) = ∑ n ∈ Finset.Ico s.val 4096, f n := by
  rw [Inp.reduceWindow_sum, hz, zero_add, ← Equiv.sum_comp wEquiv, ← sum_on f s.val s.isLt]
  refine Finset.sum_congr rfl fun n _ => ?_
  by_cases hn : s.val + n.val < 4096
  · rw [if_pos hn]
    refine (dif_pos (fun a => ?_)).trans ((congrArg x (funext fun a => Fin.ext ?_)).trans (hf ⟨s.val + n.val, hn⟩))
    · match a with
      | ⟨0, _⟩ => exact ⟨Nat.zero_le _, by show b.val * 1 + 0 - 0 < 4; omega⟩
      | ⟨1, _⟩ => exact ⟨Nat.zero_le _, by show h.val * 1 + 0 - 0 < 8; omega⟩
      | ⟨2, _⟩ => exact ⟨Nat.zero_le _, by show T.val * 1 + 0 - 0 < 4096; omega⟩
      | ⟨3, _⟩ => exact ⟨Nat.zero_le _, by show s.val * 1 + n.val - 0 < 4096; omega⟩
    · match a with
      | ⟨0, _⟩ => show b.val * 1 + 0 - 0 = b.val; omega
      | ⟨1, _⟩ => show h.val * 1 + 0 - 0 = h.val; omega
      | ⟨2, _⟩ => show T.val * 1 + 0 - 0 = T.val; omega
      | ⟨3, _⟩ => show s.val * 1 + n.val - 0 = s.val + n.val; omega
  · rw [if_neg hn]
    refine dif_neg (fun hin => hn ?_)
    have h1 : s.val * 1 + n.val - 0 < 4096 := (hin 3).2
    omega

/-- The reference's log-sigmoid of a real. -/
theorem lsig_steps (x : ℝ) (y c : EReal) (hy : y = -(x : EReal)) (hc : c = 0) :
    FloatOps.hostNegf (F := Ideal) (φ := .f32) (Scalar.select (FloatOps.cmpf (F := Ideal) (φ := .f32) .une (FloatOps.subf (F := Ideal) (φ := .f32) y c) (FloatOps.subf (F := Ideal) (φ := .f32) y c))
      (FloatOps.addf (F := Ideal) (φ := .f32) y c)
      (FloatOps.addf (F := Ideal) (φ := .f32) (FloatOps.maximumf (F := Ideal) (φ := .f32) y c) (FloatOps.hostUnary (F := Ideal) (φ := .f32) .log1p (FloatOps.hostUnary (F := Ideal) (φ := .f32) .exp
        (FloatOps.hostNegf (F := Ideal) (φ := .f32) (FloatOps.hostAbsf (F := Ideal) (φ := .f32) (FloatOps.subf (F := Ideal) (φ := .f32) y c)))))))
      = (lb x : EReal) := by
  subst hy hc
  have e : FloatOps.cmpf (F := Ideal) (φ := .f32) .une (FloatOps.subf (F := Ideal) (φ := .f32) (-(x : EReal)) (0 : EReal)) (FloatOps.subf (F := Ideal) (φ := .f32) (-(x : EReal)) (0 : EReal)) = 0#1 := by
    show BitVec.ofBool (decide (_ ≠ _)) = 0#1
    simp
  rw [e]
  show -(max (-(x : EReal)) 0 + Ideal.log (1 + Ideal.exp (-(max (-(x : EReal) - 0) (-(-(x : EReal) - 0)))))) = _
  have h1 : -(max (-(x : EReal) - 0) (-(-(x : EReal) - 0))) = 0 - max (x : EReal) (-(x : EReal)) := by
    rw [sub_zero, neg_neg, max_comm, zero_sub]
  rw [h1, lse_coe, ← EReal.coe_neg, ← EReal.coe_zero, ← coe_max', ← EReal.coe_add, ← EReal.coe_neg]
  refine congrArg _ ?_
  unfold lb
  rw [neg_add, ← min_neg_neg, neg_neg, neg_zero, sub_eq_add_neg]

/-- The log-sigmoid of a score's opposite. -/
theorem lb_neg (z : ℝ) : lb (-z) = lm z := by unfold lb lm lse; rw [abs_neg]

/-- The masked logarithms after a key, added. -/
theorem tail_masked (z : ℕ → ℝ) (T s : ℕ) (hT : T ≤ 4096) (hs : s < T) :
    (∑ n ∈ Finset.Ico s 4096, if n < T then lm (z n) else 0) - lm (z s) = tail z T (s + 1) := by
  rw [← Finset.sum_Ico_consecutive _ (by omega : s ≤ T) hT, Finset.sum_eq_sum_Ico_succ_bot hs, if_pos hs]
  rw [Finset.sum_eq_zero (s := Finset.Ico T 4096) fun n hn => if_neg (by have := (Finset.mem_Ico.mp hn).1; omega)]
  rw [Finset.sum_congr rfl fun n hn => if_pos (Finset.mem_Ico.mp hn).2]
  unfold tail
  ring

variable (q k v : S4x4096x512.Idx → EReal) (b : Fin 4) (h : Fin 8) (T : Fin 4096)

/-- The queries by heads. -/
theorem r1 (u : Fin 4096) (j : Fin 64) : val_main_v1 (F := Ideal) q (lidx_main_v4 (ix4 b h T u) j) = q (ix3 b T (lane h j)) := by
  rw [val_main_v1_apply, val_main_v0_apply]
  refine congrArg q (funext fun a => Fin.ext ?_)
  match a with
  | ⟨0, _⟩ => show (((b.val * 4096 + T.val) * 8 + h.val) * 64 + j.val) / 2097152 = b.val; omega
  | ⟨1, _⟩ => show (((b.val * 4096 + T.val) * 8 + h.val) * 64 + j.val) / 512 % 4096 = T.val; omega
  | ⟨2, _⟩ => show (((b.val * 4096 + T.val) * 8 + h.val) * 64 + j.val) % 512 = 64 * h.val + j.val; omega
/-- The keys by heads. -/
theorem r3 (u : Fin 4096) (j : Fin 64) : val_main_v3 (F := Ideal) k (ridx_main_v4 (ix4 b h T u) j) = k (ix3 b u (lane h j)) := by
  rw [val_main_v3_apply, val_main_v2_apply]
  refine congrArg k (funext fun a => Fin.ext ?_)
  match a with
  | ⟨0, _⟩ => show (((b.val * 4096 + u.val) * 8 + h.val) * 64 + j.val) / 2097152 = b.val; omega
  | ⟨1, _⟩ => show (((b.val * 4096 + u.val) * 8 + h.val) * 64 + j.val) / 512 % 4096 = u.val; omega
  | ⟨2, _⟩ => show (((b.val * 4096 + u.val) * 8 + h.val) * 64 + j.val) % 512 = 64 * h.val + j.val; omega
/-- The values by heads. -/
theorem r23 (u : Fin 4096) (j : Fin 64) : val_main_v23 (F := Ideal) v (ridx_main_v24 (ix4 b h T j) u) = v (ix3 b u (lane h j)) := by
  rw [val_main_v23_apply, val_main_v22_apply]
  refine congrArg v (funext fun a => Fin.ext ?_)
  match a with
  | ⟨0, _⟩ => show (((b.val * 4096 + u.val) * 8 + h.val) * 64 + j.val) / 2097152 = b.val; omega
  | ⟨1, _⟩ => show (((b.val * 4096 + u.val) * 8 + h.val) * 64 + j.val) / 512 % 4096 = u.val; omega
  | ⟨2, _⟩ => show (((b.val * 4096 + u.val) * 8 + h.val) * 64 + j.val) % 512 = 64 * h.val + j.val; omega

/-- The mask: the keys before the query. -/
theorem r12 (u : Fin 4096) : val_main_call1_v1 (F := Ideal) (ix4 b h T u) = if u.val < T.val then 1#1 else 0#1 := by
  rw [val_main_call1_v1_apply, val_main_v12_apply, val_main_v10_apply, val_main_v8_apply, val_main_v7_apply, val_main_v11_apply, val_main_v9_apply, val_main_v7_apply]
  exact slt_small u.val T.val (by omega) (by omega)
/-- The mask: the keys before the query. -/
theorem r12' (u : Fin 4096) : val_main_call4_v1 (F := Ideal) (ix4 b h T u) = if u.val < T.val then 1#1 else 0#1 := by
  rw [val_main_call4_v1_apply, val_main_v12_apply, val_main_v10_apply, val_main_v8_apply, val_main_v7_apply, val_main_v11_apply, val_main_v9_apply, val_main_v7_apply]
  exact slt_small u.val T.val (by omega) (by omega)

/-- Where the reshaped result reads. -/
theorem head_lane (d : Fin 512) (hd : d.val / 64 < 8) (hj : d.val % 64 < 64) : lane ⟨d.val / 64, hd⟩ ⟨d.val % 64, hj⟩ = d := Fin.ext (by show 64 * (d.val / 64) + d.val % 64 = d.val; omega)

section finite
variable (hq : ∀ i, ∃ r : ℝ, q i = (r : EReal)) (hk : ∀ i, ∃ r : ℝ, k i = (r : EReal))
include hq hk

/-- A score of the reference, a real. -/
theorem r6 (u : Fin 4096) : val_main_v6 (F := Ideal) q k (ix4 b h T u) = ((sc q k b h T u.val).toReal : EReal) := by
  rw [sc_real q k hq hk, val_main_v6_apply, val_main_v4_apply, val_main_v5_apply, val_main_cst_apply, sc, dif_pos u.isLt]
  simp only [r1, r3]
  choose a ha using hq
  choose d hd using hk
  have e1 : (∑ j : Fin 64, q (ix3 b T (lane h j)) * k (ix3 b u (lane h j))) = ((∑ j : Fin 64, a (ix3 b T (lane h j)) * d (ix3 b u (lane h j)) : ℝ) : EReal) := by
    rw [← Inp.coe_sum]
    exact Finset.sum_congr rfl fun j _ => by rw [ha, hd, EReal.coe_mul]
  have e2 : (∑ j : Fin 64, (q (ix3 b T (lane h j)) * Ideal.ofBits .f32 0x3E000000#32) * k (ix3 b u (lane h j)))
      = ((∑ j : Fin 64, (a (ix3 b T (lane h j)) * (1 / 8)) * d (ix3 b u (lane h j)) : ℝ) : EReal) := by
    rw [← Inp.coe_sum, c125]
    exact Finset.sum_congr rfl fun j _ => by rw [ha, hd, EReal.coe_mul, EReal.coe_mul]
  refine (congrArg₂ (fun x y : EReal => x * y) e1 c125).trans (Eq.trans ?_ e2.symm)
  rw [← EReal.coe_mul, Finset.sum_mul]
  exact congrArg _ (Finset.sum_congr rfl fun j _ => by ring)

/-- The logarithm of a key's passing. -/
theorem r14 (u : Fin 4096) : val_main_v14 (F := Ideal) q k (ix4 b h T u) = (lm ((sc q k b h T u.val).toReal) : EReal) := by
  rw [← lb_neg]
  refine lsig_steps (-(sc q k b h T u.val).toReal) (val_main_call0_v0 (F := Ideal) q k (ix4 b h T u)) _ ?_ Ideal.ofBits_zero_f32
  rw [val_main_call0_v0_apply, val_main_v13_apply, r6 q k b h T hq hk, EReal.coe_neg]
  rfl
/-- The logarithm of a key's taking. -/
theorem r18 (u : Fin 4096) : val_main_v18 (F := Ideal) q k (ix4 b h T u) = (lb ((sc q k b h T u.val).toReal) : EReal) := by
  refine lsig_steps ((sc q k b h T u.val).toReal) (val_main_call3_v0 (F := Ideal) q k (ix4 b h T u)) _ ?_ Ideal.ofBits_zero_f32
  rw [val_main_call3_v0_apply, r6 q k b h T hq hk]
  rfl
/-- The masked logarithm. -/
theorem r15 (u : Fin 4096) : val_main_v15 (F := Ideal) q k (ix4 b h T u) = ((if u.val < T.val then lm ((sc q k b h T u.val).toReal) else 0 : ℝ) : EReal) := by
  rw [val_main_v15_apply, r12, r14 q k b h T hq hk]
  split
  · rfl
  · exact Ideal.ofBits_zero_f32
/-- The reversed running sum. -/
theorem r16 (u : Fin 4096) : val_main_v16 (F := Ideal) q k (ix4 b h T u) = ((∑ n ∈ Finset.Ico u.val 4096, if n < T.val then lm ((sc q k b h T n).toReal) else 0 : ℝ) : EReal) := by
  rw [← coe_fsum]
  exact cumsum_apply _ _ (fun i => Ideal.ofBits_zero_f32) _ _ b h T u _ (r15 q k b h T hq hk)
/-- The stick-breaking weight of a key. -/
theorem r21 (u : Fin 4096) : val_main_v21 (F := Ideal) q k (ix4 b h T u) = if u.val < T.val then (wt (fun u => (sc q k b h T u).toReal) T.val u.val : EReal) else 0 := by
  rw [val_main_v21_apply, r12']
  by_cases hu : u.val < T.val
  · rw [if_pos hu, if_pos hu, val_main_v20_apply, val_main_v19_apply, val_main_v17_apply, r16 q k b h T hq hk, r15 q k b h T hq hk, r18 q k b h T hq hk, if_pos hu]
    have hsel : ∀ x y : EReal, Scalar.select (1#1) x y = x := fun _ _ => rfl
    refine (hsel _ _).trans ?_
    show Ideal.exp (((lb ((sc q k b h T u.val).toReal) : ℝ) : EReal) + (((∑ n ∈ Finset.Ico u.val 4096, if n < T.val then lm ((sc q k b h T n).toReal) else 0 : ℝ) : EReal) - ((lm ((sc q k b h T u.val).toReal) : ℝ) : EReal))) = _
    rw [← EReal.coe_sub, ← EReal.coe_add, Ideal.exp_coe, tail_masked (fun u => (sc q k b h T u).toReal) T.val u.val (by omega) hu]
    rfl
  · rw [if_neg hu, if_neg hu]
    exact Ideal.ofBits_zero_f32
/-- The weighted values. -/
theorem r24 (j : Fin 64) : val_main_v24 (F := Ideal) q k v (ix4 b h T j) = part (fun u => (sc q k b h T u).toReal) (vs v b (lane h j)) T.val 0 := by
  rw [val_main_v24_apply]
  have e : ∀ u : Fin 4096, val_main_v21 (F := Ideal) q k (lidx_main_v24 (ix4 b h T j) u) * val_main_v23 (F := Ideal) v (ridx_main_v24 (ix4 b h T j) u)
      = if u.val < T.val then (wt (fun u => (sc q k b h T u).toReal) T.val u.val : EReal) * vs v b (lane h j) u.val else 0 := fun u => by
    have hl : lidx_main_v24 (ix4 b h T j) u = ix4 b h T u := funext fun q => by fin_cases q <;> rfl
    rw [r23, hl, r21 q k b h T hq hk, vs, dif_pos u.isLt]
    split
    · rfl
    · rw [zero_mul]
  rw [Finset.sum_congr rfl fun u _ => e u,
    Fin.sum_univ_eq_sum_range (fun u => if u < T.val then (wt (fun u => (sc q k b h T u).toReal) T.val u : EReal) * vs v b (lane h j) u else 0) 4096]
  unfold part
  rw [Finset.range_eq_Ico, ← Finset.sum_Ico_consecutive _ (Nat.zero_le T.val) (by omega : T.val ≤ 4096)]
  rw [Finset.sum_eq_zero (s := Finset.Ico T.val 4096) fun n hn => if_neg (by have := (Finset.mem_Ico.mp hn).1; omega), add_zero]
  exact Finset.sum_congr rfl fun n hn => if_pos (Finset.mem_Ico.mp hn).2

/-- The reference's array is `G` of its arguments. -/
theorem ref_eq : val_main_v26 (F := Ideal) q k v = G q k v := by
  funext i
  obtain ⟨b, T, d, rfl⟩ : ∃ (b : Fin 4) (T : Fin 4096) (d : Fin 512), i = ix3 b T d := ⟨i 0, i 1, i 2, by
    funext a
    match a with
    | ⟨0, _⟩ => rfl
    | ⟨1, _⟩ => rfl
    | ⟨2, _⟩ => rfl⟩
  rw [val_main_v26_apply, val_main_v25_apply]
  have hi : idx_main_v25 (idx_main_v26 (ix3 b T d)) = ix4 b (⟨d.val / 64, by omega⟩ : Fin 8) T (⟨d.val % 64, by omega⟩ : Fin 64) := by
    funext a
    refine Fin.ext ?_
    match a with
    | ⟨0, _⟩ => show ((b.val * 4096 + T.val) * 512 + d.val) / 2097152 = b.val; omega
    | ⟨1, _⟩ => show ((b.val * 4096 + T.val) * 512 + d.val) / 64 % 8 = d.val / 64; omega
    | ⟨2, _⟩ => show ((b.val * 4096 + T.val) * 512 + d.val) / 512 % 4096 = T.val; omega
    | ⟨3, _⟩ => show ((b.val * 4096 + T.val) * 512 + d.val) % 64 = d.val % 64; omega
  rw [hi, r24 q k v _ _ _ hq hk, head_lane]
  rfl

end finite

/-- Under the precondition the queries and keys are reals. -/
theorem pre_real (a0 a1 a2 : FVec Ideal Cert.Pre_finite_qk.S4x4096x512 .f32)
    (h : (Cert.Pre_finite_qk.fn (F := Ideal) a0 a1 a2).1 = (fun _ => 1#1) ∧ (Cert.Pre_finite_qk.fn (F := Ideal) a0 a1 a2).2 = (fun _ => 1#1)) :
    (∀ i, ∃ r : ℝ, a0 i = (r : EReal)) ∧ (∀ i, ∃ r : ℝ, a1 i = (r : EReal)) :=
  ⟨fun i => Inp.real_of_lt _ (congrFun h.1 i), fun i => Inp.real_of_lt _ (congrFun h.2 i)⟩

end Cert.Proof.Attn
-- ==== Proof.TailKernel.lean ====
/-
  What the fourth program's kernel leaves in its output array: every row is the row function of MlpSpec.lean, of the
  attention's normed row.
-/
module

public import proofs.«01_k».proof.Proof.MlpSpec
public import proofs.«01_k».proof.Proof.Gen.Kernel4Ideal.Value
public import Idealize.ShloMosaic.Lib.Pointwise
public import Idealize.ShloMosaic.Lib.Pipeline.ValueKit
public import Idealize.ShloMosaic.PureOps.Ideal.Laws

@[expose] public section

noncomputable section

namespace Cert.Proof.Tail
open Idealize.ShloMosaic Idealize.ShloMosaic.TcCoe Cert.Kernel4Ideal Cert.Kernel4Ideal.Gen
open Cert.Proof.Mlp (rms mixed hid mlp outRow)
open scoped BigOperators

/-- RMS norm of the attention's row, of width 512, with gain `g`. -/
def rmsA (h g : Fin 512 → EReal) (d : Fin 512) : EReal :=
  h d * Ideal.rsqrt (Ideal.div (∑ k, h k * h k) (Ideal.ofBits .f32 0x44000000#32) + Ideal.ofBits .f32 0x358637BD#32) * g d

/-- A run of 1024 hidden units of the MLP's down product. -/
def run (r : Fin 1024 → EReal) (wu wd : Fin 1024 → Fin 1024 → EReal) (d : Fin 1024) : EReal :=
  ∑ f : Fin 1024, max (∑ k, r k * wu k f) 0 * max (∑ k, r k * wu k f) 0 * wd f d

/-- A sum over 4096 is the sum of its four runs of 1024. -/
theorem sum_four (g : Fin 4096 → EReal) : ∑ f, g f = ∑ j : Fin 4, ∑ f : Fin 1024, g ⟨1024 * j.val + f.val, by omega⟩ := by
  rw [← Fintype.sum_prod_type', ← Equiv.sum_comp (finProdFinEquiv (m := 4) (n := 1024))]
  refine Finset.sum_congr rfl fun x _ => congrArg g (Fin.ext ?_)
  simp [finProdFinEquiv]; omega

/-- The MLP row as the residual with the four runs added in turn. -/
theorem mlp_four (h r : Fin 1024 → EReal) (wu : Fin 1024 → Fin 4096 → EReal) (wd : Fin 4096 → Fin 1024 → EReal) (d : Fin 1024)
    (c : Fin 4 → EReal) (hc : ∀ j : Fin 4, c j = run r (fun k f => wu k ⟨1024 * j.val + f.val, by omega⟩) (fun f e => wd ⟨1024 * j.val + f.val, by omega⟩ e) d) :
    h d + c 0 + c 1 + c 2 + c 3 = mlp h r wu wd d := by
  unfold mlp
  rw [sum_four, show (∑ j : Fin 4, ∑ f : Fin 1024, hid r wu ⟨1024 * j.val + f.val, by omega⟩ * hid r wu ⟨1024 * j.val + f.val, by omega⟩ * wd ⟨1024 * j.val + f.val, by omega⟩ d)
    = ∑ j : Fin 4, c j from Finset.sum_congr rfl fun j _ => by rw [hc j]; rfl, Fin.sum_univ_four]
  simp only [add_assoc]

/-- The residual after the output projection, at an element. -/
theorem pay2_apply (v0 : Vec Ideal S512x512 .f32) (v2 : Vec Ideal S1x512 .f32) (v17 : Vec Ideal S512x512 .bf16) (v20 : Vec Ideal S512x1024 .f32) (v22 : Vec Ideal S1024x1024 .bf16)
    (r : Fin 512) (d : Fin 1024) :
    k0_pay2 (F := Ideal) v0 v2 v17 v20 v22 (ix2 r d)
      = mixed (fun k => v20 (ix2 r k)) (fun k => v17 (ix2 r k)) (rmsA (fun k => v0 (ix2 r k)) (fun k => v2 (ix2 0 k))) (fun e d => v22 (ix2 e d)) d := by
  unfold k0_pay2 mixed
  simp only [pointwise]
  rw [zero_add]
  simp only [dif_pos, dif_neg, not_false_eq_true, if_true]
  have key : ∀ (k p q p' q' : Fin 512) (c : Fin 1), p = r → q = k → p' = r → q' = k → c = 0 →
      v0 (ix2 p q) * Ideal.rsqrt (Ideal.div (∑ x, v0 (ix2 p' x) * v0 (ix2 p' x)) (Ideal.ofBits .f32 0x44000000#32) + Ideal.ofBits .f32 0x358637BD#32) * v2 (ix2 c q')
        = rmsA (fun k => v0 (ix2 r k)) (fun k => v2 (ix2 0 k)) k := by
    rintro k _ _ _ _ _ rfl rfl rfl rfl rfl
    rfl
  refine congrArg (v20 (ix2 r d) + ·) (congrArg₂ (· + ·) rfl (Finset.sum_congr rfl fun k _ => congrArg₂ (· * ·) ?_ rfl))
  have hr : ∀ h, (⟨if (0 : Nat) = 1 then 512 + k.val - 512 else r.val, h⟩ : Fin 512) = r := fun h => Fin.ext (by simp)
  have hk : ∀ h, (⟨512 + k.val - 512, h⟩ : Fin 512) = k := fun h => Fin.ext (by show 512 + k.val - 512 = k.val; omega)
  exact key k _ _ _ _ _ (hr _) (hk _) (hr _) (hk _) rfl

/-- The normed row fed to the MLP, at an element. -/
theorem pay3_apply (v0 : Vec Ideal S512x512 .f32) (v2 : Vec Ideal S1x512 .f32) (v17 : Vec Ideal S512x512 .bf16) (v20 : Vec Ideal S512x1024 .f32) (v22 : Vec Ideal S1024x1024 .bf16)
    (v26 : Vec Ideal S1x1024 .f32) (r : Fin 512) (d : Fin 1024) :
    k0_pay3 (F := Ideal) v0 v2 v17 v20 v22 v26 (ix2 r d) = rms (fun k => k0_pay2 (F := Ideal) v0 v2 v17 v20 v22 (ix2 r k)) (fun k => v26 (ix2 0 k)) d := by
  unfold k0_pay3
  generalize k0_pay2 (F := Ideal) v0 v2 v17 v20 v22 = h
  simp only [pointwise]
  rfl

/-- Three runs added in turn. -/
theorem pay5_apply (h g : FVec Ideal S512x1024 .f32) (a1 b1 a2 b2 a3 b3 : Vec Ideal S1024x1024 .bf16) (r : Fin 512) (d : Fin 1024) :
    k0_pay5 (F := Ideal) h g a1 b1 a2 b2 a3 b3 (ix2 r d) = h (ix2 r d)
      + run (fun k => g (ix2 r k)) (fun k f => a1 (ix2 k f)) (fun f e => b1 (ix2 f e)) d
      + run (fun k => g (ix2 r k)) (fun k f => a2 (ix2 k f)) (fun f e => b2 (ix2 f e)) d
      + run (fun k => g (ix2 r k)) (fun k f => a3 (ix2 k f)) (fun f e => b3 (ix2 f e)) d := by
  unfold k0_pay5 k0_pay4
  simp only [pointwise]
  simp only [zero_add]
  rfl

/-- The last run and the final norm. -/
theorem pay1_apply (g h : FVec Ideal S512x1024 .f32) (a b : Vec Ideal S1024x1024 .bf16) (fg : Vec Ideal S1x1024 .f32) (r : Fin 512) (d : Fin 1024) :
    k0_pay1 (F := Ideal) (k0_pay4 (F := Ideal) g) h (k0_pay6 (F := Ideal) a) (constant S512x1024 .f32 0x00000000#32) b fg (ix2 r d)
      = rms (fun k => h (ix2 r k) + run (fun k => g (ix2 r k)) (fun k f => a (ix2 k f)) (fun f e => b (ix2 f e)) k) (fun k => fg (ix2 0 k)) d := by
  unfold k0_pay1 k0_pay4 k0_pay6
  simp only [pointwise]
  simp only [zero_add]
  rfl

/-- A run of 1024 columns of the up weights. -/
theorem ldu (x : Vec Ideal S1024x4096 .bf16) (o : ℕ) (h : ∀ a, ![0, o] a + S1024x1024.size a ≤ S1024x4096.size a) (k f : Fin 1024) (hf : o + f.val < 4096) :
    View.ld x (Rect.unit (s := S1024x4096) ![0, o] S1024x1024.size h) (ix2 k f) = x (ix2 k ⟨o + f.val, hf⟩) := by
  simp only [pointwise]
  exact congrArg x (congrArg₂ ix2 (Fin.ext (by show 0 + 1 * k.val = k.val; omega)) (Fin.ext (by show o + 1 * f.val = o + f.val; omega)))

/-- A run of 1024 rows of the down weights. -/
theorem ldd (x : Vec Ideal S4096x1024 .bf16) (o : ℕ) (h : ∀ a, ![o, 0] a + S1024x1024.size a ≤ S4096x1024.size a) (f d : Fin 1024) (hf : o + f.val < 4096) :
    View.ld x (Rect.unit (s := S4096x1024) ![o, 0] S1024x1024.size h) (ix2 f d) = x (ix2 ⟨o + f.val, hf⟩ d) := by
  simp only [pointwise]
  exact congrArg x (congrArg₂ ix2 (Fin.ext (by show o + 1 * f.val = o + f.val; omega)) (Fin.ext (by show 0 + 1 * d.val = d.val; omega)))

/-- The offset of a whole block. -/
theorem hz2 : (![0, 0] : Fin 2 → Nat) = fun _ => 0 := funext fun a => by fin_cases a <;> rfl
/-- A load of a whole block. -/
theorem ldr0 (x : Vec Ideal S512x512 .bf16) : View.ld x r0_0 = x := View.ld_unit_zero hz2 _ _
/-- A load of a whole block. -/
theorem ldr0' (x : Vec Ideal S512x512 .f32) : View.ld x r0_0 = x := View.ld_unit_zero hz2 _ _
/-- A load of a whole block. -/
theorem ldr1 (x : Vec Ideal S1x512 .f32) : View.ld x r0_1 = x := View.ld_unit_zero hz2 _ _
/-- A load of a whole block. -/
theorem ldr2 (x : Vec Ideal S512x1024 .f32) : View.ld x r0_2 = x := View.ld_unit_zero hz2 _ _
/-- A load of a whole block. -/
theorem ldr3 (x : Vec Ideal S1024x1024 .bf16) : View.ld x r0_3 = x := View.ld_unit_zero hz2 _ _
/-- A load of a whole block. -/
theorem ldr4 (x : Vec Ideal S1x1024 .f32) : View.ld x r0_4 = x := View.ld_unit_zero hz2 _ _

/-- The kernel's payload over its loaded pieces, row by row, for any up and down weights the pieces are the runs of. -/
theorem out_core (x0 : Vec Ideal S512x1024 .f32) (x1 : Vec Ideal S512x512 .bf16) (x2 : Vec Ideal S512x512 .f32) (x3 : Vec Ideal S1x512 .f32) (x4 : Vec Ideal S1024x1024 .bf16)
    (x5 x8 : Vec Ideal S1x1024 .f32) (wu : Fin 1024 → Fin 4096 → EReal) (wd : Fin 4096 → Fin 1024 → EReal) (u0 u1 u2 u3 d0 d1 d2 d3 : Vec Ideal S1024x1024 .bf16)
    (hu0 : ∀ k f, u0 (ix2 k f) = wu k ⟨0 + f.val, by omega⟩) (hd0 : ∀ f k, d0 (ix2 f k) = wd ⟨0 + f.val, by omega⟩ k)
    (hu1 : ∀ k f, u1 (ix2 k f) = wu k ⟨1024 + f.val, by omega⟩) (hd1 : ∀ f k, d1 (ix2 f k) = wd ⟨1024 + f.val, by omega⟩ k)
    (hu2 : ∀ k f, u2 (ix2 k f) = wu k ⟨2048 + f.val, by omega⟩) (hd2 : ∀ f k, d2 (ix2 f k) = wd ⟨2048 + f.val, by omega⟩ k)
    (hu3 : ∀ k f, u3 (ix2 k f) = wu k ⟨3072 + f.val, by omega⟩) (hd3 : ∀ f k, d3 (ix2 f k) = wd ⟨3072 + f.val, by omega⟩ k)
    (r : Fin 512) (d : Fin 1024) :
    k0_pay1 (F := Ideal) (k0_pay4 (k0_pay3 x2 x3 x1 x0 x4 x5)) (k0_pay5 (k0_pay2 x2 x3 x1 x0 x4) (k0_pay3 x2 x3 x1 x0 x4 x5) u0 d0 u1 d1 u2 d2) (k0_pay6 u3) (constant S512x1024 .f32 0x00000000#32) d3 x8 (ix2 r d)
      = outRow (fun k => x0 (ix2 r k)) (fun k => x1 (ix2 r k)) (rmsA (fun k => x2 (ix2 r k)) (fun k => x3 (ix2 0 k))) (fun e k => x4 (ix2 e k)) (fun k => x5 (ix2 0 k))
          wu wd (fun k => x8 (ix2 0 k)) d := by
  rw [pay1_apply]
  unfold outRow
  refine congrArg (fun h => rms h (fun k => x8 (ix2 0 k)) d) (funext fun e => ?_)
  rw [pay5_apply]
  simp only [hu0, hu1, hu2, hu3, hd0, hd1, hd2, hd3, pay3_apply, pay2_apply]
  exact mlp_four (mixed (fun k => x0 (ix2 r k)) (fun k => x1 (ix2 r k)) (rmsA (fun k => x2 (ix2 r k)) (fun k => x3 (ix2 0 k))) (fun e k => x4 (ix2 e k)))
    (rms (mixed (fun k => x0 (ix2 r k)) (fun k => x1 (ix2 r k)) (rmsA (fun k => x2 (ix2 r k)) (fun k => x3 (ix2 0 k))) (fun e k => x4 (ix2 e k))) (fun k => x5 (ix2 0 k)))
    wu wd e (fun j => run _ (fun k f => wu k ⟨1024 * j.val + f.val, by omega⟩) (fun f e => wd ⟨1024 * j.val + f.val, by omega⟩ e) e) (fun j => rfl)

/-- A block of the output array from the input blocks: each row is the row function of the blocks' rows. -/
theorem out_apply (x0 : Vec Ideal S512x1024 .f32) (x1 : Vec Ideal S512x512 .bf16) (x2 : Vec Ideal S512x512 .f32) (x3 : Vec Ideal S1x512 .f32) (x4 : Vec Ideal S1024x1024 .bf16)
    (x5 : Vec Ideal S1x1024 .f32) (x6 : Vec Ideal S1024x4096 .bf16) (x7 : Vec Ideal S4096x1024 .bf16) (x8 : Vec Ideal S1x1024 .f32) (r : Fin 512) (d : Fin 1024) :
    out0_9 (F := Ideal) x0 x1 x2 x3 x4 x5 x6 x7 x8 (ix2 r d)
      = outRow (fun k => x0 (ix2 r k)) (fun k => x1 (ix2 r k)) (rmsA (fun k => x2 (ix2 r k)) (fun k => x3 (ix2 0 k))) (fun e k => x4 (ix2 e k)) (fun k => x5 (ix2 0 k))
          (fun k f => x6 (ix2 k f)) (fun f k => x7 (ix2 f k)) (fun k => x8 (ix2 0 k)) d := by
  unfold out0_9 k0_pay7
  rw [View.canon_unit_zero hz2, ldr0, ldr0', ldr1, ldr2, ldr3, ldr4, ldr4]
  exact out_core x0 x1 x2 x3 x4 x5 x8 (fun k f => x6 (ix2 k f)) (fun f k => x7 (ix2 f k)) _ _ _ _ _ _ _ _
    (fun k f => ldu x6 0 _ k f _) (fun f k => ldd x7 0 _ f k _) (fun k f => ldu x6 1024 _ k f _) (fun f k => ldd x7 1024 _ f k _)
    (fun k f => ldu x6 2048 _ k f _) (fun f k => ldd x7 2048 _ f k _) (fun k f => ldu x6 3072 _ k f _) (fun f k => ldd x7 3072 _ f k _) r d

/-- The output array as one function of the arguments: row `i` is the row function of token `i`'s rows. -/
def G (x : S4x4096x1024.Idx → EReal) (p a : S4x4096x512.Idx → EReal) (ga : S512.Idx → EReal) (w : S1024x1024.Idx → EReal) (g2 : S1024.Idx → EReal)
    (wu : S1024x4096.Idx → EReal) (wd : S4096x1024.Idx → EReal) (fg : S1024.Idx → EReal) : S16384x1024.Idx → EReal := fun i =>
  outRow (fun k => x (ix3 ⟨(i 0).val / 4096, Nat.div_lt_of_lt_mul (i 0).isLt⟩ ⟨(i 0).val % 4096, Nat.mod_lt _ (by decide)⟩ k))
    (fun k => p (ix3 ⟨(i 0).val / 4096, Nat.div_lt_of_lt_mul (i 0).isLt⟩ ⟨(i 0).val % 4096, Nat.mod_lt _ (by decide)⟩ k))
    (rmsA (fun k => a (ix3 ⟨(i 0).val / 4096, Nat.div_lt_of_lt_mul (i 0).isLt⟩ ⟨(i 0).val % 4096, Nat.mod_lt _ (by decide)⟩ k)) (fun k => ga (ix1 k)))
    (fun e k => w (ix2 e k)) (fun k => g2 (ix1 k)) (fun k f => wu (ix2 k f)) (fun f k => wd (ix2 f k)) (fun k => fg (ix1 k)) (i 1)

end Cert.Proof.Tail
-- ==== Proof.TailValue.lean ====
/-
  From blocks to the array: the fourth program's output array is `G` of its arguments.
-/
module

public import proofs.«01_k».proof.Proof.TailKernel

@[expose] public section

noncomputable section

namespace Cert.Proof.Tail
open Idealize.ShloMosaic Idealize.ShloMosaic.TcCoe Cert.Kernel4Ideal Cert.Kernel4Ideal.Gen

variable (m : (ℓ : Loc nD τ sig) → Buf (Elt Ideal) ℓ)

/-- What the host part hands the call here. -/
theorem V0 (c : Dev nD) : V m c main_v0 = shapeCast S16384x1024 (m ((c : Thread nD τ).loc main_arg0)) shapeCasts_S4x4096x1024_S16384x1024 := by
  dsimp only [V]; simp only [hostOps0]; after_results_simp <;> rfl
/-- What the host part hands the call here. -/
theorem V2 (c : Dev nD) : V m c main_v2 = shapeCast S16384x512 (m ((c : Thread nD τ).loc main_arg1)) shapeCasts_S4x4096x512_S16384x512 := by
  dsimp only [V]; simp only [hostOps0]; after_results_simp <;> rfl
/-- What the host part hands the call here. -/
theorem V3 (c : Dev nD) : V m c main_v3 = shapeCast S16384x512 (m ((c : Thread nD τ).loc main_arg2)) shapeCasts_S4x4096x512_S16384x512 := by
  dsimp only [V]; simp only [hostOps0]; after_results_simp <;> rfl
/-- What the host part hands the call here. -/
theorem V4 (c : Dev nD) : V m c main_v4 = m ((c : Thread nD τ).loc main_arg4) := by
  dsimp only [V]; simp only [hostOps0]; after_results_simp <;> rfl
/-- What the host part hands the call here. -/
theorem V5 (c : Dev nD) : V m c main_v5 = m ((c : Thread nD τ).loc main_arg6) := by
  dsimp only [V]; simp only [hostOps0]; after_results_simp <;> rfl
/-- What the host part hands the call here. -/
theorem V6 (c : Dev nD) : V m c main_v6 = m ((c : Thread nD τ).loc main_arg7) := by
  dsimp only [V]; simp only [hostOps0]; after_results_simp <;> rfl
/-- What the host part hands the call here. -/
theorem V7 (c : Dev nD) : V m c main_v7 = shapeCast S1x512 (m ((c : Thread nD τ).loc main_arg3)) shapeCasts_S512_S1x512 := by
  dsimp only [V]; simp only [hostOps0]; after_results_simp <;> rfl
/-- What the host part hands the call here. -/
theorem V8 (c : Dev nD) : V m c main_v8 = shapeCast S1x1024 (m ((c : Thread nD τ).loc main_arg5)) shapeCasts_S1024_S1x1024 := by
  dsimp only [V]; simp only [hostOps0]; after_results_simp <;> rfl
/-- What the host part hands the call here. -/
theorem V9 (c : Dev nD) : V m c main_v9 = shapeCast S1x1024 (m ((c : Thread nD τ).loc main_arg8)) shapeCasts_S1024_S1x1024 := by
  dsimp only [V]; simp only [hostOps0]; after_results_simp <;> rfl
/-- Where window 0's block starts at each point. -/
theorem e0 : ∀ t : Fin cfg0.N, win0_0.index t = ![t.val, 0] := (by decide +kernel : ∀ t : Fin grid0.N, win0_0.index t = ![t.val, 0])
/-- Where window 1's block starts at each point. -/
theorem e1 : ∀ t : Fin cfg0.N, win0_1.index t = ![t.val, 0] := (by decide +kernel : ∀ t : Fin grid0.N, win0_1.index t = ![t.val, 0])
/-- Where window 2's block starts at each point. -/
theorem e2 : ∀ t : Fin cfg0.N, win0_2.index t = ![t.val, 0] := (by decide +kernel : ∀ t : Fin grid0.N, win0_2.index t = ![t.val, 0])
/-- Where window 3's block starts at each point. -/
theorem e3 : ∀ t : Fin cfg0.N, win0_3.index t = ![0, 0] := (by decide +kernel : ∀ t : Fin grid0.N, win0_3.index t = ![0, 0])
/-- Where window 4's block starts at each point. -/
theorem e4 : ∀ t : Fin cfg0.N, win0_4.index t = ![0, 0] := (by decide +kernel : ∀ t : Fin grid0.N, win0_4.index t = ![0, 0])
/-- Where window 5's block starts at each point. -/
theorem e5 : ∀ t : Fin cfg0.N, win0_5.index t = ![0, 0] := (by decide +kernel : ∀ t : Fin grid0.N, win0_5.index t = ![0, 0])
/-- Where window 6's block starts at each point. -/
theorem e6 : ∀ t : Fin cfg0.N, win0_6.index t = ![0, 0] := (by decide +kernel : ∀ t : Fin grid0.N, win0_6.index t = ![0, 0])
/-- Where window 7's block starts at each point. -/
theorem e7 : ∀ t : Fin cfg0.N, win0_7.index t = ![0, 0] := (by decide +kernel : ∀ t : Fin grid0.N, win0_7.index t = ![0, 0])
/-- Where window 8's block starts at each point. -/
theorem e8 : ∀ t : Fin cfg0.N, win0_8.index t = ![0, 0] := (by decide +kernel : ∀ t : Fin grid0.N, win0_8.index t = ![0, 0])
/-- Where window 9's block starts at each point. -/
theorem e9 : ∀ t : Fin cfg0.N, win0_9.index t = ![t.val, 0] := (by decide +kernel : ∀ t : Fin grid0.N, win0_9.index t = ![t.val, 0])

/-- A block that is whole at every point. -/
theorem b4 (c : Dev nD) (t : Fin cfg0.N) (e : Fin 1024) (k : Fin 1024) : iblk m c 4 t (ix2 e k) = m ((c : Thread nD τ).loc main_arg4) (ix2 e k) := by
  rw [← V4 m c]
  blk_simp [iblk]
  exact congrArg _ (by blk_ext [e4 t])

/-- A block that is whole at every point. -/
theorem b6 (c : Dev nD) (t : Fin cfg0.N) (e : Fin 1024) (k : Fin 4096) : iblk m c 6 t (ix2 e k) = m ((c : Thread nD τ).loc main_arg6) (ix2 e k) := by
  rw [← V5 m c]
  blk_simp [iblk]
  exact congrArg _ (by blk_ext [e6 t])

/-- A block that is whole at every point. -/
theorem b7 (c : Dev nD) (t : Fin cfg0.N) (e : Fin 4096) (k : Fin 1024) : iblk m c 7 t (ix2 e k) = m ((c : Thread nD τ).loc main_arg7) (ix2 e k) := by
  rw [← V6 m c]
  blk_simp [iblk]
  exact congrArg _ (by blk_ext [e7 t])

/-- A gain reshaped to one row, read lane by lane. -/
theorem scA (f : S512.Idx → EReal) (k : Fin 512) : shapeCast S1x512 f shapeCasts_S512_S1x512 (ix2 0 k) = f (ix1 k) := by
  refine shapeCast_apply _ _ _ _ ?_
  rw [Shape.rowMajor_val_one, Shape.rowMajor_val_two]
  simp [ix1, ix2]

/-- A gain reshaped to one row, read lane by lane. -/
theorem sc1 (f : S1024.Idx → EReal) (k : Fin 1024) : shapeCast S1x1024 f shapeCasts_S1024_S1x1024 (ix2 0 k) = f (ix1 k) := by
  refine shapeCast_apply _ _ _ _ ?_
  rw [Shape.rowMajor_val_one, Shape.rowMajor_val_two]
  simp [ix1, ix2]

/-- A block that is whole at every point. -/
theorem b3 (c : Dev nD) (t : Fin cfg0.N) (k : Fin 512) : iblk m c 3 t (ix2 0 k) = m ((c : Thread nD τ).loc main_arg3) (ix1 k) := by
  rw [← scA (m ((c : Thread nD τ).loc main_arg3)) k, ← V7 m c]
  blk_simp [iblk]
  exact congrArg _ (by blk_ext [e3 t])

/-- A block that is whole at every point. -/
theorem b5 (c : Dev nD) (t : Fin cfg0.N) (k : Fin 1024) : iblk m c 5 t (ix2 0 k) = m ((c : Thread nD τ).loc main_arg5) (ix1 k) := by
  rw [← sc1 (m ((c : Thread nD τ).loc main_arg5)) k, ← V8 m c]
  blk_simp [iblk]
  exact congrArg _ (by blk_ext [e5 t])

/-- A block that is whole at every point. -/
theorem b8 (c : Dev nD) (t : Fin cfg0.N) (k : Fin 1024) : iblk m c 8 t (ix2 0 k) = m ((c : Thread nD τ).loc main_arg8) (ix1 k) := by
  rw [← sc1 (m ((c : Thread nD τ).loc main_arg8)) k, ← V9 m c]
  blk_simp [iblk]
  exact congrArg _ (by blk_ext [e8 t])
/-- The residual tokens as rows. -/
theorem sc1024 (f : S4x4096x1024.Idx → EReal) (i : Fin 16384) (k : Fin 1024) : shapeCast S16384x1024 f shapeCasts_S4x4096x1024_S16384x1024 (ix2 i k)
    = f (ix3 ⟨i.val / 4096, Nat.div_lt_of_lt_mul i.isLt⟩ ⟨i.val % 4096, Nat.mod_lt _ (by decide)⟩ k) := by
  refine shapeCast_apply _ _ _ _ ?_
  rw [Shape.rowMajor_val_three, Shape.rowMajor_val_two]
  simp [ix2, ix3]
  omega

/-- Row `r` of point `t`'s block of array 0 is the row of token `512 t + r`. -/
theorem b0 (c : Dev nD) (t : Fin cfg0.N) (r : Fin 512) (k : Fin 1024) (i : Fin 16384) (hi : i.val = 512 * t.val + r.val) :
    iblk m c 0 t (ix2 r k) = m ((c : Thread nD τ).loc main_arg0) (ix3 ⟨i.val / 4096, Nat.div_lt_of_lt_mul i.isLt⟩ ⟨i.val % 4096, Nat.mod_lt _ (by decide)⟩ k) := by
  rw [← sc1024 (m ((c : Thread nD τ).loc main_arg0)) i k]
  refine Eq.trans ?_ (congrFun (V0 m c) (ix2 i k))
  blk_simp [iblk]
  exact congrArg (V m c main_v0) (by blk_ext [e0 t]; all_goals simp [ix2]; try omega)

/-- The mixers' tokens as rows. -/
theorem sc512 (f : S4x4096x512.Idx → EReal) (i : Fin 16384) (k : Fin 512) : shapeCast S16384x512 f shapeCasts_S4x4096x512_S16384x512 (ix2 i k)
    = f (ix3 ⟨i.val / 4096, Nat.div_lt_of_lt_mul i.isLt⟩ ⟨i.val % 4096, Nat.mod_lt _ (by decide)⟩ k) := by
  refine shapeCast_apply _ _ _ _ ?_
  rw [Shape.rowMajor_val_three, Shape.rowMajor_val_two]
  simp [ix2, ix3]
  omega

/-- Row `r` of point `t`'s block of array 1 is the row of token `512 t + r`. -/
theorem b1 (c : Dev nD) (t : Fin cfg0.N) (r : Fin 512) (k : Fin 512) (i : Fin 16384) (hi : i.val = 512 * t.val + r.val) :
    iblk m c 1 t (ix2 r k) = m ((c : Thread nD τ).loc main_arg1) (ix3 ⟨i.val / 4096, Nat.div_lt_of_lt_mul i.isLt⟩ ⟨i.val % 4096, Nat.mod_lt _ (by decide)⟩ k) := by
  rw [← sc512 (m ((c : Thread nD τ).loc main_arg1)) i k]
  refine Eq.trans ?_ (congrFun (V2 m c) (ix2 i k))
  blk_simp [iblk]
  exact congrArg (V m c main_v2) (by blk_ext [e1 t]; all_goals simp [ix2]; try omega)

/-- Row `r` of point `t`'s block of array 2 is the row of token `512 t + r`. -/
theorem b2 (c : Dev nD) (t : Fin cfg0.N) (r : Fin 512) (k : Fin 512) (i : Fin 16384) (hi : i.val = 512 * t.val + r.val) :
    iblk m c 2 t (ix2 r k) = m ((c : Thread nD τ).loc main_arg2) (ix3 ⟨i.val / 4096, Nat.div_lt_of_lt_mul i.isLt⟩ ⟨i.val % 4096, Nat.mod_lt _ (by decide)⟩ k) := by
  rw [← sc512 (m ((c : Thread nD τ).loc main_arg2)) i k]
  refine Eq.trans ?_ (congrFun (V3 m c) (ix2 i k))
  blk_simp [iblk]
  exact congrArg (V m c main_v3) (by blk_ext [e2 t]; all_goals simp [ix2]; try omega)

/-- The output array is `G` of the arguments: every block of 512 tokens is `G`'s rows there. -/
theorem final (c : Dev nD) : (dats m 0 c).arrAt 9 cfg0.N = G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (m ((c : Thread nD τ).loc main_arg7))
    (m ((c : Thread nD τ).loc main_arg8)) := by
  refine (dats m 0 c).arrAt_eq_of_covers 9 _ (by decide +kernel) fun t hf y => ?_
  blk_simp
  rw [after0_9]
  have ht : t.val < 32 := t.isLt
  have hy : ∃ (r : Fin 512) (d : Fin 1024), y = ix2 r d := ⟨y 0, y 1, by funext a; match a with | ⟨0, _⟩ => rfl | ⟨1, _⟩ => rfl⟩
  obtain ⟨r, d, rfl⟩ := hy
  have he : (win0_9.blk t).view.emb (ix2 r d) = ix2 ⟨512 * t.val + r.val, by omega⟩ d := by
    blk_ext [e9 t]; all_goals simp [ix2]; try omega
  rw [he]
  refine (out_apply (iblk m c 0 t) (iblk m c 1 t) (iblk m c 2 t) (iblk m c 3 t) (iblk m c 4 t) (iblk m c 5 t) (iblk m c 6 t) (iblk m c 7 t) (iblk m c 8 t) r d).trans ?_
  simp only [b3, b4, b5, b6, b7, b8, fun k => b0 m c t r k ⟨512 * t.val + r.val, by omega⟩ rfl,
    fun k => b1 m c t r k ⟨512 * t.val + r.val, by omega⟩ rfl, fun k => b2 m c t r k ⟨512 * t.val + r.val, by omega⟩ rfl]
  rfl

end Cert.Proof.Tail
-- ==== Proof.TailRef.lean ====
/-
  The reference's value: the host array the fourth reference returns is `G` of its arguments.
-/
module

public import proofs.«01_k».proof.Proof.TailKernel
public import proofs.«01_k».proof.Proof.MlpRef
public import proofs.«01_k».proof.Proof.Gen.Reference4Ideal.Read
public import Idealize.ShloMosaic.Lib.Pointwise

@[expose] public section

noncomputable section

namespace Cert.Proof.Tail
open Idealize.ShloMosaic Idealize.ShloMosaic.TcCoe Cert.Reference4Ideal Cert.Reference4Ideal.Read
open Cert.Proof.Mlp (rms mixed hid mlp outRow)

variable (x : S4x4096x1024.Idx → EReal) (p a : S4x4096x512.Idx → EReal) (ga : S512.Idx → EReal) (w : S1024x1024.Idx → EReal) (g2 : S1024.Idx → EReal)
    (wu : S1024x4096.Idx → EReal) (wd : S4096x1024.Idx → EReal) (fg : S1024.Idx → EReal) (b : Fin 4) (s : Fin 4096)

local notation "A₁" => rmsA (fun k => a (ix3 b s k)) (fun k => ga (ix1 k))

/-- A row's squares added, divided, and put under the root: the reference's steps are `rmsA`. -/
theorem rmsA_steps (h g : Fin 512 → EReal) (sq : Fin 512 → EReal) (hsq : ∀ k, sq k = h k * h k) (d : Fin 512) :
    FloatOps.mulf (F := Ideal) (φ := .f32) (FloatOps.mulf (F := Ideal) (φ := .f32) (h d) (FloatOps.hostUnary (F := Ideal) (φ := .f32) .rsqrt (FloatOps.addf (F := Ideal) (φ := .f32)
      (FloatOps.hostDivf (F := Ideal) (φ := .f32) (Ideal.ofBits .f32 0x00000000#32 + ∑ k, sq k) (Ideal.ofBits .f32 0x44000000#32)) (Ideal.ofBits .f32 0x358637BD#32)))) (g d)
      = rmsA h g d := by
  rw [Ideal.ofBits_zero_f32, zero_add, Finset.sum_congr rfl (fun k _ => hsq k)]
  rfl

/-- The attention's normed row. -/
theorem r12 (d : Fin 512) : val_main_v12 (F := Ideal) a ga (ix3 b s d) = A₁ d := by
  rw [val_main_v12_apply, val_main_v9_apply, val_main_v8_apply, val_main_v7_apply, val_main_v6_apply, val_main_v4_apply,
    val_main_v2_apply, val_main_v1_apply, val_main_v11_apply, val_main_v10_apply]
  have hg : idx_main_v10 (idx_main_v11 (ix3 b s d)) = ix1 d := funext fun q => by fin_cases q; rfl
  rw [hg]
  exact rmsA_steps (fun k => a (ix3 b s k)) (fun k => ga (ix1 k)) (fun k => val_main_v0 (F := Ideal) a (idx_main_v1 (idx_main_v2 (idx_main_v8 (ix3 b s d))) k)) (fun k => by
    have hk : idx_main_v1 (idx_main_v2 (idx_main_v8 (ix3 b s d))) k = ix3 b s k := funext fun q => by fin_cases q <;> rfl
    rw [hk, val_main_v0_apply]; rfl) d

/-- The pooling mixer's half of the concatenated mixers. -/
theorem r13l (k : Fin 512) : val_main_v13 (F := Ideal) p a ga (ix3 b s ⟨k.val, by omega⟩) = p (ix3 b s k) := by
  unfold val_main_v13
  simp [pointwise]
/-- The attention's half of the concatenated mixers. -/
theorem r13r (k : Fin 512) : val_main_v13 (F := Ideal) p a ga (ix3 b s ⟨512 + k.val, by omega⟩) = A₁ k := by
  rw [← r12]
  unfold val_main_v13
  generalize val_main_v12 (F := Ideal) a ga = y
  simp [pointwise]

/-- The residual stream after the output projection. -/
theorem r15 (d : Fin 1024) : val_main_v15 (F := Ideal) x p a ga w (ix3 b s d)
    = mixed (fun k => x (ix3 b s k)) (fun k => p (ix3 b s k)) A₁ (fun e k => w (ix2 e k)) d := by
  rw [val_main_v15_apply, val_main_v14_apply]
  refine congrArg (x (ix3 b s d) + ·) ?_
  refine (Fin.sum_univ_add (a := 512) (b := 512) _).trans ?_
  refine congrArg₂ (· + ·) (Finset.sum_congr rfl fun k _ => congrArg₂ (· * ·) (Eq.trans ?_ (r13l p a ga b s k)) ?_)
    (Finset.sum_congr rfl fun k _ => congrArg₂ (· * ·) (Eq.trans ?_ (r13r p a ga b s k)) ?_)
  all_goals first | rfl | (refine congrArg _ (funext fun q => ?_); fin_cases q <;> rfl)

/-- The normed row before the MLP. -/
theorem r28 (d : Fin 1024) : val_main_v28 (F := Ideal) x p a ga w g2 (ix3 b s d)
    = rms (mixed (fun k => x (ix3 b s k)) (fun k => p (ix3 b s k)) A₁ (fun e k => w (ix2 e k))) (fun k => g2 (ix1 k)) d := by
  rw [val_main_v28_apply, val_main_v25_apply, val_main_v24_apply, val_main_v23_apply, val_main_v22_apply, val_main_v20_apply,
    val_main_v18_apply, val_main_v17_apply, val_main_v27_apply, val_main_v26_apply, r15]
  have hg : idx_main_v26 (idx_main_v27 (ix3 b s d)) = ix1 d := funext fun q => by fin_cases q; rfl
  rw [hg]
  exact Cert.Proof.Mlp.rms_steps _ (fun k => g2 (ix1 k)) (fun k => val_main_v16 (F := Ideal) x p a ga w (idx_main_v17 (idx_main_v18 (idx_main_v24 (ix3 b s d))) k)) (fun k => by
    have hk : idx_main_v17 (idx_main_v18 (idx_main_v24 (ix3 b s d))) k = ix3 b s k := funext fun q => by fin_cases q <;> rfl
    rw [hk, val_main_v16_apply, r15]; rfl) d

local notation "H₁" => mixed (fun k => x (ix3 b s k)) (fun k => p (ix3 b s k)) A₁ (fun e k => w (ix2 e k))
local notation "H₂" => mlp H₁ (rms H₁ (fun k => g2 (ix1 k))) (fun k f => wu (ix2 k f)) (fun f k => wd (ix2 f k))

/-- A hidden unit after the ramp, before squaring. -/
theorem r30 (f : Fin 4096) : val_main_v30 (F := Ideal) x p a ga w g2 wu (ix3 b s f) = hid (rms H₁ (fun k => g2 (ix1 k))) (fun k f => wu (ix2 k f)) f := by
  rw [val_main_v30_apply, val_main_v29_apply, val_main_call0_v0_apply, val_main_call0_cst_apply]
  refine congrArg₂ max (Finset.sum_congr rfl fun k _ => congrArg₂ (· * ·) (Eq.trans ?_ (r28 x p a ga w g2 b s k)) ?_) Ideal.ofBits_zero_f32
  all_goals (refine congrArg _ (funext fun q => ?_); fin_cases q <;> rfl)

/-- The residual stream after the MLP. -/
theorem r33 (d : Fin 1024) : val_main_v33 (F := Ideal) x p a ga w g2 wu wd (ix3 b s d) = H₂ d := by
  rw [val_main_v33_apply, val_main_v32_apply, r15]
  refine congrArg (H₁ d + ·) (Finset.sum_congr rfl fun f _ => congrArg₂ (· * ·) ?_ ?_)
  · have hk : lidx_main_v32 (ix3 b s d) f = ix3 b s f := funext fun q => by fin_cases q <;> rfl
    rw [hk, val_main_v31_apply, r30]; rfl
  · refine congrArg _ (funext fun q => ?_); fin_cases q <;> rfl

/-- The final norm of the row. -/
theorem r46 (d : Fin 1024) : val_main_v46 (F := Ideal) x p a ga w g2 wu wd fg (ix3 b s d) = rms H₂ (fun k => fg (ix1 k)) d := by
  rw [val_main_v46_apply, val_main_v43_apply, val_main_v42_apply, val_main_v41_apply, val_main_v40_apply, val_main_v38_apply,
    val_main_v36_apply, val_main_v35_apply, val_main_v45_apply, val_main_v44_apply, r33]
  have hg : idx_main_v44 (idx_main_v45 (ix3 b s d)) = ix1 d := funext fun q => by fin_cases q; rfl
  rw [hg]
  exact Cert.Proof.Mlp.rms_steps _ (fun k => fg (ix1 k)) (fun k => val_main_v34 (F := Ideal) x p a ga w g2 wu wd (idx_main_v35 (idx_main_v36 (idx_main_v42 (ix3 b s d))) k)) (fun k => by
    have hk : idx_main_v35 (idx_main_v36 (idx_main_v42 (ix3 b s d))) k = ix3 b s k := funext fun q => by fin_cases q <;> rfl
    rw [hk, val_main_v34_apply, r33]; rfl) d

/-- The reference's array is `G` of its arguments. -/
theorem ref_eq : val_main_v47 (F := Ideal) x p a ga w g2 wu wd fg = G x p a ga w g2 wu wd fg := by
  funext i
  have hi : idx_main_v47 i = ix3 ⟨(i 0).val / 4096, Nat.div_lt_of_lt_mul (i 0).isLt⟩ ⟨(i 0).val % 4096, Nat.mod_lt _ (by decide)⟩ (i 1) := by
    have h0 : (i 0).val < 16384 := (i 0).isLt
    have h1 : (i 1).val < 1024 := (i 1).isLt
    funext q
    fin_cases q <;> refine Fin.ext ?_
    · show ((i 0).val * 1024 + (i 1).val) / 4194304 = (i 0).val / 4096; omega
    · show ((i 0).val * 1024 + (i 1).val) / 1024 % 4096 = (i 0).val % 4096; omega
    · show ((i 0).val * 1024 + (i 1).val) % 1024 = (i 1).val; omega
  rw [val_main_v47_apply]
  exact (congrArg _ hi).trans (r46 x p a ga w g2 wu wd fg _ _ _)

end Cert.Proof.Tail
-- ==== Proof.lean ====
module

public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_qk
public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.MlpValue
public import proofs.«01_k».proof.Proof.MlpRef
public import proofs.«01_k».proof.Proof.InpValue
public import proofs.«01_k».proof.Proof.InpPoolValue
public import proofs.«01_k».proof.Proof.InpRef
public import proofs.«01_k».proof.Proof.InpFinite
public import proofs.«01_k».proof.Proof.AttnValue
public import proofs.«01_k».proof.Proof.AttnRef
public import proofs.«01_k».proof.Proof.TailValue
public import proofs.«01_k».proof.Proof.TailRef
public import Idealize.ShloMosaic.Adequacy
public import Idealize.ShloMosaic.Init

@[expose] public section

noncomputable section

namespace Cert.Proof

open Idealize.ShloMosaic Idealize.SL.Sem Cert.Kernel2

/-- The second reference runs, keeps its arguments, and leaves no semaphore raised. -/
theorem frame_Reference2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- Output projection, MLP and norm: kernel and reference return the same array. -/
theorem algebraic2 : Cert.algebraic_Kernel2Ideal_Reference2Ideal := fun m ρ m' ρ' _ hag => by
  refine ⟨fun c => Mlp.G (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))
    (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))
    (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)), ?_, ?_⟩
  · exact (θ_run Cert.Kernel2Ideal.defs _ _).mono (fun r h c => ⟨(h c).1.trans (Mlp.final m c), (h c).2⟩) (Cert.Kernel2Ideal.Value.run_blocks m ρ)
  · refine (θ_run Cert.Reference2Ideal.defs _ _).mono (fun r h c => ⟨(h c).1.trans ?_, (h c).2⟩) (Cert.Reference2Ideal.Value.run (F := Ideal) m' ρ')
    obtain ⟨h0, h1, h2, h3, h4, h5, h6, h7⟩ := hag c
    rw [Cert.Reference2Ideal.Read.val_main_v34_eq, Mlp.ref_eq, h0, h1, h2, h3, h4, h5, h6, h7]

/-- The first call's reference runs, keeps its arguments, and leaves no semaphore raised. -/
theorem frame_Reference3 : Cert.quiescent_Reference3Ideal := fun m ρ _ =>
  (θ_run Cert.Reference3Ideal.defs _ _).mono (fun r h => ⟨fun c => (h c).2.2.2.2.2.2.2, Idealize.ShloMosaic.sem_eq_zero_of_no_sems (by decide) r.2⟩)
    (Cert.Reference3Ideal.Value.run (F := Ideal) m ρ)

/-- The same under the precondition. -/
theorem frame_Reference3_finite : Cert.quiescent_Reference3Ideal_pre_finite := fun m ρ _ => frame_Reference3 m ρ trivial

/-- Norm, input projection and pooled mixer: kernel and reference return the same seven arrays. -/
theorem algebraic3 : Cert.algebraic_Kernel3Ideal_Reference3Ideal_pre_finite := fun m ρ m' ρ' hpre hag => by
  refine ⟨fun c => Inp.Gpool (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)),
    fun c => Inp.Gq (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => Inp.Gcols (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) 1024,
    fun c => Inp.Gcols (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) 1536,
    fun c => m ((c.tc : Thread Cert.Kernel3Ideal.nD Cert.Kernel3Ideal.τ).loc Cert.Kernel3Ideal.main_arg6), fun c => m ((c.tc : Thread Cert.Kernel3Ideal.nD Cert.Kernel3Ideal.τ).loc Cert.Kernel3Ideal.main_arg7), fun c => m ((c.tc : Thread Cert.Kernel3Ideal.nD Cert.Kernel3Ideal.τ).loc Cert.Kernel3Ideal.main_arg8), ?_, ?_⟩
  · exact (θ_run Cert.Kernel3Ideal.defs _ _).mono (fun r h c => ⟨(h c).1.trans (Inp.final9 m c), (h c).2.1.trans (Inp.final10 m c), (h c).2.2.1.trans (Inp.final11 m c),
      (h c).2.2.2.1.trans (Inp.final12 m c), (h c).2.2.2.2.1.trans (Inp.final13 m c), (h c).2.2.2.2.2.1.trans (Inp.final14 m c), (h c).2.2.2.2.2.2.1.trans (Inp.final15 m c), (h c).2.2.2.2.2.2.2⟩)
      (Cert.Kernel3Ideal.Value.run_blocks m ρ)
  · refine (θ_run Cert.Reference3Ideal.defs _ _).mono (fun r h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2.1.trans ?_, (h c).2.2.2.2.2.2.2⟩) (Cert.Reference3Ideal.Value.run (F := Ideal) m' ρ')
    all_goals obtain ⟨h0, h1, h2, h3, h4, h5, h6, h7, h8⟩ := hag c
    · obtain ⟨r1, r2⟩ := Inp.pre_real _ _ _ _ _ _ _ _ _ (hpre c)
      rw [Cert.Reference3Ideal.Read.val_main_v113_eq, h0, h1, h2, h3, h4, h5, Inp.ref_pool _ _ _ _ _ _ (Inp.urow_real _ _ _ r1 r2)]
    · rw [Cert.Reference3Ideal.Read.val_main_v114_eq, h0, h1, h2, Inp.ref_q]
    · rw [Cert.Reference3Ideal.Read.val_main_v115_eq, h0, h1, h2, Inp.ref_k]
    · rw [Cert.Reference3Ideal.Read.val_main_v116_eq, h0, h1, h2, Inp.ref_v]
    · rw [Cert.Reference3Ideal.Read.val_main_v117_eq, h6, Inp.ref_w6]
    · rw [Cert.Reference3Ideal.Read.val_main_v118_eq, h7, Inp.ref_w7]
    · rw [Cert.Reference3Ideal.Read.val_main_v119_eq, h8, Inp.ref_w8]

/-- The attention's reference runs, keeps its arguments, and leaves no semaphore raised. -/
theorem frame_Reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same under the precondition. -/
theorem frame_Reference_finite : Cert.quiescent_ReferenceIdeal_pre_finite_qk := fun m ρ _ => frame_Reference m ρ trivial

/-- Stick-breaking attention: kernel and reference return the same array for finite queries and keys. -/
theorem algebraic1 : Cert.algebraic_KernelIdeal_ReferenceIdeal_pre_finite_qk := fun m ρ m' ρ' hpre hag => by
  refine ⟨fun c => Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono (fun r h c => ⟨(h c).1.trans (Attn.final m c (Attn.pre_real _ _ _ (hpre c)).1 (Attn.pre_real _ _ _ (hpre c)).2), (h c).2⟩)
      (Cert.KernelIdeal.Value.run_blocks m ρ)
  · refine (θ_run Cert.ReferenceIdeal.defs _ _).mono (fun r h c => ⟨(h c).1.trans ?_, (h c).2⟩) (Cert.ReferenceIdeal.Value.run (F := Ideal) m' ρ')
    obtain ⟨h0, h1, h2⟩ := hag c
    obtain ⟨r1, r2⟩ := Attn.pre_real _ _ _ (hpre c)
    rw [Cert.ReferenceIdeal.Read.val_main_v26_eq, h0, h1, h2, Attn.ref_eq _ _ _ r1 r2]

/-- The fourth reference runs, keeps its arguments, and leaves no semaphore raised. -/
theorem frame_Reference4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The attention's norm, output projection, MLP and final norm: kernel and reference return the same array. -/
theorem algebraic4 : Cert.algebraic_Kernel4Ideal_Reference4Ideal := fun m ρ m' ρ' _ hag => by
  refine ⟨fun c => Tail.G (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))
    (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))
    (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)), ?_, ?_⟩
  · exact (θ_run Cert.Kernel4Ideal.defs _ _).mono (fun r h c => ⟨(h c).1.trans (Tail.final m c), (h c).2⟩) (Cert.Kernel4Ideal.Value.run_blocks m ρ)
  · refine (θ_run Cert.Reference4Ideal.defs _ _).mono (fun r h c => ⟨(h c).1.trans ?_, (h c).2⟩) (Cert.Reference4Ideal.Value.run (F := Ideal) m' ρ')
    obtain ⟨h0, h1, h2, h3, h4, h5, h6, h7, h8⟩ := hag c
    rw [Cert.Reference4Ideal.Read.val_main_v47_eq, Tail.ref_eq, h0, h1, h2, h3, h4, h5, h6, h7, h8]

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_qk.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_Reference, frame_Reference_finite,
  fun m ρ _ => Cert.Kernel2.Gen.frame m ρ, fun m ρ _ => Cert.Kernel2Ideal.Gen.frame m ρ, frame_Reference2,
  fun m ρ _ => Cert.Kernel3.Gen.frame m ρ, fun m ρ _ => Cert.Kernel3Ideal.Gen.frame m ρ, fun m ρ _ => Cert.Kernel3Ideal.Gen.frame m ρ,
  frame_Reference3, frame_Reference3_finite,
  fun m ρ _ => Cert.Kernel4.Gen.frame m ρ, fun m ρ _ => Cert.Kernel4Ideal.Gen.frame m ρ, frame_Reference4,
  trivial, algebraic1, trivial, algebraic2, trivial, algebraic3, trivial, algebraic4⟩

end Cert.Proof

end
